-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v37_0)) (v1 : (c : Dev Cert.Kernel4Ideal.nD) → Buf (Elt Ideal) ((c.tc : Thread Cert.Kernel4Ideal.nD Cert.Kernel4Ideal.τ).loc Cert.Kernel4Ideal.main_v37_1)) (v2 : (c : Dev Cert.Kernel4Ideal.nD) → Buf (Elt Ideal) ((c.tc : Thread Cert.Kernel4Ideal.nD Cert.Kernel4Ideal.τ).loc Cert.Kernel4Ideal.main_v37_2)) (v3 : (c : Dev Cert.Kernel4Ideal.nD) → Buf (Elt Ideal) ((c.tc : Thread Cert.Kernel4Ideal.nD Cert.Kernel4Ideal.τ).loc Cert.Kernel4Ideal.main_v37_3)) (v4 : (c : Dev Cert.Kernel4Ideal.nD) → Buf (Elt Ideal) ((c.tc : Thread Cert.Kernel4Ideal.nD Cert.Kernel4Ideal.τ).loc Cert.Kernel4Ideal.main_v37_4)) (v5 : (c : Dev Cert.Kernel4Ideal.nD) → Buf (Elt Ideal) ((c.tc : Thread Cert.Kernel4Ideal.nD Cert.Kernel4Ideal.τ).loc Cert.Kernel4Ideal.main_v37_5)) (v6 : (c : Dev Cert.Kernel4Ideal.nD) → Buf (Elt Ideal) ((c.tc : Thread Cert.Kernel4Ideal.nD Cert.Kernel4Ideal.τ).loc Cert.Kernel4Ideal.main_v37_6)) (v7 : (c : Dev Cert.Kernel4Ideal.nD) → Buf (Elt Ideal) ((c.tc : Thread Cert.Kernel4Ideal.nD Cert.Kernel4Ideal.τ).loc Cert.Kernel4Ideal.main_v37_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_0) = v0 c
          ∧ r.2.mem ((c.tc : Thread Cert.Kernel4Ideal.nD Cert.Kernel4Ideal.τ).loc Cert.Kernel4Ideal.main_v37_1) = v1 c
          ∧ r.2.mem ((c.tc : Thread Cert.Kernel4Ideal.nD Cert.Kernel4Ideal.τ).loc Cert.Kernel4Ideal.main_v37_2) = v2 c
          ∧ r.2.mem ((c.tc : Thread Cert.Kernel4Ideal.nD Cert.Kernel4Ideal.τ).loc Cert.Kernel4Ideal.main_v37_3) = v3 c
          ∧ r.2.mem ((c.tc : Thread Cert.Kernel4Ideal.nD Cert.Kernel4Ideal.τ).loc Cert.Kernel4Ideal.main_v37_4) = v4 c
          ∧ r.2.mem ((c.tc : Thread Cert.Kernel4Ideal.nD Cert.Kernel4Ideal.τ).loc Cert.Kernel4Ideal.main_v37_5) = v5 c
          ∧ r.2.mem ((c.tc : Thread Cert.Kernel4Ideal.nD Cert.Kernel4Ideal.τ).loc Cert.Kernel4Ideal.main_v37_6) = v6 c
          ∧ r.2.mem ((c.tc : Thread Cert.Kernel4Ideal.nD Cert.Kernel4Ideal.τ).loc Cert.Kernel4Ideal.main_v37_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v151) = v0 c
          ∧ r.2.mem ((c.tc : Thread Cert.Reference4Ideal.nD Cert.Reference4Ideal.τ).loc Cert.Reference4Ideal.main_v152) = v1 c
          ∧ r.2.mem ((c.tc : Thread Cert.Reference4Ideal.nD Cert.Reference4Ideal.τ).loc Cert.Reference4Ideal.main_v154) = v2 c
          ∧ r.2.mem ((c.tc : Thread Cert.Reference4Ideal.nD Cert.Reference4Ideal.τ).loc Cert.Reference4Ideal.main_v170) = v3 c
          ∧ r.2.mem ((c.tc : Thread Cert.Reference4Ideal.nD Cert.Reference4Ideal.τ).loc Cert.Reference4Ideal.main_v186) = v4 c
          ∧ r.2.mem ((c.tc : Thread Cert.Reference4Ideal.nD Cert.Reference4Ideal.τ).loc Cert.Reference4Ideal.main_v188) = v5 c
          ∧ r.2.mem ((c.tc : Thread Cert.Reference4Ideal.nD Cert.Reference4Ideal.τ).loc Cert.Reference4Ideal.main_v189) = v6 c
          ∧ r.2.mem ((c.tc : Thread Cert.Reference4Ideal.nD Cert.Reference4Ideal.τ).loc Cert.Reference4Ideal.main_v190) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v39_0)) (v1 : (c : Dev Cert.Kernel5Ideal.nD) → Buf (Elt Ideal) ((c.tc : Thread Cert.Kernel5Ideal.nD Cert.Kernel5Ideal.τ).loc Cert.Kernel5Ideal.main_v39_1)) (v2 : (c : Dev Cert.Kernel5Ideal.nD) → Buf (Elt Ideal) ((c.tc : Thread Cert.Kernel5Ideal.nD Cert.Kernel5Ideal.τ).loc Cert.Kernel5Ideal.main_v39_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v39_0) = v0 c
          ∧ r.2.mem ((c.tc : Thread Cert.Kernel5Ideal.nD Cert.Kernel5Ideal.τ).loc Cert.Kernel5Ideal.main_v39_1) = v1 c
          ∧ r.2.mem ((c.tc : Thread Cert.Kernel5Ideal.nD Cert.Kernel5Ideal.τ).loc Cert.Kernel5Ideal.main_v39_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "mask" .f32 0xF149F2CA#32 ⊥

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
-- ==== Pre_finite_scores.lean ====
abbrev S4x4096x8x192 : Shape := ⟨4, ![4, 4096, 8, 192]⟩
abbrev S4x4096x8x128 : Shape := ⟨4, ![4, 4096, 8, 128]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S_ : Shape := ⟨0, ![]⟩

class Facts : Prop where
  bcast_S_S4x4096x8x192 : S_.BroadcastsInDim S4x4096x8x192 (![] : Fin 0 → Fin S4x4096x8x192.rank)
  reducesTo_S4x4096x8x192_S_d0_1_2_3 : S4x4096x8x192.ReducesTo [0, 1, 2, 3] S_
  h_S_ : 0 < S_.numel

variable [Facts]

def fn {F : FTy → Type} [FloatOps F] (main_arg0 : FVec F S4x4096x8x192 .f32) (main_arg1 : FVec F S4x4096x8x192 .f32) (main_arg2 : FVec F S4x4096x8x128 .f32) (main_arg3 : FVec F S1x2048x2048 .f32) (main_arg4 : FVec F S1x2048x8192 .f32) (main_arg5 : FVec F S1x8192x2048 .f32) : IVec S_ 1 :=
  let main_v0 : FVec F S4x4096x8x192 .f32 := Host.absf main_arg0
  let main_cst : FVec F S_ .f32 := constant S_ .f32 0x7F800000#32
  let main_v1 : FVec F S4x4096x8x192 .f32 := broadcastInDim S4x4096x8x192 ![] bcast_S_S4x4096x8x192 main_cst
  let main_v2 : IVec S4x4096x8x192 1 := cmpf .olt main_v0 main_v1
  let main_c : IVec S_ 1 := constantI S_ 1 1#1
  let main_v3 : IVec S_ 1 := (fun x v => Host.reduce IntOp.andi x v reducesTo_S4x4096x8x192_S_d0_1_2_3 h_S_) main_v2 main_c
  let main_v4 : FVec F S4x4096x8x192 .f32 := Host.absf main_arg1
  let main_cst_0 : FVec F S_ .f32 := constant S_ .f32 0x7F800000#32
  let main_v5 : FVec F S4x4096x8x192 .f32 := broadcastInDim S4x4096x8x192 ![] bcast_S_S4x4096x8x192 main_cst_0
  let main_v6 : IVec S4x4096x8x192 1 := cmpf .olt main_v4 main_v5
  let main_c_1 : IVec S_ 1 := constantI S_ 1 1#1
  let main_v7 : IVec S_ 1 := (fun x v => Host.reduce IntOp.andi x v reducesTo_S4x4096x8x192_S_d0_1_2_3 h_S_) main_v6 main_c_1
  let main_v8 : IVec S_ 1 := andi main_v3 main_v7
  main_v8
-- ==== Kernel.lean ====
abbrev S4x4096x8x192 : Shape := ⟨4, ![4, 4096, 8, 192]⟩
abbrev S4x4096x8x128 : Shape := ⟨4, ![4, 4096, 8, 128]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S_ : Shape := ⟨0, ![]⟩
abbrev S4x8x4096x192 : Shape := ⟨4, ![4, 8, 4096, 192]⟩
abbrev S4x8x4096x256 : Shape := ⟨4, ![4, 8, 4096, 256]⟩
abbrev S4x8x4096x128 : Shape := ⟨4, ![4, 8, 4096, 128]⟩
abbrev S2048x2048 : Shape := ⟨2, ![2048, 2048]⟩
abbrev S2048x8192 : Shape := ⟨2, ![2048, 8192]⟩
abbrev S8192x2048 : Shape := ⟨2, ![8192, 2048]⟩
abbrev S4x4096x1024 : Shape := ⟨3, ![4, 4096, 1024]⟩
abbrev S1x1x4096x256 : Shape := ⟨4, ![1, 1, 4096, 256]⟩
abbrev S1x1x4096x128 : Shape := ⟨4, ![1, 1, 4096, 128]⟩
abbrev S64x2048 : Shape := ⟨2, ![64, 2048]⟩
abbrev S64x8192 : Shape := ⟨2, ![64, 8192]⟩
abbrev S256x2048 : Shape := ⟨2, ![256, 2048]⟩
abbrev S1x4096x128 : Shape := ⟨3, ![1, 4096, 128]⟩
abbrev S256x256 : Shape := ⟨2, ![256, 256]⟩
abbrev S1x1x256x256 : Shape := ⟨4, ![1, 1, 256, 256]⟩
abbrev S1x1x512x256 : Shape := ⟨4, ![1, 1, 512, 256]⟩
abbrev S512x256 : Shape := ⟨2, ![512, 256]⟩
abbrev S1x1x512x128 : Shape := ⟨4, ![1, 1, 512, 128]⟩
abbrev S512x128 : Shape := ⟨2, ![512, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S1x1x256x128 : Shape := ⟨4, ![1, 1, 256, 128]⟩

abbrev nBuf : Space → Nat
  | .hbm => 34
  | .vmem => 20
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S1x2048x2048, .f32⟩
  | .hbm, ⟨4, _⟩ => ⟨S1x2048x8192, .f32⟩
  | .hbm, ⟨5, _⟩ => ⟨S1x8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4096x8x192, .f32⟩
  | .hbm, ⟨14, _⟩ => ⟨S4x4096x8x192, .f32⟩
  | .hbm, ⟨15, _⟩ => ⟨S4x8x4096x192, .f32⟩
  | .hbm, ⟨16, _⟩ => ⟨S_, .i32⟩
  | .hbm, ⟨17, _⟩ => ⟨S_, .f32⟩
  | .hbm, ⟨18, _⟩ => ⟨S4x8x4096x256, .f32⟩
  | .hbm, ⟨19, _⟩ => ⟨S4x8x4096x256, .bf16⟩
  | .hbm, ⟨20, _⟩ => ⟨S4x8x4096x192, .f32⟩
  | .hbm, ⟨21, _⟩ => ⟨S_, .i32⟩
  | .hbm, ⟨22, _⟩ => ⟨S_, .f32⟩
  | .hbm, ⟨23, _⟩ => ⟨S4x8x4096x256, .f32⟩
  | .hbm, ⟨24, _⟩ => ⟨S4x8x4096x256, .bf16⟩
  | .hbm, ⟨25, _⟩ => ⟨S4x8x4096x128, .f32⟩
  | .hbm, ⟨26, _⟩ => ⟨S4x8x4096x128, .bf16⟩
  | .hbm, ⟨27, _⟩ => ⟨S2048x2048, .f32⟩
  | .hbm, ⟨28, _⟩ => ⟨S2048x8192, .f32⟩
  | .hbm, ⟨29, _⟩ => ⟨S8192x2048, .f32⟩
  | .hbm, ⟨30, _⟩ => ⟨S4x4096x1024, .bf16⟩
  | .hbm, ⟨31, _⟩ => ⟨S2048x2048, .bf16⟩
  | .hbm, ⟨32, _⟩ => ⟨S2048x8192, .bf16⟩
  | .hbm, ⟨33, _⟩ => ⟨S8192x2048, .bf16⟩
  | .local _ .vmem, ⟨0, _⟩ => ⟨S1x1x4096x256, .bf16⟩
  | .local _ .vmem, ⟨1, _⟩ => ⟨S1x1x4096x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S64x2048, .f32⟩
  | .local _ .vmem, ⟨7, _⟩ => ⟨S64x2048, .f32⟩
  | .local _ .vmem, ⟨8, _⟩ => ⟨S64x8192, .f32⟩
  | .local _ .vmem, ⟨9, _⟩ => ⟨S64x8192, .f32⟩
  | .local _ .vmem, ⟨10, _⟩ => ⟨S256x2048, .f32⟩
  | .local _ .vmem, ⟨11, _⟩ => ⟨S256x2048, .f32⟩
  | .local _ .vmem, ⟨12, _⟩ => ⟨S1x4096x128, .bf16⟩
  | .local _ .vmem, ⟨13, _⟩ => ⟨S1x4096x128, .bf16⟩
  | .local _ .vmem, ⟨14, _⟩ => ⟨S64x2048, .bf16⟩
  | .local _ .vmem, ⟨15, _⟩ => ⟨S64x2048, .bf16⟩
  | .local _ .vmem, ⟨16, _⟩ => ⟨S64x8192, .bf16⟩
  | .local _ .vmem, ⟨17, _⟩ => ⟨S64x8192, .bf16⟩
  | .local _ .vmem, ⟨18, _⟩ => ⟨S256x2048, .bf16⟩
  | .local _ .vmem, ⟨19, _⟩ => ⟨S256x2048, .bf16⟩
  | _, _ => ⟨S4x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x8x192 : Shape := ⟨4, ![4, 4096, 8, 192]⟩
abbrev S4x4096x8x128 : Shape := ⟨4, ![4, 4096, 8, 128]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S4096 : Shape := ⟨1, ![4096]⟩
abbrev S4x8x4096x4096 : Shape := ⟨4, ![4, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x1024 : Shape := ⟨3, ![4, 4096, 1024]⟩
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S1x2048x2048, .f32⟩
  | .hbm, ⟨4, _⟩ => ⟨S1x2048x8192, .f32⟩
  | .hbm, ⟨5, _⟩ => ⟨S1x8192x2048, .f32⟩
  | .hbm, ⟨6, _⟩ => ⟨S4096, .i32⟩
  | .hbm, ⟨7, _⟩ => ⟨S4x8x4096x4096, .f32⟩
  | .hbm, ⟨8, _⟩ => ⟨S_, .f32⟩
  | .hbm, ⟨9, _⟩ => ⟨S_, .f32⟩
  | .hbm, ⟨10, _⟩ => ⟨S4x8x4096x4096, .f32⟩
  | .hbm, ⟨11, _⟩ => ⟨S4x8x4096x4096, .f32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S1x1x4096x4096, .i1⟩
  | .hbm, ⟨18, _⟩ => ⟨S_, .f32⟩
  | .hbm, ⟨19, _⟩ => ⟨S_, .f32⟩
  | .hbm, ⟨20, _⟩ => ⟨S4x8x4096x4096, .i1⟩
  | .hbm, ⟨21, _⟩ => ⟨S4x8x4096x4096, .f32⟩
  | .hbm, ⟨22, _⟩ => ⟨S4x8x4096x4096, .f32⟩
  | .hbm, ⟨23, _⟩ => ⟨S_, .f32⟩
  | .hbm, ⟨24, _⟩ => ⟨S4x8x4096, .f32⟩
  | .hbm, ⟨25, _⟩ => ⟨S_, .f32⟩
  | .hbm, ⟨26, _⟩ => ⟨S4x8x4096, .f32⟩
  | .hbm, ⟨27, _⟩ => ⟨S4x8x4096, .f32⟩
  | .hbm, ⟨28, _⟩ => ⟨S4x8x4096x1, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S_, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x8x128x4096, .f32⟩
  | .hbm, ⟨38, _⟩ => ⟨S4x4096x8x128, .f32⟩
  | .hbm, ⟨39, _⟩ => ⟨S4x4096x1024, .f32⟩
  | .hbm, ⟨40, _⟩ => ⟨S4x4096x1024, .bf16⟩
  | .hbm, ⟨41, _⟩ => ⟨S2048x2048, .f32⟩
  | .hbm, ⟨42, _⟩ => ⟨S2048x2048, .bf16⟩
  | .hbm, ⟨43, _⟩ => ⟨S2048x8192, .f32⟩
  | .hbm, ⟨44, _⟩ => ⟨S2048x8192, .bf16⟩
  | .hbm, ⟨45, _⟩ => ⟨S8192x2048, .f32⟩
  | .hbm, ⟨46, _⟩ => ⟨S8192x2048, .bf16⟩
  | _, _ => ⟨S4x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel2.lean ====
abbrev S4x4096x2048 : Shape := ⟨3, ![4, 4096, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S512x2048 : Shape := ⟨2, ![512, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048, .f32⟩
  | .hbm, ⟨3, _⟩ => ⟨S1x2048x8192, .f32⟩
  | .hbm, ⟨4, _⟩ => ⟨S1x8192x2048, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048x8192, .f32⟩
  | .hbm, ⟨11, _⟩ => ⟨S2048x8192, .bf16⟩
  | .hbm, ⟨12, _⟩ => ⟨S8192x2048, .f32⟩
  | .hbm, ⟨13, _⟩ => ⟨S8192x2048, .bf16⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4x4096x2048 : Shape := ⟨3, ![4, 4096, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x8192 : Shape := ⟨2, ![2048, 8192]⟩
abbrev S4x4096x8192 : Shape := ⟨3, ![4, 4096, 8192]⟩
abbrev S8192x2048 : Shape := ⟨2, ![8192, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048, .f32⟩
  | .hbm, ⟨3, _⟩ => ⟨S1x2048x8192, .f32⟩
  | .hbm, ⟨4, _⟩ => ⟨S1x8192x2048, .f32⟩
  | .hbm, ⟨5, _⟩ => ⟨S2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S2048x8192, .f32⟩
  | .hbm, ⟨23, _⟩ => ⟨S4x4096x8192, .f32⟩
  | .hbm, ⟨24, _⟩ => ⟨S_, .f32⟩
  | .hbm, ⟨25, _⟩ => ⟨S4x4096x8192, .f32⟩
  | .hbm, ⟨26, _⟩ => ⟨S4x4096x8192, .f32⟩
  | .hbm, ⟨27, _⟩ => ⟨S4x4096x8192, .f32⟩
  | .hbm, ⟨28, _⟩ => ⟨S8192x2048, .f32⟩
  | .hbm, ⟨29, _⟩ => ⟨S4x4096x2048, .f32⟩
  | .hbm, ⟨30, _⟩ => ⟨S2048, .f32⟩
  | .hbm, ⟨31, _⟩ => ⟨S4x4096x2048, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x2048, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x2048 : Shape := ⟨3, ![4, 4096, 2048]⟩
abbrev S1x2048x2048 : Shape := ⟨3, ![1, 2048, 2048]⟩
abbrev S1x2048 : Shape := ⟨2, ![1, 2048]⟩
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩
abbrev S1024x1024 : Shape := ⟨2, ![1024, 1024]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x2048, .f32⟩
  | .hbm, ⟨3, _⟩ => ⟨S1x2048x2048, .f32⟩
  | .hbm, ⟨4, _⟩ => ⟨S1x2048, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S16384x1024, .bf16⟩
  | .hbm, ⟨9, _⟩ => ⟨S16384x2048, .f32⟩
  | .hbm, ⟨10, _⟩ => ⟨S2048x2048, .f32⟩
  | .hbm, ⟨11, _⟩ => ⟨S2048x2048, .bf16⟩
  | .hbm, ⟨12, _⟩ => ⟨S2048, .f32⟩
  | .hbm, ⟨13, _⟩ => ⟨S1x2048, .f32⟩
  | .hbm, ⟨14, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .f32⟩
  | .local _ .vmem, ⟨5, _⟩ => ⟨S1024x2048, .f32⟩
  | .local _ .vmem, ⟨6, _⟩ => ⟨S2048x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x4096x1024 : Shape := ⟨3, ![4, 4096, 1024]⟩
abbrev S4x4096x2048 : Shape := ⟨3, ![4, 4096, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x2048, .f32⟩
  | .hbm, ⟨3, _⟩ => ⟨S1x2048x2048, .f32⟩
  | .hbm, ⟨4, _⟩ => ⟨S1x2048, .f32⟩
  | .hbm, ⟨5, _⟩ => ⟨S4x4096x2048, .f32⟩
  | .hbm, ⟨6, _⟩ => ⟨S2048x2048, .f32⟩
  | .hbm, ⟨7, _⟩ => ⟨S4x4096x2048, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S16384x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel4.lean ====
abbrev S4x4096x2048 : Shape := ⟨3, ![4, 4096, 2048]⟩
abbrev S4x4096 : Shape := ⟨2, ![4, 4096]⟩
abbrev S1x2048 : Shape := ⟨2, ![1, 2048]⟩
abbrev S1x2048x4160 : Shape := ⟨3, ![1, 2048, 4160]⟩
abbrev S1x512 : Shape := ⟨2, ![1, 512]⟩
abbrev S16384x2048 : Shape := ⟨2, ![16384, 2048]⟩
abbrev S16384x1 : Shape := ⟨2, ![16384, 1]⟩
abbrev S2048 : Shape := ⟨1, ![2048]⟩
abbrev S2048x4160 : Shape := ⟨2, ![2048, 4160]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S32 : Shape := ⟨1, ![32]⟩
abbrev S64 : Shape := ⟨1, ![64]⟩
abbrev S512 : Shape := ⟨1, ![512]⟩
abbrev S4x8x4096x128 : Shape := ⟨4, ![4, 8, 4096, 128]⟩
abbrev S16384x512 : Shape := ⟨2, ![16384, 512]⟩
abbrev S16384x128 : Shape := ⟨2, ![16384, 128]⟩
abbrev S512x2048 : Shape := ⟨2, ![512, 2048]⟩
abbrev S512x1 : Shape := ⟨2, ![512, 1]⟩
abbrev S1x8x512x128 : Shape := ⟨4, ![1, 8, 512, 128]⟩
abbrev S512x512 : Shape := ⟨2, ![512, 512]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S2048x1024 : Shape := ⟨2, ![2048, 1024]⟩
abbrev S256x1024 : Shape := ⟨2, ![256, 1024]⟩
abbrev S1x1x256x128 : Shape := ⟨4, ![1, 1, 256, 128]⟩
abbrev S256x512 : Shape := ⟨2, ![256, 512]⟩
abbrev S2048x64 : Shape := ⟨2, ![2048, 64]⟩
abbrev S256x64 : Shape := ⟨2, ![256, 64]⟩

abbrev nBuf : Space → Nat
  | .hbm => 61
  | .vmem => 26
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S1x2048, .f32⟩
  | .hbm, ⟨3, _⟩ => ⟨S1x2048x4160, .f32⟩
  | .hbm, ⟨4, _⟩ => ⟨S1x512, .f32⟩
  | .hbm, ⟨5, _⟩ => ⟨S1x512, .f32⟩
  | .hbm, ⟨6, _⟩ => ⟨S16384x2048, .f32⟩
  | .hbm, ⟨7, _⟩ => ⟨S4x4096, .f32⟩
  | .hbm, ⟨8, _⟩ => ⟨S16384x1, .f32⟩
  | .hbm, ⟨9, _⟩ => ⟨S2048, .f32⟩
  | .hbm, ⟨10, _⟩ => ⟨S1x2048, .f32⟩
  | .hbm, ⟨11, _⟩ => ⟨S2048x4160, .f32⟩
  | .hbm, ⟨12, _⟩ => ⟨S2048x4160, .bf16⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S96, .f32⟩
  | .hbm, ⟨29, _⟩ => ⟨S128, .f32⟩
  | .hbm, ⟨30, _⟩ => ⟨S1x128, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S64, .f32⟩
  | .hbm, ⟨47, _⟩ => ⟨S128, .f32⟩
  | .hbm, ⟨48, _⟩ => ⟨S1x128, .f32⟩
  | .hbm, ⟨49, _⟩ => ⟨S512, .f32⟩
  | .hbm, ⟨50, _⟩ => ⟨S1x512, .f32⟩
  | .hbm, ⟨51, _⟩ => ⟨S512, .f32⟩
  | .hbm, ⟨52, _⟩ => ⟨S1x512, .f32⟩
  | .hbm, ⟨53, _⟩ => ⟨S4x8x4096x128, .f32⟩
  | .hbm, ⟨54, _⟩ => ⟨S4x8x4096x128, .f32⟩
  | .hbm, ⟨55, _⟩ => ⟨S4x8x4096x128, .f32⟩
  | .hbm, ⟨56, _⟩ => ⟨S16384x512, .bf16⟩
  | .hbm, ⟨57, _⟩ => ⟨S16384x512, .bf16⟩
  | .hbm, ⟨58, _⟩ => ⟨S16384x128, .bf16⟩
  | .hbm, ⟨59, _⟩ => ⟨S16384x128, .f32⟩
  | .hbm, ⟨60, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S1x2048, .f32⟩
  | .local _ .vmem, ⟨5, _⟩ => ⟨S2048x4160, .bf16⟩
  | .local _ .vmem, ⟨6, _⟩ => ⟨S1x128, .f32⟩
  | .local _ .vmem, ⟨7, _⟩ => ⟨S1x128, .f32⟩
  | .local _ .vmem, ⟨8, _⟩ => ⟨S1x512, .f32⟩
  | .local _ .vmem, ⟨9, _⟩ => ⟨S1x512, .f32⟩
  | .local _ .vmem, ⟨10, _⟩ => ⟨S1x8x512x128, .f32⟩
  | .local _ .vmem, ⟨11, _⟩ => ⟨S1x8x512x128, .f32⟩
  | .local _ .vmem, ⟨12, _⟩ => ⟨S1x8x512x128, .f32⟩
  | .local _ .vmem, ⟨13, _⟩ => ⟨S1x8x512x128, .f32⟩
  | .local _ .vmem, ⟨14, _⟩ => ⟨S1x8x512x128, .f32⟩
  | .local _ .vmem, ⟨15, _⟩ => ⟨S1x8x512x128, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev main_v37_3 : Ref sig .tc := ⟨.hbm, 56, rfl⟩
abbrev main_v37_4 : Ref sig .tc := ⟨.hbm, 57, rfl⟩
abbrev main_v37_5 : Ref sig .tc := ⟨.hbm, 58, rfl⟩
abbrev main_v37_6 : Ref sig .tc := ⟨.hbm, 59, rfl⟩
abbrev main_v37_7 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S4x4096x2048 : Shape := ⟨3, ![4, 4096, 2048]⟩
abbrev S4x4096 : Shape := ⟨2, ![4, 4096]⟩
abbrev S1x2048 : Shape := ⟨2, ![1, 2048]⟩
abbrev S1x2048x4160 : Shape := ⟨3, ![1, 2048, 4160]⟩
abbrev S1x512 : Shape := ⟨2, ![1, 512]⟩
abbrev S2048 : Shape := ⟨1, ![2048]⟩
abbrev S_ : Shape := ⟨0, ![]⟩
abbrev S4x4096x1 : Shape := ⟨3, ![4, 4096, 1]⟩
abbrev S1x1x2048 : Shape := ⟨3, ![1, 1, 2048]⟩
abbrev S2048x4160 : Shape := ⟨2, ![2048, 4160]⟩
abbrev S4x4096x4160 : Shape := ⟨3, ![4, 4096, 4160]⟩
abbrev S4x4096x1024 : Shape := ⟨3, ![4, 4096, 1024]⟩
abbrev S4x4096x512 : Shape := ⟨3, ![4, 4096, 512]⟩
abbrev S4x4096x64 : Shape := ⟨3, ![4, 4096, 64]⟩
abbrev S4x4096x8x128 : Shape := ⟨4, ![4, 4096, 8, 128]⟩
abbrev S16 : Shape := ⟨1, ![16]⟩
abbrev S1x1x16 : Shape := ⟨3, ![1, 1, 16]⟩
abbrev S4x4096x16 : Shape := ⟨3, ![4, 4096, 16]⟩
abbrev S4x4096x1x16 : Shape := ⟨4, ![4, 4096, 1, 16]⟩
abbrev S4x4096x8x16 : Shape := ⟨4, ![4, 4096, 8, 16]⟩
abbrev S4x4096x8x96 : Shape := ⟨4, ![4, 4096, 8, 96]⟩
abbrev S4x4096x1x64 : Shape := ⟨4, ![4, 4096, 1, 64]⟩
abbrev S32 : Shape := ⟨1, ![32]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x1x0 : Shape := ⟨4, ![4, 4096, 1, 0]⟩
abbrev S4x4096x1x128 : Shape := ⟨4, ![4, 4096, 1, 128]⟩
abbrev S4x4096x128 : Shape := ⟨3, ![4, 4096, 128]⟩
abbrev S4x8x4096x128 : Shape := ⟨4, ![4, 8, 4096, 128]⟩
abbrev S512 : Shape := ⟨1, ![512]⟩
abbrev S1x1x512 : Shape := ⟨3, ![1, 1, 512]⟩
abbrev S16384x512 : Shape := ⟨2, ![16384, 512]⟩
abbrev S16384x128 : Shape := ⟨2, ![16384, 128]⟩

abbrev nBuf : Space → Nat
  | .hbm => 229
  | .vmem => 0
  | .smem => 0
  | _ => 0

abbrev hbmTy0_0 (i : Nat) : BufTy := match i % 128 with
  | 0 => ⟨S4x4096x2048, .f32⟩
  | 1 => ⟨S4x4096, .i32⟩
  | 2 => ⟨S1x2048, .f32⟩
  | 3 => ⟨S1x2048x4160, .f32⟩
  | 4 => ⟨S1x512, .f32⟩
  | 5 => ⟨S1x512, .f32⟩
  | 6 => ⟨S2048, .f32⟩
  | 7 => ⟨S4x4096x2048, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x2048, .f32⟩
  | 19 => ⟨S4x4096x2048, .f32⟩
  | 20 => ⟨S1x1x2048, .f32⟩
  | 21 => ⟨S4x4096x2048, .f32⟩
  | 22 => ⟨S4x4096x2048, .f32⟩
  | 23 => ⟨S2048x4160, .f32⟩
  | 24 => ⟨S4x4096x4160, .f32⟩
  | 25 => ⟨S4x4096x1024, .f32⟩
  | 26 => ⟨S4x4096x1024, .f32⟩
  | 27 => ⟨S4x4096x1024, .f32⟩
  | 28 => ⟨S4x4096x512, .f32⟩
  | 29 => ⟨S4x4096x512, .f32⟩
  | 30 => ⟨S4x4096x64, .f32⟩
  | 31 => ⟨S4x4096x8x128, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S4x4096, .f32⟩
  | 47 => ⟨S4x4096x1, .f32⟩
  | 48 => ⟨S1x1x16, .f32⟩
  | 49 => ⟨S4x4096x16, .f32⟩
  | 50 => ⟨S4x4096x16, .f32⟩
  | 51 => ⟨S4x4096x16, .f32⟩
  | 52 => ⟨S4x4096x16, .f32⟩
  | 53 => ⟨S4x4096x1x16, .f32⟩
  | 54 => ⟨S4x4096x16, .f32⟩
  | 55 => ⟨S4x4096x1x16, .f32⟩
  | 56 => ⟨S4x4096x8x16, .f32⟩
  | 57 => ⟨S4x4096x8x16, .f32⟩
  | 58 => ⟨S4x4096x8x16, .f32⟩
  | 59 => ⟨S4x4096x8x16, .f32⟩
  | 60 => ⟨S4x4096x8x16, .f32⟩
  | 61 => ⟨S4x4096x8x16, .f32⟩
  | 62 => ⟨S4x4096x8x16, .f32⟩
  | 63 => ⟨S4x4096x8x16, .f32⟩
  | 64 => ⟨S4x4096x8x16, .f32⟩
  | 65 => ⟨S4x4096x8x16, .f32⟩
  | 66 => ⟨S4x4096x8x16, .f32⟩
  | 67 => ⟨S4x4096x8x16, .f32⟩
  | 68 => ⟨S4x4096x8x96, .f32⟩
  | 69 => ⟨S4x4096x8x128, .f32⟩
  | 70 => ⟨S_, .f32⟩
  | 71 => ⟨S4x4096x8x128, .f32⟩
  | 72 => ⟨S4x4096x8x128, .f32⟩
  | 73 => ⟨S4x4096x8x128, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S16, .f32⟩
  | 82 => ⟨S_, .f32⟩
  | 83 => ⟨S16, .f32⟩
  | 84 => ⟨S16, .f32⟩
  | 85 => ⟨S_, .f32⟩
  | 86 => ⟨S16, .f32⟩
  | 87 => ⟨S16, .f32⟩
  | 88 => ⟨S4x4096, .f32⟩
  | 89 => ⟨S4x4096x1, .f32⟩
  | 90 => ⟨S1x1x16, .f32⟩
  | 91 => ⟨S4x4096x16, .f32⟩
  | 92 => ⟨S4x4096x16, .f32⟩
  | 93 => ⟨S4x4096x16, .f32⟩
  | 94 => ⟨S4x4096x16, .f32⟩
  | 95 => ⟨S4x4096x1x16, .f32⟩
  | 96 => ⟨S4x4096x16, .f32⟩
  | 97 => ⟨S4x4096x1x16, .f32⟩
  | 98 => ⟨S4x4096x8x16, .f32⟩
  | 99 => ⟨S4x4096x8x16, .f32⟩
  | 100 => ⟨S4x4096x8x16, .f32⟩
  | 101 => ⟨S4x4096x8x16, .f32⟩
  | 102 => ⟨S4x4096x8x16, .f32⟩
  | 103 => ⟨S4x4096x8x16, .f32⟩
  | 104 => ⟨S4x4096x8x16, .f32⟩
  | 105 => ⟨S4x4096x8x16, .f32⟩
  | 106 => ⟨S4x4096x8x16, .f32⟩
  | 107 => ⟨S4x4096x8x16, .f32⟩
  | 108 => ⟨S4x4096x8x16, .f32⟩
  | 109 => ⟨S4x4096x8x16, .f32⟩
  | 110 => ⟨S4x4096x8x96, .f32⟩
  | 111 => ⟨S4x4096x8x128, .f32⟩
  | 112 => ⟨S4x4096x1x64, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S4x4096, .f32⟩
  | _ => ⟨S4x4096x2048, .f32⟩

abbrev hbmTy0_1 (i : Nat) : BufTy := match i % 128 with
  | 0 => ⟨S4x4096x1, .f32⟩
  | 1 => ⟨S1x1x32, .f32⟩
  | 2 => ⟨S4x4096x32, .f32⟩
  | 3 => ⟨S4x4096x32, .f32⟩
  | 4 => ⟨S4x4096x32, .f32⟩
  | 5 => ⟨S4x4096x32, .f32⟩
  | 6 => ⟨S4x4096x1x32, .f32⟩
  | 7 => ⟨S4x4096x32, .f32⟩
  | 8 => ⟨S4x4096x1x32, .f32⟩
  | 9 => ⟨S4x4096x1x32, .f32⟩
  | 10 => ⟨S4x4096x1x32, .f32⟩
  | 11 => ⟨S4x4096x1x32, .f32⟩
  | 12 => ⟨S4x4096x1x32, .f32⟩
  | 13 => ⟨S4x4096x1x32, .f32⟩
  | 14 => ⟨S4x4096x1x32, .f32⟩
  | 15 => ⟨S4x4096x1x32, .f32⟩
  | 16 => ⟨S4x4096x1x32, .f32⟩
  | 17 => ⟨S4x4096x1x0, .f32⟩
  | 18 => ⟨S4x4096x1x64, .f32⟩
  | 19 => ⟨S_, .i32⟩
  | 20 => ⟨S_, .f32⟩
  | 21 => ⟨S4x4096x1x128, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S4x4096, .f32⟩
  | 37 => ⟨S4x4096x1, .f32⟩
  | 38 => ⟨S1x1x32, .f32⟩
  | 39 => ⟨S4x4096x32, .f32⟩
  | 40 => ⟨S4x4096x32, .f32⟩
  | 41 => ⟨S4x4096x32, .f32⟩
  | 42 => ⟨S4x4096x32, .f32⟩
  | 43 => ⟨S4x4096x32, .f32⟩
  | 44 => ⟨S4x4096x64, .f32⟩
  | 45 => ⟨S_, .f32⟩
  | 46 => ⟨S_, .f32⟩
  | 47 => ⟨S4x4096x128, .f32⟩
  | 48 => ⟨S4x4096x32, .f32⟩
  | 49 => ⟨S4x4096x32, .f32⟩
  | 50 => ⟨S4x4096x32, .f32⟩
  | 51 => ⟨S4x4096x64, .f32⟩
  | 52 => ⟨S_, .i32⟩
  | 53 => ⟨S_, .f32⟩
  | 54 => ⟨S4x4096x128, .f32⟩
  | 55 => ⟨S4x8x4096x128, .f32⟩
  | 56 => ⟨S4x8x4096x128, .f32⟩
  | 57 => ⟨S4x4096x8x128, .f32⟩
  | 58 => ⟨S4x8x4096x128, .f32⟩
  | 59 => ⟨S512, .f32⟩
  | 60 => ⟨S4x4096x512, .f32⟩
  | 61 => ⟨S_, .f32⟩
  | 62 => ⟨S4x4096, .f32⟩
  | 63 => ⟨S4x4096x1, .f32⟩
  | 64 => ⟨S_, .f32⟩
  | 65 => ⟨S4x4096x1, .f32⟩
  | 66 => ⟨S4x4096x1, .f32⟩
  | 67 => ⟨S_, .f32⟩
  | 68 => ⟨S4x4096x1, .f32⟩
  | 69 => ⟨S4x4096x1, .f32⟩
  | 70 => ⟨S4x4096x1, .f32⟩
  | 71 => ⟨S4x4096x512, .f32⟩
  | 72 => ⟨S4x4096x512, .f32⟩
  | 73 => ⟨S1x1x512, .f32⟩
  | 74 => ⟨S4x4096x512, .f32⟩
  | 75 => ⟨S4x4096x512, .f32⟩
  | 76 => ⟨S16384x512, .f32⟩
  | 77 => ⟨S16384x512, .bf16⟩
  | 78 => ⟨S512, .f32⟩
  | 79 => ⟨S4x4096x512, .f32⟩
  | 80 => ⟨S_, .f32⟩
  | 81 => ⟨S4x4096, .f32⟩
  | 82 => ⟨S4x4096x1, .f32⟩
  | 83 => ⟨S_, .f32⟩
  | 84 => ⟨S4x4096x1, .f32⟩
  | 85 => ⟨S4x4096x1, .f32⟩
  | 86 => ⟨S_, .f32⟩
  | 87 => ⟨S4x4096x1, .f32⟩
  | 88 => ⟨S4x4096x1, .f32⟩
  | 89 => ⟨S4x4096x1, .f32⟩
  | 90 => ⟨S4x4096x512, .f32⟩
  | 91 => ⟨S4x4096x512, .f32⟩
  | 92 => ⟨S1x1x512, .f32⟩
  | 93 => ⟨S4x4096x512, .f32⟩
  | 94 => ⟨S4x4096x512, .f32⟩
  | 95 => ⟨S16384x512, .f32⟩
  | 96 => ⟨S16384x512, .bf16⟩
  | 97 => ⟨S16384x128, .f32⟩
  | 98 => ⟨S16384x128, .bf16⟩
  | 99 => ⟨S16384x128, .f32⟩
  | 100 => ⟨S16384x128, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_11 : Ref sig .tc := ⟨.hbm, 114, rfl⟩
abbrev main_v96 : Ref sig .tc := ⟨.hbm, 115, rfl⟩
abbrev main_v97 : Ref sig .tc := ⟨.hbm, 116, rfl⟩
abbrev main_cst_12 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_13 : Ref sig .tc := ⟨.hbm, 121, rfl⟩
abbrev main_v101 : Ref sig .tc := ⟨.hbm, 122, rfl⟩
abbrev main_v102 : Ref sig .tc := ⟨.hbm, 123, rfl⟩
abbrev main_cst_14 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_c : Ref sig .tc := ⟨.hbm, 147, rfl⟩
abbrev main_call0_v0 : Ref sig .tc := ⟨.hbm, 148, rfl⟩
abbrev main_v125 : Ref sig .tc := ⟨.hbm, 149, rfl⟩
abbrev main_v126 : Ref sig .tc := ⟨.hbm, 150, rfl⟩
abbrev main_cst_15 : Ref sig .tc := ⟨.hbm, 151, rfl⟩
abbrev main_v127 : Ref sig .tc := ⟨.hbm, 152, rfl⟩
abbrev main_v128 : Ref sig .tc := ⟨.hbm, 153, rfl⟩
abbrev main_cst_16 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_17 : Ref sig .tc := ⟨.hbm, 158, rfl⟩
abbrev main_v132 : Ref sig .tc := ⟨.hbm, 159, rfl⟩
abbrev main_v133 : Ref sig .tc := ⟨.hbm, 160, rfl⟩
abbrev main_cst_18 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_19 : Ref sig .tc := ⟨.hbm, 173, rfl⟩
abbrev main_call1_v0 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_c_20 : Ref sig .tc := ⟨.hbm, 180, rfl⟩
abbrev main_call2_v0 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_21 : Ref sig .tc := ⟨.hbm, 189, rfl⟩
abbrev main_v157 : Ref sig .tc := ⟨.hbm, 190, rfl⟩
abbrev main_v158 : Ref sig .tc := ⟨.hbm, 191, rfl⟩
abbrev main_cst_22 : Ref sig .tc := ⟨.hbm, 192, rfl⟩
abbrev main_v159 : Ref sig .tc := ⟨.hbm, 193, rfl⟩
abbrev main_v160 : Ref sig .tc := ⟨.hbm, 194, rfl⟩
abbrev main_cst_23 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_cst_24 : Ref sig .tc := ⟨.hbm, 208, rfl⟩
abbrev main_v173 : Ref sig .tc := ⟨.hbm, 209, rfl⟩
abbrev main_v174 : Ref sig .tc := ⟨.hbm, 210, rfl⟩
abbrev main_cst_25 : Ref sig .tc := ⟨.hbm, 211, rfl⟩
abbrev main_v175 : Ref sig .tc := ⟨.hbm, 212, rfl⟩
abbrev main_v176 : Ref sig .tc := ⟨.hbm, 213, rfl⟩
abbrev main_cst_26 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩

abbrev nD : Nat := 1
abbrev τ : Topo := Topo.v7x

variable {F : FTy → Type} [FloatOps F]
-- ==== Kernel5.lean ====
abbrev S4x4096x512 : Shape := ⟨3, ![4, 4096, 512]⟩
abbrev S4x4096x64 : Shape := ⟨3, ![4, 4096, 64]⟩
abbrev S4x4096 : Shape := ⟨2, ![4, 4096]⟩
abbrev S1x512x1536 : Shape := ⟨3, ![1, 512, 1536]⟩
abbrev S1x512x2048 : Shape := ⟨3, ![1, 512, 2048]⟩
abbrev S16384x1 : Shape := ⟨2, ![16384, 1]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S16384x128 : Shape := ⟨2, ![16384, 128]⟩
abbrev S16384x64 : Shape := ⟨2, ![16384, 64]⟩
abbrev S16384x512 : Shape := ⟨2, ![16384, 512]⟩
abbrev S512x1536 : Shape := ⟨2, ![512, 1536]⟩
abbrev S512x2048 : Shape := ⟨2, ![512, 2048]⟩
abbrev S4x8x4096x256 : Shape := ⟨4, ![4, 8, 4096, 256]⟩
abbrev S4x8x4096x128 : Shape := ⟨4, ![4, 8, 4096, 128]⟩
abbrev S1024x512 : Shape := ⟨2, ![1024, 512]⟩
abbrev S1024x128 : Shape := ⟨2, ![1024, 128]⟩
abbrev S1x8x1024x256 : Shape := ⟨4, ![1, 8, 1024, 256]⟩
abbrev S1x8x1024x128 : Shape := ⟨4, ![1, 8, 1024, 128]⟩
abbrev S256x128 : Shape := ⟨2, ![256, 128]⟩
abbrev S256x512 : Shape := ⟨2, ![256, 512]⟩
abbrev S256x1536 : Shape := ⟨2, ![256, 1536]⟩
abbrev S256x2048 : Shape := ⟨2, ![256, 2048]⟩
abbrev S256x64 : Shape := ⟨2, ![256, 64]⟩
abbrev S1x1x256x128 : Shape := ⟨4, ![1, 1, 256, 128]⟩

abbrev nBuf : Space → Nat
  | .hbm => 60
  | .vmem => 18
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x64, .f32⟩
  | .hbm, ⟨3, _⟩ => ⟨S4x4096, .i32⟩
  | .hbm, ⟨4, _⟩ => ⟨S1x512x1536, .f32⟩
  | .hbm, ⟨5, _⟩ => ⟨S1x512x2048, .f32⟩
  | .hbm, ⟨6, _⟩ => ⟨S4x4096, .f32⟩
  | .hbm, ⟨7, _⟩ => ⟨S16384x1, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S64, .f32⟩
  | .hbm, ⟨24, _⟩ => ⟨S128, .f32⟩
  | .hbm, ⟨25, _⟩ => ⟨S1x128, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S16384x64, .f32⟩
  | .hbm, ⟨40, _⟩ => ⟨S_, .i32⟩
  | .hbm, ⟨41, _⟩ => ⟨S_, .f32⟩
  | .hbm, ⟨42, _⟩ => ⟨S16384x128, .f32⟩
  | .hbm, ⟨43, _⟩ => ⟨S16384x128, .bf16⟩
  | .hbm, ⟨44, _⟩ => ⟨S16384x512, .f32⟩
  | .hbm, ⟨45, _⟩ => ⟨S16384x512, .bf16⟩
  | .hbm, ⟨46, _⟩ => ⟨S16384x512, .f32⟩
  | .hbm, ⟨47, _⟩ => ⟨S16384x512, .bf16⟩
  | .hbm, ⟨48, _⟩ => ⟨S16384x128, .f32⟩
  | .hbm, ⟨49, _⟩ => ⟨S16384x128, .f32⟩
  | .hbm, ⟨50, _⟩ => ⟨S1x128, .f32⟩
  | .hbm, ⟨51, _⟩ => ⟨S16384x128, .f32⟩
  | .hbm, ⟨52, _⟩ => ⟨S16384x128, .f32⟩
  | .hbm, ⟨53, _⟩ => ⟨S512x1536, .f32⟩
  | .hbm, ⟨54, _⟩ => ⟨S512x1536, .bf16⟩
  | .hbm, ⟨55, _⟩ => ⟨S512x2048, .f32⟩
  | .hbm, ⟨56, _⟩ => ⟨S512x2048, .bf16⟩
  | .hbm, ⟨57, _⟩ => ⟨S4x8x4096x256, .bf16⟩
  | .hbm, ⟨58, _⟩ => ⟨S4x8x4096x256, .bf16⟩
  | .hbm, ⟨59, _⟩ => ⟨S4x8x4096x128, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S512x1536, .bf16⟩
  | .local _ .vmem, ⟨11, _⟩ => ⟨S512x2048, .bf16⟩
  | .local _ .vmem, ⟨12, _⟩ => ⟨S1x8x1024x256, .bf16⟩
  | .local _ .vmem, ⟨13, _⟩ => ⟨S1x8x1024x256, .bf16⟩
  | .local _ .vmem, ⟨14, _⟩ => ⟨S1x8x1024x256, .bf16⟩
  | .local _ .vmem, ⟨15, _⟩ => ⟨S1x8x1024x256, .bf16⟩
  | .local _ .vmem, ⟨16, _⟩ => ⟨S1x8x1024x128, .bf16⟩
  | .local _ .vmem, ⟨17, _⟩ => ⟨S1x8x1024x128, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev main_v39_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4x4096x512 : Shape := ⟨3, ![4, 4096, 512]⟩
abbrev S4x4096x64 : Shape := ⟨3, ![4, 4096, 64]⟩
abbrev S4x4096 : Shape := ⟨2, ![4, 4096]⟩
abbrev S1x512x1536 : Shape := ⟨3, ![1, 512, 1536]⟩
abbrev S1x512x2048 : Shape := ⟨3, ![1, 512, 2048]⟩
abbrev S512x1536 : Shape := ⟨2, ![512, 1536]⟩
abbrev S4x4096x1536 : Shape := ⟨3, ![4, 4096, 1536]⟩
abbrev S4x4096x8x192 : Shape := ⟨4, ![4, 4096, 8, 192]⟩
abbrev S4x4096x8x128 : Shape := ⟨4, ![4, 4096, 8, 128]⟩
abbrev S4x4096x8x64 : Shape := ⟨4, ![4, 4096, 8, 64]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x8x32 : Shape := ⟨4, ![4, 4096, 8, 32]⟩
abbrev S4x4096x8x0 : Shape := ⟨4, ![4, 4096, 8, 0]⟩
abbrev S512x2048 : Shape := ⟨2, ![512, 2048]⟩
abbrev S4x4096x2048 : Shape := ⟨3, ![4, 4096, 2048]⟩
abbrev S4x4096x8x256 : Shape := ⟨4, ![4, 4096, 8, 256]⟩
abbrev S4x4096x1x64 : Shape := ⟨4, ![4, 4096, 1, 64]⟩
abbrev S4x8x4096x256 : Shape := ⟨4, ![4, 8, 4096, 256]⟩
abbrev S4x8x4096x128 : Shape := ⟨4, ![4, 8, 4096, 128]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x64, .f32⟩
  | .hbm, ⟨3, _⟩ => ⟨S4x4096, .i32⟩
  | .hbm, ⟨4, _⟩ => ⟨S1x512x1536, .f32⟩
  | .hbm, ⟨5, _⟩ => ⟨S1x512x2048, .f32⟩
  | .hbm, ⟨6, _⟩ => ⟨S512x1536, .f32⟩
  | .hbm, ⟨7, _⟩ => ⟨S4x4096x1536, .f32⟩
  | .hbm, ⟨8, _⟩ => ⟨S4x4096x8x192, .f32⟩
  | .hbm, ⟨9, _⟩ => ⟨S4x4096x8x128, .f32⟩
  | .hbm, ⟨10, _⟩ => ⟨S4x4096x8x64, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4x4096, .f32⟩
  | .hbm, ⟨26, _⟩ => ⟨S4x4096x1, .f32⟩
  | .hbm, ⟨27, _⟩ => ⟨S1x1x32, .f32⟩
  | .hbm, ⟨28, _⟩ => ⟨S4x4096x32, .f32⟩
  | .hbm, ⟨29, _⟩ => ⟨S4x4096x32, .f32⟩
  | .hbm, ⟨30, _⟩ => ⟨S4x4096x32, .f32⟩
  | .hbm, ⟨31, _⟩ => ⟨S4x4096x32, .f32⟩
  | .hbm, ⟨32, _⟩ => ⟨S4x4096x1x32, .f32⟩
  | .hbm, ⟨33, _⟩ => ⟨S4x4096x32, .f32⟩
  | .hbm, ⟨34, _⟩ => ⟨S4x4096x1x32, .f32⟩
  | .hbm, ⟨35, _⟩ => ⟨S4x4096x8x32, .f32⟩
  | .hbm, ⟨36, _⟩ => ⟨S4x4096x8x32, .f32⟩
  | .hbm, ⟨37, _⟩ => ⟨S4x4096x8x32, .f32⟩
  | .hbm, ⟨38, _⟩ => ⟨S4x4096x8x32, .f32⟩
  | .hbm, ⟨39, _⟩ => ⟨S4x4096x8x32, .f32⟩
  | .hbm, ⟨40, _⟩ => ⟨S4x4096x8x32, .f32⟩
  | .hbm, ⟨41, _⟩ => ⟨S4x4096x8x32, .f32⟩
  | .hbm, ⟨42, _⟩ => ⟨S4x4096x8x32, .f32⟩
  | .hbm, ⟨43, _⟩ => ⟨S4x4096x8x32, .f32⟩
  | .hbm, ⟨44, _⟩ => ⟨S4x4096x8x32, .f32⟩
  | .hbm, ⟨45, _⟩ => ⟨S4x4096x8x32, .f32⟩
  | .hbm, ⟨46, _⟩ => ⟨S4x4096x8x32, .f32⟩
  | .hbm, ⟨47, _⟩ => ⟨S4x4096x8x0, .f32⟩
  | .hbm, ⟨48, _⟩ => ⟨S4x4096x8x64, .f32⟩
  | .hbm, ⟨49, _⟩ => ⟨S512x2048, .f32⟩
  | .hbm, ⟨50, _⟩ => ⟨S4x4096x2048, .f32⟩
  | .hbm, ⟨51, _⟩ => ⟨S4x4096x8x256, .f32⟩
  | .hbm, ⟨52, _⟩ => ⟨S4x4096x8x128, .f32⟩
  | .hbm, ⟨53, _⟩ => ⟨S4x4096x8x128, .f32⟩
  | .hbm, ⟨54, _⟩ => ⟨S4x4096x8x192, .f32⟩
  | .hbm, ⟨55, _⟩ => ⟨S_, .f32⟩
  | .hbm, ⟨56, _⟩ => ⟨S4x4096x8x192, .f32⟩
  | .hbm, ⟨57, _⟩ => ⟨S4x4096x8x192, .f32⟩
  | .hbm, ⟨58, _⟩ => ⟨S4x4096x1x64, .f32⟩
  | .hbm, ⟨59, _⟩ => ⟨S4x4096x8x64, .f32⟩
  | .hbm, ⟨60, _⟩ => ⟨S4x4096x8x192, .f32⟩
  | .hbm, ⟨61, _⟩ => ⟨S_, .i32⟩
  | .hbm, ⟨62, _⟩ => ⟨S_, .f32⟩
  | .hbm, ⟨63, _⟩ => ⟨S4x4096x8x256, .f32⟩
  | .hbm, ⟨64, _⟩ => ⟨S4x8x4096x256, .f32⟩
  | .hbm, ⟨65, _⟩ => ⟨S4x8x4096x256, .bf16⟩
  | .hbm, ⟨66, _⟩ => ⟨S_, .i32⟩
  | .hbm, ⟨67, _⟩ => ⟨S_, .f32⟩
  | .hbm, ⟨68, _⟩ => ⟨S4x4096x8x256, .f32⟩
  | .hbm, ⟨69, _⟩ => ⟨S4x8x4096x256, .f32⟩
  | .hbm, ⟨70, _⟩ => ⟨S4x8x4096x256, .bf16⟩
  | .hbm, ⟨71, _⟩ => ⟨S4x8x4096x128, .f32⟩
  | .hbm, ⟨72, _⟩ => ⟨S4x8x4096x128, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c : Ref sig .tc := ⟨.hbm, 61, rfl⟩
abbrev main_call0_v0 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_4 : Ref sig .tc := ⟨.hbm, 66, rfl⟩
abbrev main_call1_v0 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel6.lean ====
abbrev S4x4096x8x128 : Shape := ⟨4, ![4, 4096, 8, 128]⟩
abbrev S_ : Shape := ⟨0, ![]⟩
abbrev S4x8x4096x128 : Shape := ⟨4, ![4, 8, 4096, 128]⟩
abbrev S4x4096x1024 : Shape := ⟨3, ![4, 4096, 1024]⟩
abbrev S1x2x4096x128 : Shape := ⟨4, ![1, 2, 4096, 128]⟩
abbrev S1x4096x256 : Shape := ⟨3, ![1, 4096, 256]⟩
abbrev S16x256x128 : Shape := ⟨3, ![16, 256, 128]⟩
abbrev S4096x128 : Shape := ⟨2, ![4096, 128]⟩
abbrev S4x1024x128 : Shape := ⟨3, ![4, 1024, 128]⟩
abbrev S128x128 : Shape := ⟨2, ![128, 128]⟩
abbrev S128x256 : Shape := ⟨2, ![128, 256]⟩
abbrev S1x1x4096x128 : Shape := ⟨4, ![1, 1, 4096, 128]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x128x128 : Shape := ⟨3, ![1, 128, 128]⟩
abbrev S128 : Shape := ⟨1, ![128]⟩
abbrev S128x1 : Shape := ⟨2, ![128, 1]⟩
abbrev S256x256 : Shape := ⟨2, ![256, 256]⟩
abbrev S1x32x128 : Shape := ⟨3, ![1, 32, 128]⟩
abbrev S32x128 : Shape := ⟨2, ![32, 128]⟩
abbrev S1x64x128 : Shape := ⟨3, ![1, 64, 128]⟩
abbrev S64x128 : Shape := ⟨2, ![64, 128]⟩
abbrev S1x4096x128 : Shape := ⟨3, ![1, 4096, 128]⟩

abbrev nBuf : Space → Nat
  | .hbm => 16
  | .vmem => 18
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x128, .f32⟩
  | .hbm, ⟨2, _⟩ => ⟨S4x4096x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x8x128, .f32⟩
  | .hbm, ⟨11, _⟩ => ⟨S4x4096x8x128, .f32⟩
  | .hbm, ⟨12, _⟩ => ⟨S4x8x4096x128, .f32⟩
  | .hbm, ⟨13, _⟩ => ⟨S4x8x4096x128, .f32⟩
  | .hbm, ⟨14, _⟩ => ⟨S4x8x4096x128, .f32⟩
  | .hbm, ⟨15, _⟩ => ⟨S4x4096x1024, .bf16⟩
  | .local _ .vmem, ⟨0, _⟩ => ⟨S1x2x4096x128, .f32⟩
  | .local _ .vmem, ⟨1, _⟩ => ⟨S1x2x4096x128, .f32⟩
  | .local _ .vmem, ⟨2, _⟩ => ⟨S1x2x4096x128, .f32⟩
  | .local _ .vmem, ⟨3, _⟩ => ⟨S1x2x4096x128, .f32⟩
  | .local _ .vmem, ⟨4, _⟩ => ⟨S1x2x4096x128, .f32⟩
  | .local _ .vmem, ⟨5, _⟩ => ⟨S1x2x4096x128, .f32⟩
  | .local _ .vmem, ⟨6, _⟩ => ⟨S1x4096x256, .bf16⟩
  | .local _ .vmem, ⟨7, _⟩ => ⟨S1x4096x256, .bf16⟩
  | .local _ .vmem, ⟨8, _⟩ => ⟨S16x256x128, .bf16⟩
  | .local _ .vmem, ⟨9, _⟩ => ⟨S16x256x128, .bf16⟩
  | .local _ .vmem, ⟨10, _⟩ => ⟨S16x256x128, .bf16⟩
  | .local _ .vmem, ⟨11, _⟩ => ⟨S16x256x128, .f32⟩
  | .local _ .vmem, ⟨12, _⟩ => ⟨S16x256x128, .f32⟩
  | .local _ .vmem, ⟨13, _⟩ => ⟨S16x256x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4x1024x128, .f32⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel6Ideal.lean ====
variable {F : FTy → Type} [FloatOps F] [Named F]
def κ : String → Option EReal := fun
  | "mask" => some ⊥
  | _ => none
-- ==== Proof.Row.lean ====
/- One row of 2048 features and its root-mean-square norm, on extended reals: what both normalised calls store. -/
module

public import Idealize.ShloMosaic.Lib.Pointwise

@[expose] public section

set_option maxRecDepth 16384

noncomputable section

namespace Cert.Proof.Row

open Idealize.ShloMosaic

/-- One entry of a normalised row: `p` is the row, `g` the norm's weight at the entry. -/
def rowNorm (p : Fin 2048 → EReal) (g : EReal) (d : Fin 2048) : EReal :=
  p d * Ideal.rsqrt (Ideal.div (∑ k, p k * p k) (Ideal.ofBits FTy.f32 0x45000000#32) + Ideal.ofBits FTy.f32 0x358637BD#32) * g

/-- One entry of a normalised row added to the residual `x`. -/
def cell (p : Fin 2048 → EReal) (x g : EReal) (d : Fin 2048) : EReal := x + rowNorm p g d

theorem rowNorm_congr {p q : Fin 2048 → EReal} {g g' : EReal} {d : Fin 2048} (hp : ∀ k, p k = q k) (hg : g = g') :
    rowNorm p g d = rowNorm q g' d := by
  obtain rfl : p = q := funext hp
  subst hg; rfl

/-- `cell` depends on its row entry by entry. -/
theorem cell_congr {p q : Fin 2048 → EReal} {x x' g g' : EReal} {d d' : Fin 2048} (hp : ∀ k, p k = q k) (hx : x = x') (hg : g = g')
    (hd : d = d') : cell p x g d = cell q x' g' d' := by
  subst hd
  exact congrArg₂ (· + ·) hx (rowNorm_congr hp hg)

/-- One term of the feed-forward sum: the squared positive part of a product, times a weight. -/
def sqTerm (z w : EReal) : EReal := max z 0 * max z 0 * w

end Cert.Proof.Row

end
-- ==== Proof.Mlp.Ref.lean ====
/- The feed-forward block's reference, read at an index of its result. -/
module

public import proofs.«01_k».proof.Proof.Gen.Reference2Ideal.Run
public import proofs.«01_k».proof.Proof.Row

@[expose] public section

set_option maxRecDepth 16384

noncomputable section

namespace Cert.Proof.Mlp

open Idealize.ShloMosaic Idealize.ShloMosaic.TcCoe Idealize.SL.Sem
open Cert.Reference2Ideal Cert.Reference2Ideal.Gen Cert.Proof.Row

/-- The norm of every token of `X`, with the weights `G`. -/
def rms (X : FVec Ideal S4x4096x2048 .f32) (G : FVec Ideal S1x2048 .f32) : FVec Ideal S4x4096x2048 .f32 :=
  mulf (mulf X (broadcastInDim S4x4096x2048 ![0, 1, 2] bcast_S4x4096x1_S4x4096x2048_0_1_2
      (Host.rsqrt (addf (Host.divf (broadcastInDim S4x4096x1 ![0, 1] bcast_S4x4096_S4x4096x1_0_1
          (Host.reduceAdd (mulf X X) (constant S_ .f32 0x00000000#32) reducesTo_S4x4096x2048_S4x4096_d2 h_S_))
        (broadcastInDim S4x4096x1 ![] bcast_S_S4x4096x1 (constant S_ .f32 0x45000000#32)))
        (broadcastInDim S4x4096x1 ![] bcast_S_S4x4096x1 (constant S_ .f32 0x358637BD#32))))))
    (broadcastInDim S4x4096x2048 ![0, 1, 2] bcast_S1x1x2048_S4x4096x2048_0_1_2
      (broadcastInDim S1x1x2048 ![2] bcast_S2048_S1x1x2048_2 (shapeCast _ G shapeCasts_S1x2048_S2048)))

/-- The positive part of the first product. -/
def up (H : FVec Ideal S4x4096x2048 .f32) (W : FVec Ideal S1x2048x8192 .f32) : FVec Ideal S4x4096x8192 .f32 :=
  maximumf (Host.dotGeneral (φ₁ := .f32) (φ₂ := .f32) dot_S4x4096x2048_S2048x8192_S4x4096x8192_2_0_01_1_n_n none H (shapeCast _ W shapeCasts_S1x2048x8192_S2048x8192))
    (broadcastInDim S4x4096x8192 ![] bcast_S_S4x4096x8192 (constant S_ .f32 0x00000000#32))

/-- The second product, of the first one's square. -/
def down (U : FVec Ideal S4x4096x8192 .f32) (W : FVec Ideal S1x8192x2048 .f32) : FVec Ideal S4x4096x2048 .f32 :=
  Host.dotGeneral (φ₁ := .f32) (φ₂ := .f32) dot_S4x4096x8192_S8192x2048_S4x4096x2048_2_0_01_1_n_n none (mulf U U) (shapeCast _ W shapeCasts_S1x8192x2048_S8192x2048)

/-- The reference's result over its five arguments. -/
def ref (X : FVec Ideal S4x4096x2048 .f32) (G G' : FVec Ideal S1x2048 .f32) (W : FVec Ideal S1x2048x8192 .f32)
    (W' : FVec Ideal S1x8192x2048 .f32) : FVec Ideal S16384x2048 .f32 :=
  shapeCast _ (addf X (rms (down (up (rms X G) W) W') G')) shapeCasts_S4x4096x2048_S16384x2048

theorem res_eq (m : (ℓ : Loc nD τ sig) → Buf (Elt Ideal) ℓ) (c : Dev nD) :
    Value.res_main_v35 m c = ref (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

section
variable (X : FVec Ideal S4x4096x2048 .f32) (G G' : FVec Ideal S1x2048 .f32) (W : FVec Ideal S1x2048x8192 .f32)
    (W' : FVec Ideal S1x8192x2048 .f32) (U : FVec Ideal S4x4096x8192 .f32) (b : Fin 4) (s : Fin 4096)

theorem rms_at (d : Fin 2048) : rms X G (ix3 b s d) = rowNorm (fun k => X (ix3 b s k)) (G (ix2 0 d)) d := by
  pointwise [rms, rowNorm]

theorem up_at (l : Fin 8192) : up X W (ix3 b s l) = max (∑ k, X (ix3 b s k) * W (ix3 0 k l)) 0 := by
  pointwise [up]

theorem down_at (d : Fin 2048) : down U W' (ix3 b s d) = ∑ l, U (ix3 b s l) * U (ix3 b s l) * W' (ix3 0 l d) := by
  pointwise [down]

/-- The two products at an index: over the hidden features, the squared positive part of the normalised token's product. -/
theorem hidden_at (d : Fin 2048) : down (up (rms X G) W) W' (ix3 b s d)
    = ∑ l, sqTerm (∑ k, rowNorm (fun k => X (ix3 b s k)) (G (ix2 0 k)) k * W (ix3 0 k l)) (W' (ix3 0 l d)) := by
  rw [down_at]
  refine Finset.sum_congr rfl fun l _ => ?_
  rw [up_at, sqTerm]
  simp only [rms_at]

theorem ref_at (r : Fin 16384) (d : Fin 2048) : ref X G G' W W' (ix2 r d)
    = cell (fun d => down (up (rms X G) W) W' (ix3 ⟨r.val / 4096, by omega⟩ ⟨r.val % 4096, by omega⟩ d))
        (X (ix3 ⟨r.val / 4096, by omega⟩ ⟨r.val % 4096, by omega⟩ d)) (G' (ix2 0 d)) d := by
  have e : ref X G G' W W' (ix2 r d) = X (ix3 ⟨r.val / 4096, by omega⟩ ⟨r.val % 4096, by omega⟩ d)
      + rms (down (up (rms X G) W) W') G' (ix3 ⟨r.val / 4096, by omega⟩ ⟨r.val % 4096, by omega⟩ d) := by
    pointwise [ref]
  rw [e, rms_at, cell]
end

end Cert.Proof.Mlp

end
-- ==== Proof.Mlp.Value.lean ====
/- The feed-forward block's result array: four steps per token block, each adding a quarter of the hidden features;
   the last one adds the normalised sum to the residual. -/
module

public import proofs.«01_k».proof.Proof.Gen.Kernel2Ideal.Value
public import proofs.«01_k».proof.Proof.Mlp.Ref
public import Idealize.ShloMosaic.Lib.Pipeline.ValueKit

@[expose] public section

set_option maxRecDepth 16384

noncomputable section

namespace Cert.Proof.Mlp

open Idealize.ShloMosaic Idealize.ShloMosaic.TcCoe Idealize.SL.Sem
open Idealize.ShloMosaic.Pipeline (Dat)
open Cert.Kernel2Ideal Cert.Kernel2Ideal.Gen Cert.Proof.Row

/-! ## The payloads at an index -/

/-- A step's contribution at a row: a quarter of the hidden features. -/
def part (h : Fin 2048 → EReal) (w w' : Vec Ideal S2048x2048 .bf16) (d : Fin 2048) : EReal :=
  ∑ l : Fin 2048, sqTerm (∑ k : Fin 2048, h k * w (ix2 k l)) (w' (ix2 l d))

theorem part_congr {h h' : Fin 2048 → EReal} {w w' : Vec Ideal S2048x2048 .bf16} {d : Fin 2048} (e : ∀ k, h k = h' k) :
    part h w w' d = part h' w w' d := by
  rw [funext e]

section
variable (x : Vec Ideal S256x2048 .f32) (g : Vec Ideal S1x2048 .f32) (h : Vec Ideal S256x2048 .bf16)
  (w w' : Vec Ideal S2048x2048 .bf16) (a : Vec Ideal S256x2048 .f32) (r : Fin 256) (d : Fin 2048)

theorem normA_at : k0_pay7 x g (ix2 r d) = rowNorm (fun k => x (ix2 r k)) (g (ix2 0 d)) d := by
  pointwise [k0_pay7, rowNorm]

theorem normA'_at : k0_pay8 x g (ix2 r d) = rowNorm (fun k => x (ix2 r k)) (g (ix2 0 d)) d := by
  pointwise [k0_pay8, normA_at]

theorem normB_at : k0_pay1 (k0_pay10 x) (k0_pay11 g) (k0_pay12 x) (ix2 r d) = rowNorm (fun k => x (ix2 r k)) (g (ix2 0 d)) d := by
  pointwise [k0_pay1, k0_pay10, k0_pay11, k0_pay12, rowNorm]

theorem normB'_at : k0_pay2 (k0_pay10 x) (k0_pay11 g) (k0_pay12 x) (ix2 r d) = rowNorm (fun k => x (ix2 r k)) (g (ix2 0 d)) d := by
  pointwise [k0_pay2, normB_at]

theorem partA_at : k0_pay9 x g w w' (ix2 r d) = part (fun k => rowNorm (fun k => x (ix2 r k)) (g (ix2 0 k)) k) w w' d := by
  pointwise [k0_pay9, part, sqTerm, normA_at]

theorem partB_at : k0_pay3 (k0_pay10 x) (k0_pay11 g) (k0_pay12 x) w w' (ix2 r d)
    = part (fun k => rowNorm (fun k => x (ix2 r k)) (g (ix2 0 k)) k) w w' d := by
  pointwise [k0_pay3, part, sqTerm, normB_at]

theorem stepA_at : k0_pay4 h w w' a (ix2 r d) = a (ix2 r d) + part (fun k => h (ix2 r k)) w w' d := by
  pointwise [k0_pay4, part, sqTerm]

theorem stepB_at : k0_pay5 h w w' a (ix2 r d) = a (ix2 r d) + part (fun k => h (ix2 r k)) w w' d := by
  pointwise [k0_pay5, part, sqTerm]

theorem lastA_at : k0_pay13 h w w' a x g (ix2 r d)
    = cell (fun d => a (ix2 r d) + part (fun k => h (ix2 r k)) w w' d) (x (ix2 r d)) (g (ix2 0 d)) d := by
  pointwise [k0_pay13, part, sqTerm, cell, rowNorm]

theorem lastB_at : k0_pay6 h (k0_pay14 w) w' a x g (ix2 r d)
    = cell (fun d => a (ix2 r d) + part (fun k => h (ix2 r k)) w w' d) (x (ix2 r d)) (g (ix2 0 d)) d := by
  pointwise [k0_pay6, k0_pay14, part, sqTerm, cell, rowNorm]
end

/-! ## The three cases of a step, over whole blocks -/

/-- The normalised block. -/
def hBlk (x : Vec Ideal S512x2048 .f32) (g : Vec Ideal S1x2048 .f32) : Vec Ideal S512x2048 .bf16 :=
  fun y => rowNorm (fun k => x (ix2 (y 0) k)) (g (ix2 0 (y 1))) (y 1)

/-- A step's contribution to the block. -/
def pBlk (h : Vec Ideal S512x2048 .bf16) (w w' : Vec Ideal S2048x2048 .bf16) : Vec Ideal S512x2048 .f32 :=
  fun y => part (fun k => h (ix2 (y 0) k)) w w' (y 1)

theorem ld_lo {e : EltTy} (X : Vec Ideal S512x2048 e) (r : Fin 256) (d : Fin 2048) :
    (View.ld X (Rect.unit ![0, 0] ![256, 2048] inb_S512x2048_S256x2048_0_0) : Vec Ideal S256x2048 e) (ix2 r d) = X (ix2 ⟨r.val, by omega⟩ d) :=
  View.ld_unit_apply_of _ _ _ _ _ _ (Fin.forall_fin_two.mpr ⟨(Nat.zero_add _).symm, (Nat.zero_add _).symm⟩)

theorem ld_hi {e : EltTy} (X : Vec Ideal S512x2048 e) (r : Fin 256) (d : Fin 2048) :
    (View.ld X (Rect.unit ![256, 0] ![256, 2048] inb_S512x2048_S256x2048_256_0) : Vec Ideal S256x2048 e) (ix2 r d) = X (ix2 ⟨256 + r.val, by omega⟩ d) :=
  View.ld_unit_apply_of _ _ _ _ _ _ (Fin.forall_fin_two.mpr ⟨rfl, (Nat.zero_add _).symm⟩)

variable (m : (ℓ : Loc nD τ sig) → Buf (Elt Ideal) ℓ)

/-- An index of the block from its row inside the lower half. -/
theorem eq_lo {y : S512x2048.Idx} {x : S256x2048.Idx} (h0 : (y 0 : ℕ) = (x 0 : ℕ)) (h1 : (y 1 : ℕ) = (x 1 : ℕ)) :
    y = ix2 ⟨(x 0 : ℕ), by have : (x 0 : ℕ) < 256 := (x 0).isLt; omega⟩ (x 1) :=
  (eq_ix2 y).trans (congrArg₂ ix2 (Fin.ext h0) (Fin.ext h1))

/-- An index of the block from its row inside the upper half. -/
theorem eq_hi {y : S512x2048.Idx} {x : S256x2048.Idx} (h0 : (y 0 : ℕ) = 256 + (x 0 : ℕ)) (h1 : (y 1 : ℕ) = (x 1 : ℕ)) :
    y = ix2 ⟨256 + (x 0 : ℕ), by have : (x 0 : ℕ) < 256 := (x 0).isLt; omega⟩ (x 1) :=
  (eq_ix2 y).trans (congrArg₂ ix2 (Fin.ext h0) (Fin.ext h1))

theorem first_h (c : Dev nD) (t : Fin cfg0.N) (h0 : t.val % 4 = 0) :
    (outsAt0 m c t.val t.isLt).2 = hBlk (iblk m c 0 t) (iblk m c 1 t) := by
  rw [outsAt0_A m c t h0 (by omega) (by omega)]
  frame_out
  funext y
  canon_tiles x h
  case piece0 =>
    rw [eq_hi h0 h1]
    refine (congrArg _ (eq_ix2 x)).trans ((normB'_at _ _ (x 0) (x 1)).trans ?_)
    exact rowNorm_congr (fun k => ld_hi _ (x 0) k) rfl
  case piece1 =>
    rw [eq_lo h0 h1]
    refine (congrArg _ (eq_ix2 x)).trans ((normA'_at _ _ (x 0) (x 1)).trans ?_)
    exact rowNorm_congr (fun k => ld_lo _ (x 0) k) rfl

theorem first_p (c : Dev nD) (t : Fin cfg0.N) (h0 : t.val % 4 = 0) :
    (outsAt0 m c t.val t.isLt).1 = pBlk (hBlk (iblk m c 0 t) (iblk m c 1 t)) (iblk m c 3 t) (iblk m c 4 t) := by
  rw [outsAt0_A m c t h0 (by omega) (by omega)]
  frame_out
  funext y
  canon_tiles x h
  case piece0 =>
    rw [eq_hi h0 h1]
    refine (congrArg _ (eq_ix2 x)).trans ((partB_at _ _ _ _ (x 0) (x 1)).trans ?_)
    exact part_congr (fun k => rowNorm_congr (fun k => ld_hi _ (x 0) k) rfl)
  case piece1 =>
    rw [eq_lo h0 h1]
    refine (congrArg _ (eq_ix2 x)).trans ((partA_at _ _ _ _ (x 0) (x 1)).trans ?_)
    exact part_congr (fun k => rowNorm_congr (fun k => ld_lo _ (x 0) k) rfl)

theorem mid_h (c : Dev nD) (t : Fin cfg0.N) (h1 : 1 ≤ t.val % 4 ∧ t.val % 4 ≤ 2) :
    (outsAt0 m c t.val t.isLt).2 = (outsAt0 m c (t.val - 1) (by omega)).2 := by
  rw [outsAt0_B m c t (by omega) h1 (by omega)]
  rfl

theorem mid_p (c : Dev nD) (t : Fin cfg0.N) (h1 : 1 ≤ t.val % 4 ∧ t.val % 4 ≤ 2) :
    (outsAt0 m c t.val t.isLt).1 = fun y => (outsAt0 m c (t.val - 1) (by omega)).1 y
      + pBlk (outsAt0 m c (t.val - 1) (by omega)).2 (iblk m c 3 t) (iblk m c 4 t) y := by
  rw [outsAt0_B m c t (by omega) h1 (by omega)]
  frame_out
  funext y
  canon_tiles x h
  case piece0 =>
    rw [eq_hi h0 h1]
    refine (congrArg _ (eq_ix2 x)).trans ((stepB_at _ _ _ _ (x 0) (x 1)).trans ?_)
    exact congrArg₂ (· + ·) (ld_hi _ (x 0) _) (part_congr (fun k => (ld_hi _ (x 0) k).trans (congrFun (Memref.IsWhole.read_unread _ _) _)))
  case piece1 =>
    rw [eq_lo h0 h1]
    refine (congrArg _ (eq_ix2 x)).trans ((stepA_at _ _ _ _ (x 0) (x 1)).trans ?_)
    exact congrArg₂ (· + ·) (ld_lo _ (x 0) _) (part_congr (fun k => (ld_lo _ (x 0) k).trans (congrFun (Memref.IsWhole.read_unread _ _) _)))

theorem last_p (c : Dev nD) (t : Fin cfg0.N) (h2 : t.val % 4 = 3) (y : S512x2048.Idx) :
    (outsAt0 m c t.val t.isLt).1 y = cell (fun d => (outsAt0 m c (t.val - 1) (by omega)).1 (ix2 (y 0) d)
      + pBlk (outsAt0 m c (t.val - 1) (by omega)).2 (iblk m c 3 t) (iblk m c 4 t) (ix2 (y 0) d))
        (iblk m c 0 t y) (iblk m c 2 t (ix2 0 (y 1))) (y 1) := by
  rw [outsAt0_C m c t (by omega) (by omega) h2]
  frame_out
  canon_tiles x h
  case piece0 =>
    rw [eq_hi h0 h1]
    refine (congrArg _ (eq_ix2 x)).trans ((lastB_at _ _ _ _ _ _ (x 0) (x 1)).trans ?_)
    exact cell_congr (fun d => congrArg₂ (· + ·) (ld_hi _ (x 0) _) (part_congr (fun k => (ld_hi _ (x 0) k).trans (congrFun (Memref.IsWhole.read_unread _ _) _)))) (ld_hi _ (x 0) _) rfl rfl
  case piece1 =>
    rw [eq_lo h0 h1]
    refine (congrArg _ (eq_ix2 x)).trans ((lastA_at _ _ _ _ _ _ (x 0) (x 1)).trans ?_)
    exact cell_congr (fun d => congrArg₂ (· + ·) (ld_lo _ (x 0) _) (part_congr (fun k => (ld_lo _ (x 0) k).trans (congrFun (Memref.IsWhole.read_unread _ _) _)))) (ld_lo _ (x 0) _) rfl rfl

/-! ## The blocks, read in the arguments -/

/-- Every window's block index, as a function of the grid point. -/
theorem idx : ∀ t : Fin cfg0.N, win0_0.index t = ![t.val / 4, 0] ∧ win0_1.index t = ![0, 0] ∧ win0_2.index t = ![0, 0]
    ∧ win0_3.index t = ![0, t.val % 4] ∧ win0_4.index t = ![t.val % 4, 0] ∧ win0_5.index t = ![t.val / 4, 0] ∧ t.val < 128 :=
  (by decide +kernel : ∀ t : Fin grid0.N, _)

/-- The residual at a row of token block `b`. -/
def xRow (c : Dev nD) (b : Fin 32) (r : Fin 512) (k : Fin 2048) : EReal :=
  m ((c : Thread nD τ).loc main_arg0) (ix3 ⟨(b.val * 512 + r.val) / 4096, by omega⟩ ⟨(b.val * 512 + r.val) % 4096, by omega⟩ k)

/-- The normalised row. -/
def hRow (c : Dev nD) (b : Fin 32) (r : Fin 512) (k : Fin 2048) : EReal :=
  rowNorm (xRow m c b r) (m ((c : Thread nD τ).loc main_arg1) (ix2 0 k)) k

/-- The `j`-th quarter of the hidden features' contribution. -/
def quart (c : Dev nD) (b : Fin 32) (r : Fin 512) (j : Fin 4) (d : Fin 2048) : EReal :=
  ∑ l : Fin 2048, sqTerm (∑ k : Fin 2048, hRow m c b r k * m ((c : Thread nD τ).loc main_arg3) (ix3 0 k ⟨j.val * 2048 + l.val, by omega⟩))
    (m ((c : Thread nD τ).loc main_arg4) (ix3 0 ⟨j.val * 2048 + l.val, by omega⟩ d))

section
variable (c : Dev nD) (t : Fin cfg0.N) (b : Fin 32) (j : Fin 4) (r : Fin 512) (d : Fin 2048)

theorem x_at (hb : t.val / 4 = b.val) : iblk m c 0 t (ix2 r d) = xRow m c b r d := by
  pointwise [xRow]
  blk_point [iblk, idx t]

theorem g_at : iblk m c 1 t (ix2 0 d) = m ((c : Thread nD τ).loc main_arg1) (ix2 0 d) := by
  blk_point [iblk, idx t]

theorem g'_at : iblk m c 2 t (ix2 0 d) = m ((c : Thread nD τ).loc main_arg2) (ix2 0 d) := by
  blk_point [iblk, idx t]

theorem w_at (hj : t.val % 4 = j.val) (l : Fin 2048) :
    iblk m c 3 t (ix2 d l) = m ((c : Thread nD τ).loc main_arg3) (ix3 0 d ⟨j.val * 2048 + l.val, by omega⟩) := by
  blk_point [iblk, idx t]

theorem w'_at (hj : t.val % 4 = j.val) (l : Fin 2048) :
    iblk m c 4 t (ix2 l d) = m ((c : Thread nD τ).loc main_arg4) (ix3 0 ⟨j.val * 2048 + l.val, by omega⟩ d) := by
  blk_point [iblk, idx t]

theorem hBlk_at (hb : t.val / 4 = b.val) : hBlk (iblk m c 0 t) (iblk m c 1 t) (ix2 r d) = hRow m c b r d :=
  rowNorm_congr (fun k => x_at m c t b r k hb) (g_at m c t d)

theorem pBlk_at (hj : t.val % 4 = j.val) (h : Vec Ideal S512x2048 .bf16) (hh : ∀ k : Fin 2048, h (ix2 r k) = hRow m c b r k) :
    pBlk h (iblk m c 3 t) (iblk m c 4 t) (ix2 r d) = quart m c b r j d := by
  have e : pBlk h (iblk m c 3 t) (iblk m c 4 t) (ix2 r d) = part (fun k => h (ix2 r k)) (iblk m c 3 t) (iblk m c 4 t) d := rfl
  rw [e, funext hh]
  unfold part quart
  refine Finset.sum_congr rfl fun l _ => ?_
  rw [w'_at m c t j d hj l]
  refine congrArg (fun z => sqTerm z _) (Finset.sum_congr rfl fun k _ => ?_)
  rw [w_at m c t j k hj l]
end

/-! ## The four steps of a token block -/

section
variable (c : Dev nD) (b : Fin 32) (r : Fin 512) (d : Fin 2048)

/-- The step before, in the same token block. -/
theorem prev {t : Fin cfg0.N} {j : ℕ} (hb : t.val / 4 = b.val) (hj : t.val % 4 = j + 1) :
    (t.val - 1) / 4 = b.val ∧ (t.val - 1) % 4 = j := by omega

theorem h0_at (t : Fin cfg0.N) (hb : t.val / 4 = b.val) (hj : t.val % 4 = 0) : (outsAt0 m c t.val t.isLt).2 (ix2 r d) = hRow m c b r d := by
  rw [first_h m c t hj]
  exact hBlk_at m c t b r d hb

theorem a0_at (t : Fin cfg0.N) (hb : t.val / 4 = b.val) (hj : t.val % 4 = 0) : (outsAt0 m c t.val t.isLt).1 (ix2 r d) = quart m c b r 0 d := by
  rw [first_p m c t hj]
  exact pBlk_at m c t b 0 r d hj _ (fun k => hBlk_at m c t b r k hb)

theorem h1_at (t : Fin cfg0.N) (hb : t.val / 4 = b.val) (hj : t.val % 4 = 1) : (outsAt0 m c t.val t.isLt).2 (ix2 r d) = hRow m c b r d := by
  rw [mid_h m c t (by omega)]
  exact h0_at m c b r d ⟨t.val - 1, by omega⟩ (prev b hb hj).1 (prev b hb hj).2

theorem a1_at (t : Fin cfg0.N) (hb : t.val / 4 = b.val) (hj : t.val % 4 = 1) :
    (outsAt0 m c t.val t.isLt).1 (ix2 r d) = quart m c b r 0 d + quart m c b r 1 d := by
  rw [mid_p m c t (by omega)]
  exact congrArg₂ (· + ·) (a0_at m c b r d ⟨t.val - 1, by omega⟩ (prev b hb hj).1 (prev b hb hj).2)
    (pBlk_at m c t b 1 r d hj _ (fun k => h0_at m c b r k ⟨t.val - 1, by omega⟩ (prev b hb hj).1 (prev b hb hj).2))

theorem h2_at (t : Fin cfg0.N) (hb : t.val / 4 = b.val) (hj : t.val % 4 = 2) : (outsAt0 m c t.val t.isLt).2 (ix2 r d) = hRow m c b r d := by
  rw [mid_h m c t (by omega)]
  exact h1_at m c b r d ⟨t.val - 1, by omega⟩ (prev b hb hj).1 (prev b hb hj).2

theorem a2_at (t : Fin cfg0.N) (hb : t.val / 4 = b.val) (hj : t.val % 4 = 2) :
    (outsAt0 m c t.val t.isLt).1 (ix2 r d) = quart m c b r 0 d + quart m c b r 1 d + quart m c b r 2 d := by
  rw [mid_p m c t (by omega)]
  exact congrArg₂ (· + ·) (a1_at m c b r d ⟨t.val - 1, by omega⟩ (prev b hb hj).1 (prev b hb hj).2)
    (pBlk_at m c t b 2 r d hj _ (fun k => h1_at m c b r k ⟨t.val - 1, by omega⟩ (prev b hb hj).1 (prev b hb hj).2))

theorem a3_at (t : Fin cfg0.N) (hb : t.val / 4 = b.val) (hj : t.val % 4 = 3) : (outsAt0 m c t.val t.isLt).1 (ix2 r d)
    = cell (fun d => ∑ j : Fin 4, quart m c b r j d) (xRow m c b r d) (m ((c : Thread nD τ).loc main_arg2) (ix2 0 d)) d := by
  rw [last_p m c t hj]
  refine cell_congr (fun k => ?_) (x_at m c t b r d hb) (g'_at m c t d) rfl
  rw [Fin.sum_univ_four]
  exact congrArg₂ (· + ·) (a2_at m c b r k ⟨t.val - 1, by omega⟩ (prev b hb hj).1 (prev b hb hj).2)
    (pBlk_at m c t b 3 r k hj _ (fun k => h2_at m c b r k ⟨t.val - 1, by omega⟩ (prev b hb hj).1 (prev b hb hj).2))

end

/-- The reference over the program's arguments. -/
abbrev refAt (c : Dev nD) : Vec Ideal S16384x2048 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4))

/-- The reference at a row of token block `b`: the hidden features split in four quarters. -/
theorem ref_row (c : Dev nD) (b : Fin 32) (r : Fin 512) (d : Fin 2048) (R : Fin 16384) (hR : R.val = b.val * 512 + r.val) :
    refAt m c (ix2 R d)
      = cell (fun d => ∑ j : Fin 4, quart m c b r j d) (xRow m c b r d) (m ((c : Thread nD τ).loc main_arg2) (ix2 0 d)) d := by
  have hlt : b.val * 512 + r.val < 16384 := by omega
  obtain rfl : (⟨b.val * 512 + r.val, hlt⟩ : Fin 16384) = R := Fin.ext hR.symm
  refine (ref_at _ _ _ _ _ _ d).trans (cell_congr (fun k => ?_) rfl rfl rfl)
  refine (hidden_at _ _ _ _ _ _ k).trans ?_
  refine (Fin.sum_univ_tiles 4 2048 rfl _).trans (Finset.sum_congr rfl fun j _ => Finset.sum_congr rfl fun l _ => ?_)
  rfl

theorem point (c : Dev nD) (t : Fin cfg0.N) (hj : t.val % 4 = 3) (y : S512x2048.Idx) :
    (outsAt0 m c t.val t.isLt).1 y = refAt m c (((cfg0.win 5).blk t).view.emb y) := by
  have ht := (idx t).2.2.2.2.2.2
  obtain ⟨r, d, hy⟩ : ∃ (r : Fin 512) (d : Fin 2048), y = ix2 r d := ⟨_, _, eq_ix2 _⟩
  subst hy
  obtain ⟨R, D, hR⟩ : ∃ (R : Fin 16384) (D : Fin 2048), ((cfg0.win 5).blk t).view.emb (ix2 r d) = ix2 R D := ⟨_, _, eq_ix2 _⟩
  have h0 : (R : ℕ) = t.val / 4 * 512 + r.val := by
    have := congrArg (fun i : S16384x2048.Idx => (i 0 : ℕ)) hR
    blk_simp [idx t] at this
    omega
  obtain rfl : D = d := by
    have := congrArg (fun i : S16384x2048.Idx => (i 1 : ℕ)) hR
    blk_simp [idx t] at this
    exact Fin.ext (by omega)
  rw [hR, ref_row m c ⟨t.val / 4, by omega⟩ r D R h0]
  exact a3_at m c ⟨t.val / 4, by omega⟩ r D t rfl hj

/-- The result array after the run is the reference's. -/
theorem final (c : Dev nD) : (dats m 0 c).arrAt 5 (cfgs 0).N = refAt m c := by
  refine (dats m 0 c).arrAt_eq_of_covers 5 _ (by decide +kernel) fun t hf y => ?_
  blk_simp
  rw [after0_5]
  exact point m c t ((flush0_5 t).mp hf) y

end Cert.Proof.Mlp

end
-- ==== Proof.Outproj.Value.lean ====
/- The output projection's result array: every block the kernel writes back is the reference's array read
   at that block. -/
module

public import proofs.«01_k».proof.Proof.Gen.Kernel3Ideal.Value
public import proofs.«01_k».proof.Proof.Gen.Reference3Ideal.Run
public import proofs.«01_k».proof.Proof.Row
public import Idealize.ShloMosaic.Lib.Pipeline.ValueKit
public import Idealize.ShloMosaic.Lib.Pointwise

@[expose] public section

set_option maxRecDepth 16384

noncomputable section

namespace Cert.Proof.Outproj

open Idealize.ShloMosaic Idealize.ShloMosaic.TcCoe Idealize.SL.Sem
open Idealize.ShloMosaic.Pipeline (Dat)
open Cert.Proof.Row

section
open Cert.Reference3Ideal Cert.Reference3Ideal.Gen

/-- The projected token: both heads' outputs side by side, times the output weights. -/
def proj (A B : FVec Ideal S4x4096x1024 .f32) (W : FVec Ideal S1x2048x2048 .f32) : FVec Ideal S4x4096x2048 .f32 :=
  Host.dotGeneral (φ₁ := .f32) (φ₂ := .f32) dot_S4x4096x2048_S2048x2048_S4x4096x2048_2_0_01_1_n_n none
    (concatenate S4x4096x2048 2 [⟨S4x4096x1024, A⟩, ⟨S4x4096x1024, B⟩] concatenates_S4x4096x1024_S4x4096x1024_S4x4096x2048_d2)
    (shapeCast _ W shapeCasts_S1x2048x2048_S2048x2048)

/-- The reference's result over its five arguments. -/
def ref (A B : FVec Ideal S4x4096x1024 .f32) (X : FVec Ideal S4x4096x2048 .f32) (W : FVec Ideal S1x2048x2048 .f32)
    (G : FVec Ideal S1x2048 .f32) : FVec Ideal S16384x2048 .f32 :=
  shapeCast _ (addf X (mulf (mulf (proj A B W)
    (broadcastInDim S4x4096x2048 ![0, 1, 2] bcast_S4x4096x1_S4x4096x2048_0_1_2
      (Host.rsqrt (addf (Host.divf (broadcastInDim S4x4096x1 ![0, 1] bcast_S4x4096_S4x4096x1_0_1
          (Host.reduceAdd (mulf (proj A B W) (proj A B W)) (constant S_ .f32 0x00000000#32) reducesTo_S4x4096x2048_S4x4096_d2 h_S_))
        (broadcastInDim S4x4096x1 ![] bcast_S_S4x4096x1 (constant S_ .f32 0x45000000#32)))
        (broadcastInDim S4x4096x1 ![] bcast_S_S4x4096x1 (constant S_ .f32 0x358637BD#32))))))
    (broadcastInDim S4x4096x2048 ![0, 1, 2] bcast_S1x1x2048_S4x4096x2048_0_1_2
      (broadcastInDim S1x1x2048 ![2] bcast_S2048_S1x1x2048_2 (shapeCast _ G shapeCasts_S1x2048_S2048)))))
    shapeCasts_S4x4096x2048_S16384x2048

/-- The projection at an index: one sum per half of the concatenated axis. -/
theorem proj_at (A B : FVec Ideal S4x4096x1024 .f32) (W : FVec Ideal S1x2048x2048 .f32) (b : Fin 4) (s : Fin 4096) (d : Fin 2048) :
    proj A B W (ix3 b s d) = (∑ k : Fin 1024, A (ix3 b s k) * W (ix3 0 ⟨k.val, by omega⟩ d))
      + ∑ k : Fin 1024, B (ix3 b s k) * W (ix3 0 ⟨1024 + k.val, by omega⟩ d) := by
  pointwise [proj]

/-- The reference at an index of the flattened result: the token is the row's quotient and remainder by 4096. -/
theorem ref_at (A B : FVec Ideal S4x4096x1024 .f32) (X : FVec Ideal S4x4096x2048 .f32) (W : FVec Ideal S1x2048x2048 .f32)
    (G : FVec Ideal S1x2048 .f32) (r : Fin 16384) (d : Fin 2048) :
    ref A B X W G (ix2 r d) = cell (fun k => proj A B W (ix3 ⟨r.val / 4096, by omega⟩ ⟨r.val % 4096, by omega⟩ k))
      (X (ix3 ⟨r.val / 4096, by omega⟩ ⟨r.val % 4096, by omega⟩ d)) (G (ix2 0 d)) d := by
  pointwise [ref, cell, rowNorm]

end

section
open Cert.Kernel3Ideal Cert.Kernel3Ideal.Gen
variable (m : (ℓ : Loc nD τ sig) → Buf (Elt Ideal) ℓ)

/-- Every window's block index, as a function of the grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ t.val < 16 :=
  (by decide +kernel : ∀ t : Fin grid0.N, _)

/-- The tile's projected token over the loaded blocks: the two heads' halves, each times its half of the weights. -/
def tok (a : Vec Ideal S256x1024 .bf16) (w : Vec Ideal S1024x2048 .bf16) (b : Vec Ideal S256x1024 .bf16)
    (w' : Vec Ideal S1024x2048 .bf16) (r : Fin 256) (d : Fin 2048) : EReal :=
  (∑ k : Fin 1024, a (ix2 r k) * w (ix2 k d)) + ∑ k : Fin 1024, b (ix2 r k) * w' (ix2 k d)

section
variable (a : Vec Ideal S256x1024 .bf16) (w : Vec Ideal S1024x2048 .bf16) (b : Vec Ideal S256x1024 .bf16)
  (w' : Vec Ideal S1024x2048 .bf16) (x : Vec Ideal S256x2048 .f32) (g : Vec Ideal S1x2048 .f32) (r : Fin 256) (d : Fin 2048)

theorem tile0_at : k0_pay2 a w b w' x g (ix2 r d) = cell (tok a w b w' r) (x (ix2 r d)) (g (ix2 0 d)) d := by
  pointwise [k0_pay2, cell, rowNorm, tok]

theorem tile1_at : k0_pay4 (k0_pay3 a w) b w' x g (ix2 r d) = cell (tok a w b w' r) (x (ix2 r d)) (g (ix2 0 d)) d := by
  pointwise [k0_pay3, k0_pay4, cell, rowNorm, tok]

theorem tile2_at : k0_pay6 (k0_pay5 a w b w') x g (ix2 r d) = cell (tok a w b w' r) (x (ix2 r d)) (g (ix2 0 d)) d := by
  pointwise [k0_pay5, k0_pay6, cell, rowNorm, tok]

theorem tile3_at : k0_pay1 (k0_pay7 a w b w') (k0_pay8 x) (k0_pay9 g) (k0_pay10 a w b w') (ix2 r d)
    = cell (tok a w b w' r) (x (ix2 r d)) (g (ix2 0 d)) d := by
  pointwise [k0_pay1, k0_pay7, k0_pay8, k0_pay9, k0_pay10, cell, rowNorm, tok]
end

set_option maxHeartbeats 1000000 in
/-- One block's stores, read at an index of the block, are the reference read where the index lands. -/
theorem point (c : Dev nD) (t : Fin cfg0.N) (y : S1024x2048.Idx) :
    out0_5 (iblk m c 0 t) (iblk m c 1 t) (iblk m c 2 t) (iblk m c 3 t) (iblk m c 4 t) y
      = ref (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  obtain ⟨r, d, hj⟩ : ∃ (r : Fin 16384) (d : Fin 2048), ((cfg0.win 5).blk t).view.emb y = ix2 r d := ⟨_, _, eq_ix2 _⟩
  have hr : (r : ℕ) = t.val * 1024 + (y 0 : ℕ) := by
    have := congrArg (fun i : S16384x2048.Idx => (i 0 : ℕ)) hj
    blk_simp [idx t] at this
    omega
  have hd : (d : ℕ) = (y 1 : ℕ) := by
    have := congrArg (fun i : S16384x2048.Idx => (i 1 : ℕ)) hj
    blk_simp [idx t] at this
    omega
  rw [hj]
  refine Eq.trans ?_ (ref_at _ _ _ _ _ r d).symm
  canon_tiles x h
  case piece0 =>
    refine Eq.trans (congrArg _ (eq_ix2 x)) ((tile3_at _ _ _ _ _ _ (x 0) (x 1)).trans (cell_congr (fun k => ?_) ?_ ?_ (Fin.ext (by omega))))
    · refine Eq.trans ?_ (proj_at _ _ _ _ _ k).symm
      pointwise [tok]
      blk_point [iblk, idx t]
    all_goals pointwise
    all_goals blk_point [iblk, idx t]
  case piece1 =>
    refine Eq.trans (congrArg _ (eq_ix2 x)) ((tile2_at _ _ _ _ _ _ (x 0) (x 1)).trans (cell_congr (fun k => ?_) ?_ ?_ (Fin.ext (by omega))))
    · refine Eq.trans ?_ (proj_at _ _ _ _ _ k).symm
      pointwise [tok]
      blk_point [iblk, idx t]
    all_goals pointwise
    all_goals blk_point [iblk, idx t]
  case piece2 =>
    refine Eq.trans (congrArg _ (eq_ix2 x)) ((tile1_at _ _ _ _ _ _ (x 0) (x 1)).trans (cell_congr (fun k => ?_) ?_ ?_ (Fin.ext (by omega))))
    · refine Eq.trans ?_ (proj_at _ _ _ _ _ k).symm
      pointwise [tok]
      blk_point [iblk, idx t]
    all_goals pointwise
    all_goals blk_point [iblk, idx t]
  case piece3 =>
    refine Eq.trans (congrArg _ (eq_ix2 x)) ((tile0_at _ _ _ _ _ _ (x 0) (x 1)).trans (cell_congr (fun k => ?_) ?_ ?_ (Fin.ext (by omega))))
    · refine Eq.trans ?_ (proj_at _ _ _ _ _ k).symm
      pointwise [tok]
      blk_point [iblk, idx t]
    all_goals pointwise
    all_goals blk_point [iblk, idx t]

/-- The result array after the run is the reference's. -/
theorem final (c : Dev nD) : (dats m 0 c).arrAt 5 (cfgs 0).N
    = ref (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  exact point m c t y
end

end Cert.Proof.Outproj

end
-- ==== Proof.Attn.Step.lean ====
/- One chain of 256 query rows over blocks of keys: the running maximum, the running sum and the running weighted sum,
   a block at a time, and the quotient stored at the end; the sixteen stores of a grid point are sixteen such chains. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Proof.Attn

open Idealize.ShloMosaic Idealize.ShloMosaic.TcCoe
open Cert.KernelIdeal Cert.KernelIdeal.Gen

/-- What a chain carries from block to block: the maximum, the sum and the weighted sum, one lane per value feature. -/
structure St where
  m : FVec Ideal S256x128 .f32
  l : FVec Ideal S256x128 .f32
  a : FVec Ideal S256x128 .f32

/-- The scores of 256 queries against 512 keys. -/
def sc4 (q : Vec Ideal S1x1x256x256 .bf16) (k : Vec Ideal S1x1x512x256 .bf16) : FVec Ideal S256x512 .f32 :=
  matmul (φ₁ := .bf16) (φ₂ := .bf16) dot_S256x256_S512x256_S256x512_1_1_0_0_n_n none (shapeCast S256x256 q shapeCasts_S1x1x256x256_S256x256)
    (shapeCast S512x256 k shapeCasts_S1x1x512x256_S512x256) (constant S256x512 .f32 0x00000000#32)

/-- The scores of 256 queries against 256 keys. -/
def sc2 (q : Vec Ideal S1x1x256x256 .bf16) (k : Vec Ideal S1x1x256x256 .bf16) : FVec Ideal S256x256 .f32 :=
  matmul (φ₁ := .bf16) (φ₂ := .bf16) dot_S256x256_S256x256_S256x256_1_1_0_0_n_n none (shapeCast S256x256 q shapeCasts_S1x1x256x256_S256x256)
    (shapeCast S256x256 k shapeCasts_S1x1x256x256_S256x256) (constant S256x256 .f32 0x00000000#32)

/-- The row maximum of four score blocks. -/
def max4 (b0 b1 b2 b3 : FVec Ideal S256x128 .f32) : FVec Ideal S256x1 .f32 :=
  shapeCast S256x1 (multiReduction .maximumf [1] S256 (maximumf (maximumf (maximumf b0 b1) b2) b3) 0xFF800000#32
    reduces_S256x128_S256 (.inl rfl) rfl) shapeCasts_S256_S256x1

/-- The row maximum of two score blocks. -/
def max2 (b0 b1 : FVec Ideal S256x128 .f32) : FVec Ideal S256x1 .f32 :=
  shapeCast S256x1 (multiReduction .maximumf [1] S256 (maximumf b0 b1) 0xFF800000#32
    reduces_S256x128_S256 (.inl rfl) rfl) shapeCasts_S256_S256x1

/-- The powers of four score blocks less `m`, times the values with a block of ones beside them. -/
def pv4 (b0 b1 b2 b3 m : FVec Ideal S256x128 .f32) (v : Vec Ideal S1x1x512x128 .bf16) : FVec Ideal S256x256 .f32 :=
  matmul dot_S256x512_S512x256_S256x256_1_0_0_1_n_n none
    (truncf .bf16 (concatenate S256x512 1 [⟨S256x128, exp2 (subf b0 m)⟩, ⟨S256x128, exp2 (subf b1 m)⟩, ⟨S256x128, exp2 (subf b2 m)⟩,
      ⟨S256x128, exp2 (subf b3 m)⟩] concatenates_S256x128_S256x128_S256x128_S256x128_S256x512_d1) bitsLt_bf16_f32)
    (concatenate S512x256 1 [⟨S512x128, shapeCast S512x128 v shapeCasts_S1x1x512x128_S512x128⟩,
      ⟨S512x128, broadcast S512x128 (Scalar.ofBits (F := Ideal) .bf16 0x3F80#16)⟩] concatenates_S512x128_S512x128_S512x256_d1)
    (constant S256x256 .f32 0x00000000#32)

/-- The powers of two score blocks less `m`, times the values with a block of ones beside them. -/
def pv2 (b0 b1 m : FVec Ideal S256x128 .f32) (v : Vec Ideal S1x1x256x128 .bf16) : FVec Ideal S256x256 .f32 :=
  matmul dot_S256x256_S256x256_S256x256_1_0_0_1_n_n none
    (truncf .bf16 (concatenate S256x256 1 [⟨S256x128, exp2 (subf b0 m)⟩, ⟨S256x128, exp2 (subf b1 m)⟩]
      concatenates_S256x128_S256x128_S256x256_d1) bitsLt_bf16_f32)
    (concatenate S256x256 1 [⟨S256x128, shapeCast S256x128 v shapeCasts_S1x1x256x128_S256x128⟩,
      ⟨S256x128, broadcast S256x128 (Scalar.ofBits (F := Ideal) .bf16 0x3F80#16)⟩] concatenates_S256x128_S256x128_S256x256_d1)
    (constant S256x256 .f32 0x00000000#32)

/-- The first block's state from its maximum and its product. -/
def first (x : FVec Ideal S256x1 .f32) (pv : FVec Ideal S256x128 .f32 → FVec Ideal S256x256 .f32) : St :=
  ⟨broadcastTo S256x128 (shapeCast S256x1 x shapeCasts_S256x1_S256x1) broadcasts_S256x1_S256x128,
   extractStridedSlice S256x128 ![0, 128] (pv (broadcastTo S256x128 (shapeCast S256x1 x shapeCasts_S256x1_S256x1) broadcasts_S256x1_S256x128))
     slices_S256x256_o0_128_S256x128,
   extractStridedSlice S256x128 ![0, 0] (pv (broadcastTo S256x128 (shapeCast S256x1 x shapeCasts_S256x1_S256x1) broadcasts_S256x1_S256x128))
     slices_S256x256_o0_0_S256x128⟩

/-- A later block's state: the maximum grows, what is carried is scaled down to it. -/
def next (s : St) (x : FVec Ideal S256x1 .f32) (pv : FVec Ideal S256x128 .f32 → FVec Ideal S256x256 .f32) : St :=
  ⟨maximumf s.m (broadcastTo S256x128 x broadcasts_S256x1_S256x128),
   addf (mulf (exp2 (subf s.m (maximumf s.m (broadcastTo S256x128 x broadcasts_S256x1_S256x128)))) s.l)
     (extractStridedSlice S256x128 ![0, 128] (pv (maximumf s.m (broadcastTo S256x128 x broadcasts_S256x1_S256x128))) slices_S256x256_o0_128_S256x128),
   addf (mulf (exp2 (subf s.m (maximumf s.m (broadcastTo S256x128 x broadcasts_S256x1_S256x128)))) s.a)
     (extractStridedSlice S256x128 ![0, 0] (pv (maximumf s.m (broadcastTo S256x128 x broadcasts_S256x1_S256x128))) slices_S256x256_o0_0_S256x128)⟩

/-- The four score blocks of a full block of keys. -/
abbrev b0 (s : FVec Ideal S256x512 .f32) : FVec Ideal S256x128 .f32 := extractStridedSlice S256x128 ![0, 0] s slices_S256x512_o0_0_S256x128
abbrev b1 (s : FVec Ideal S256x512 .f32) : FVec Ideal S256x128 .f32 := extractStridedSlice S256x128 ![0, 128] s slices_S256x512_o0_128_S256x128
abbrev b2 (s : FVec Ideal S256x512 .f32) : FVec Ideal S256x128 .f32 := extractStridedSlice S256x128 ![0, 256] s slices_S256x512_o0_256_S256x128
abbrev b3 (s : FVec Ideal S256x512 .f32) : FVec Ideal S256x128 .f32 := extractStridedSlice S256x128 ![0, 384] s slices_S256x512_o0_384_S256x128
/-- The two halves of a square of scores. -/
abbrev d0 (s : FVec Ideal S256x256 .f32) : FVec Ideal S256x128 .f32 := extractStridedSlice S256x128 ![0, 0] s slices_S256x256_o0_0_S256x128
abbrev d1 (s : FVec Ideal S256x256 .f32) : FVec Ideal S256x128 .f32 := extractStridedSlice S256x128 ![0, 128] s slices_S256x256_o0_128_S256x128

/-- The causal mask of the square on the diagonal. -/
abbrev bias : FVec Ideal S256x256 .f32 := k0_pay5

/-- The maximum and the product of a full block, of a block whose last 256 keys are masked, and of a masked square. -/
def xFull (s : FVec Ideal S256x512 .f32) := max4 (b0 s) (b1 s) (b2 s) (b3 s)
def pFull (s : FVec Ideal S256x512 .f32) (v : Vec Ideal S1x1x512x128 .bf16) := fun m => pv4 (b0 s) (b1 s) (b2 s) (b3 s) m v
def xHalf (s : FVec Ideal S256x512 .f32) := max4 (b0 s) (b1 s) (addf (b2 s) (d0 bias)) (addf (b3 s) (d1 bias))
def pHalf (s : FVec Ideal S256x512 .f32) (v : Vec Ideal S1x1x512x128 .bf16) :=
  fun m => pv4 (b0 s) (b1 s) (addf (b2 s) (d0 bias)) (addf (b3 s) (d1 bias)) m v
def xDiag (s : FVec Ideal S256x256 .f32) := max2 (addf (d0 s) (d0 bias)) (addf (d1 s) (d1 bias))
def pDiag (s : FVec Ideal S256x256 .f32) (v : Vec Ideal S1x1x256x128 .bf16) :=
  fun m => pv2 (addf (d0 s) (d0 bias)) (addf (d1 s) (d1 bias)) m v

/-- What a chain stores. -/
def out (s : St) : FVec Ideal S1x256x128 .bf16 :=
  shapeCast S1x256x128 (truncf .bf16 (divf s.a s.l) bitsLt_bf16_f32) shapeCasts_S256x128_S1x256x128

section
variable (x0 x1 : Vec Ideal S1x1x4096x256 .bf16) (x2 : Vec Ideal S1x1x4096x128 .bf16)

/-- The queries of chain `c`; the keys and the values of the 512-key block `j`; those of the 256-key block `c`. -/
def qs (c : ℕ) : Vec Ideal S1x1x256x256 .bf16 :=
  View.ld x0 (Rect.unit (s := S1x1x4096x256) ![0, 0, 256 * (c % 16), 0] S1x1x256x256.size (by
    intro a; fin_cases a <;> simp <;> omega))
def k4 (j : ℕ) : Vec Ideal S1x1x512x256 .bf16 :=
  View.ld x1 (Rect.unit (s := S1x1x4096x256) ![0, 0, 512 * (j % 8), 0] S1x1x512x256.size (by
    intro a; fin_cases a <;> simp <;> omega))
def v4 (j : ℕ) : Vec Ideal S1x1x512x128 .bf16 :=
  View.ld x2 (Rect.unit (s := S1x1x4096x128) ![0, 0, 512 * (j % 8), 0] S1x1x512x128.size (by
    intro a; fin_cases a <;> simp <;> omega))
def v2 (c : ℕ) : Vec Ideal S1x1x256x128 .bf16 :=
  View.ld x2 (Rect.unit (s := S1x1x4096x128) ![0, 0, 256 * (c % 16), 0] S1x1x256x128.size (by
    intro a; fin_cases a <;> simp <;> omega))

/-- The state of chain `c` after the unmasked key blocks `0 … n`. -/
def run (c : ℕ) : ℕ → St
  | 0 => first (xFull (sc4 (qs x0 c) (k4 x1 0))) (pFull (sc4 (qs x0 c) (k4 x1 0)) (v4 x2 0))
  | n + 1 => next (run c n) (xFull (sc4 (qs x0 c) (k4 x1 (n + 1)))) (pFull (sc4 (qs x0 c) (k4 x1 (n + 1))) (v4 x2 (n + 1)))

/-- The last state of the chain `2 n`, whose diagonal block is a square. -/
def even : ℕ → St
  | 0 => first (xDiag (sc2 (qs x0 0) (qs x1 0))) (pDiag (sc2 (qs x0 0) (qs x1 0)) (v2 x2 0))
  | n + 1 => next (run x0 x1 x2 (2 * (n + 1)) n) (xDiag (sc2 (qs x0 (2 * (n + 1))) (qs x1 (2 * (n + 1)))))
      (pDiag (sc2 (qs x0 (2 * (n + 1))) (qs x1 (2 * (n + 1)))) (v2 x2 (2 * (n + 1))))

/-- The last state of the chain `2 n + 1`, whose diagonal block has 256 unmasked keys first. -/
def odd : ℕ → St
  | 0 => first (xHalf (sc4 (qs x0 1) (k4 x1 0))) (pHalf (sc4 (qs x0 1) (k4 x1 0)) (v4 x2 0))
  | n + 1 => next (run x0 x1 x2 (2 * (n + 1) + 1) n) (xHalf (sc4 (qs x0 (2 * (n + 1) + 1)) (k4 x1 (n + 1))))
      (pHalf (sc4 (qs x0 (2 * (n + 1) + 1)) (k4 x1 (n + 1))) (v4 x2 (n + 1)))

end

end Cert.Proof.Attn

end
-- ==== Proof.Attn.Online.lean ====
/- The softmax of one row of scores, on extended reals: block by block in base two, and as a quotient of exponentials. -/
module

public import Idealize.ShloMosaic.Lib.Pointwise

@[expose] public section

noncomputable section

namespace Cert.Proof.Attn

open Idealize.ShloMosaic

/-- Row `j` of 4096. -/
def row (j : ℕ) : Fin 4096 := ⟨j % 4096, Nat.mod_lt _ (by norm_num)⟩

theorem row_val (j : Fin 4096) : row j.val = j := Fin.ext (Nat.mod_eq_of_lt j.isLt)

/-- A score: a real, or minus infinity where the key is masked. -/
def Sc (x : EReal) : Prop := x = ⊥ ∨ ∃ r : ℝ, x = r

/-- The greatest of the first `n` scores. -/
def top (F : ℕ → EReal) (n : ℕ) : EReal := (Finset.range n).sup F

/-- The sum of the powers of the first `n` scores less `M`. -/
def sumL (F : ℕ → EReal) (M : EReal) (n : ℕ) : EReal := ∑ j ∈ Finset.range n, Ideal.exp2 (F j - M)

/-- The same sum weighted by the values `V`. -/
def sumA (F V : ℕ → EReal) (M : EReal) (n : ℕ) : EReal := ∑ j ∈ Finset.range n, Ideal.exp2 (F j - M) * V j

/-- A nonnegative real comes out of a sum of extended reals. -/
theorem coe_mul_sum {c : ℝ} (hc : 0 ≤ c) (f : ℕ → EReal) (n : ℕ) :
    (c : EReal) * ∑ j ∈ Finset.range n, f j = ∑ j ∈ Finset.range n, (c : EReal) * f j := by
  induction n with
  | zero => simp
  | succ n ih =>
    rw [Finset.sum_range_succ, Finset.sum_range_succ,
      EReal.left_distrib_of_nonneg_of_ne_top (EReal.coe_nonneg.2 hc) (EReal.coe_ne_top c), ih]

theorem sup_add (F : ℕ → EReal) (n n' : ℕ) :
    top F (n + n') = max (top F n) (top (fun j => F (n + j)) n') := by
  unfold top
  refine le_antisymm (Finset.sup_le fun j hj => ?_) (max_le (Finset.sup_le fun j hj => ?_) (Finset.sup_le fun j hj => ?_))
  · rcases lt_or_ge j n with h | h
    · exact le_max_of_le_left (Finset.le_sup (f := F) (Finset.mem_range.2 h))
    · obtain ⟨i, rfl⟩ := Nat.exists_eq_add_of_le h
      exact le_max_of_le_right (Finset.le_sup (f := fun j => F (n + j)) (Finset.mem_range.2 (by simpa using hj)))
  · exact Finset.le_sup (f := F) (Finset.mem_range.2 ((Finset.mem_range.1 hj).trans_le (Nat.le_add_right _ _)))
  · exact Finset.le_sup (f := F) (Finset.mem_range.2 (Nat.add_lt_add_left (Finset.mem_range.1 hj) _))

/-- The greatest score is real once the first one is. -/
theorem top_real {F : ℕ → EReal} (hF : ∀ j, Sc (F j)) (h0 : ∃ r : ℝ, F 0 = r) {n : ℕ} (hn : 0 < n) : ∃ r : ℝ, top F n = r := by
  obtain ⟨r, hr⟩ := h0
  have hbot : top F n ≠ ⊥ := by
    intro h
    have := Finset.le_sup (f := F) (Finset.mem_range.2 hn)
    rw [show (Finset.range n).sup F = ⊥ from h, hr] at this
    exact EReal.coe_ne_bot r (le_bot_iff.1 this)
  have htop : top F n ≠ ⊤ := by
    refine ((Finset.sup_lt_iff bot_lt_top).2 fun j _ => ?_).ne
    rcases hF j with h | ⟨s, h⟩ <;> rw [h]
    · exact bot_lt_top
    · exact EReal.coe_lt_top s
  exact ⟨_, (EReal.coe_toReal htop hbot).symm⟩

theorem exp2_shift {x : EReal} (hx : Sc x) (a b : ℝ) :
    Ideal.exp2 ((a : EReal) - b) * Ideal.exp2 (x - a) = Ideal.exp2 (x - b) := by
  rcases hx with rfl | ⟨r, rfl⟩
  · simp [EReal.bot_sub]
  · rw [← EReal.coe_sub, ← EReal.coe_sub, ← EReal.coe_sub, Ideal.exp2_coe, Ideal.exp2_coe, Ideal.exp2_coe, ← EReal.coe_mul]
    congr 1
    show (2 : ℝ) ^ (a - b) * (2 : ℝ) ^ (r - a) = (2 : ℝ) ^ (r - b)
    rw [← Real.rpow_add two_pos]; congr 1; ring

theorem exp2_nonneg_coe (a b : ℝ) : ∃ c : ℝ, 0 ≤ c ∧ Ideal.exp2 ((a : EReal) - b) = c :=
  ⟨Real.rpow 2 (a - b), Real.rpow_nonneg two_pos.le _, by rw [← EReal.coe_sub, Ideal.exp2_coe]⟩

/-- What is carried, scaled to a greater maximum, is the sum less that maximum. -/
theorem sumL_shift {F : ℕ → EReal} (hF : ∀ j, Sc (F j)) (a b : ℝ) (n : ℕ) :
    Ideal.exp2 ((a : EReal) - b) * sumL F a n = sumL F b n := by
  obtain ⟨c, hc, h⟩ := exp2_nonneg_coe a b
  unfold sumL
  rw [h, coe_mul_sum hc]
  refine Finset.sum_congr rfl fun j _ => ?_
  rw [← h, exp2_shift (hF j)]

theorem sumA_shift {F : ℕ → EReal} (V : ℕ → EReal) (hF : ∀ j, Sc (F j)) (a b : ℝ) (n : ℕ) :
    Ideal.exp2 ((a : EReal) - b) * sumA F V a n = sumA F V b n := by
  obtain ⟨c, hc, h⟩ := exp2_nonneg_coe a b
  unfold sumA
  rw [h, coe_mul_sum hc]
  refine Finset.sum_congr rfl fun j _ => ?_
  rw [← h, ← mul_assoc, exp2_shift (hF j)]

theorem sumL_add (F : ℕ → EReal) (M : EReal) (n n' : ℕ) : sumL F M (n + n') = sumL F M n + sumL (fun j => F (n + j)) M n' :=
  Finset.sum_range_add _ n n'

theorem sumA_add (F V : ℕ → EReal) (M : EReal) (n n' : ℕ) :
    sumA F V M (n + n') = sumA F V M n + sumA (fun j => F (n + j)) (fun j => V (n + j)) M n' :=
  Finset.sum_range_add _ n n'

/-- Keys masked from `n` on add nothing to the maximum. -/
theorem top_masked {S : ℕ → EReal} {n N : ℕ} (hnN : n ≤ N) (h : ∀ j, n ≤ j → S j = ⊥) : top S N = top S n := by
  obtain ⟨k, rfl⟩ := Nat.exists_eq_add_of_le hnN
  rw [sup_add, max_eq_left]
  exact Finset.sup_le fun j _ => by rw [h _ (Nat.le_add_right _ _)]; exact bot_le

theorem sum_masked {f : ℕ → EReal} {n N : ℕ} (hnN : n ≤ N) (h : ∀ j, n ≤ j → f j = 0) :
    ∑ j ∈ Finset.range N, f j = ∑ j ∈ Finset.range n, f j := by
  obtain ⟨k, rfl⟩ := Nat.exists_eq_add_of_le hnN
  rw [Finset.sum_range_add, Finset.sum_eq_zero fun j _ => h _ (Nat.le_add_right _ _), add_zero]

/-- The power of two of a rescaled difference is the exponential of the difference. -/
theorem exp2_scale {x : EReal} (hx : Sc x) (a : ℝ) :
    Ideal.exp2 (((1 / Real.log 2 : ℝ) : EReal) * x - ((1 / Real.log 2 * a : ℝ) : EReal)) = Ideal.exp (x - a) := by
  have hl : 0 < Real.log 2 := Real.log_pos one_lt_two
  rcases hx with rfl | ⟨r, rfl⟩
  · rw [EReal.coe_mul_bot_of_pos (by positivity), EReal.bot_sub, EReal.bot_sub, Ideal.exp2_bot, Ideal.exp_bot]
  · rw [← EReal.coe_mul, ← EReal.coe_sub, ← EReal.coe_sub, Ideal.exp2_coe, Ideal.exp_coe]
    congr 1
    show (2 : ℝ) ^ (1 / Real.log 2 * r - 1 / Real.log 2 * a) = _
    rw [Real.rpow_def_of_pos two_pos]; congr 1; field_simp

/-- The greatest of rescaled scores is the rescaled greatest score. -/
theorem top_scale {t : ℝ} (ht : 0 < t) (S : ℕ → EReal) (n : ℕ) : top (fun j => (t : EReal) * S j) n = (t : EReal) * top S n := by
  unfold top
  induction n with
  | zero => simp [EReal.coe_mul_bot_of_pos ht]
  | succ n ih =>
    rw [Finset.range_add_one, Finset.sup_insert, Finset.sup_insert, ih]
    have hm : Monotone fun x : EReal => (t : EReal) * x := fun x y h => mul_le_mul_of_nonneg_left h (EReal.coe_nonneg.2 ht.le)
    exact (hm.map_sup _ _).symm

/-- The exponentials of the first `n` scores less a real sum to a positive real. -/
theorem sum_exp_pos {S : ℕ → EReal} (hS : ∀ j, Sc (S j)) (h0 : ∃ r : ℝ, S 0 = r) (a : ℝ) {n : ℕ} (hn : 0 < n) :
    ∃ L : ℝ, 0 < L ∧ ∑ j ∈ Finset.range n, Ideal.exp (S j - a) = L := by
  have he : ∀ j, ∃ e : ℝ, 0 ≤ e ∧ Ideal.exp (S j - a) = e := fun j => by
    rcases hS j with h | ⟨r, h⟩ <;> rw [h]
    · exact ⟨0, le_rfl, by rw [EReal.bot_sub]; rfl⟩
    · exact ⟨Real.exp (r - a), (Real.exp_pos _).le, by rw [← EReal.coe_sub, Ideal.exp_coe]⟩
  choose e hpos he using he
  refine ⟨∑ j ∈ Finset.range n, e j, ?_, ?_⟩
  · refine Finset.sum_pos' (fun j _ => hpos j) ⟨0, Finset.mem_range.2 hn, ?_⟩
    obtain ⟨r, hr⟩ := h0
    have := he 0
    rw [hr, ← EReal.coe_sub, Ideal.exp_coe] at this
    rw [← EReal.coe_injective this]
    exact Real.exp_pos _
  · clear hn
    induction n with
    | zero => simp
    | succ n ih => rw [Finset.sum_range_succ, Finset.sum_range_succ, ih, he, EReal.coe_add]

/-- One entry of the softmax of `N` scores times the values. -/
def attend (S V : ℕ → EReal) (N : ℕ) : EReal :=
  ∑ j ∈ Finset.range N, V j * Ideal.div (Ideal.exp (S j - top S N)) (∑ i ∈ Finset.range N, Ideal.exp (S i - top S N))

/-- A chain's quotient over the keys that are not masked is the softmax over all of them. -/
theorem quot_eq {S V : ℕ → EReal} (hS : ∀ j, Sc (S j)) (h0 : ∃ r : ℝ, S 0 = r) {n N : ℕ} (hn : 0 < n) (hnN : n ≤ N)
    (hmask : ∀ j, n ≤ j → S j = ⊥) {F : ℕ → EReal} (hF : F = fun j => ((1 / Real.log 2 : ℝ) : EReal) * S j) :
    Ideal.div (sumA F V (top F n) n) (sumL F (top F n) n) = attend S V N := by
  obtain ⟨a, ha⟩ := top_real hS h0 hn
  obtain ⟨L, hL, hsum⟩ := sum_exp_pos hS h0 a hn
  have ht : 0 < 1 / Real.log 2 := by have := Real.log_pos one_lt_two; positivity
  have hterm : ∀ j, Ideal.exp2 (F j - top F n) = Ideal.exp (S j - a) := fun j => by
    subst hF; rw [top_scale ht, ha, ← EReal.coe_mul]; exact exp2_scale (hS j) a
  have hzero : ∀ j, n ≤ j → Ideal.exp (S j - a) = 0 := fun j hj => by rw [hmask j hj, EReal.bot_sub]; rfl
  unfold attend sumA sumL
  rw [top_masked hnN hmask, ha, sum_masked hnN hzero, hsum]
  simp only [hterm, hsum, Ideal.div_coe hL.ne']
  rw [sum_masked hnN fun j hj => by rw [hzero j hj, zero_mul, mul_zero], mul_comm, coe_mul_sum (by positivity)]
  exact Finset.sum_congr rfl fun j _ => by rw [mul_comm, mul_assoc, mul_left_comm]

end Cert.Proof.Attn

end
-- ==== Proof.Attn.Read.lean ====
/- A chain's vectors read at a row: after any number of key blocks the three hold the maximum, the sum and the weighted sum over the
   keys seen so far. -/
module

public import proofs.«01_k».proof.Proof.Attn.Step
public import proofs.«01_k».proof.Proof.Attn.Online
public import Idealize.ShloMosaic.Lib.WordCmp

@[expose] public section

set_option maxRecDepth 16384

noncomputable section

namespace Cert.Proof.Attn

open Idealize.ShloMosaic Idealize.ShloMosaic.TcCoe
open Cert.KernelIdeal Cert.KernelIdeal.Gen

theorem exp2_def (x : EReal) : FloatOps.exp2 (F := Ideal) (φ := .f32) x = Ideal.exp2 x := rfl

theorem sc4_at (q : Vec Ideal S1x1x256x256 .bf16) (k : Vec Ideal S1x1x512x256 .bf16) (r : Fin 256) (j : Fin 512) :
    sc4 q k (ix2 r j) = ∑ x : Fin 256, q (ix4 0 0 r x) * k (ix4 0 0 j x) := by
  pointwise [sc4]

theorem sc2_at (q : Vec Ideal S1x1x256x256 .bf16) (k : Vec Ideal S1x1x256x256 .bf16) (r : Fin 256) (j : Fin 256) :
    sc2 q k (ix2 r j) = ∑ x : Fin 256, q (ix4 0 0 r x) * k (ix4 0 0 j x) := by
  pointwise [sc2]

/-- The mask is zero up to the diagonal and minus infinity past it. -/
theorem bias_at (r j : Fin 256) : bias (ix2 r j) = if j.val ≤ r.val then (0 : EReal) else ⊥ := by
  pointwise [bias, k0_pay5]
  rw [show Named.named (F := Ideal) κ "mask" (φ := .f32) 0xF149F2CA#32 = (⊥ : EReal) from
    IdealRules.named_const.ideal_named_scalar _ _ _ _ rfl]
  rw [WordCmp.cmpi_sle_ofNat (by omega) (by omega)]
  by_cases h : j.val ≤ r.val
  · rw [if_pos h, decide_eq_true h]; rfl
  · rw [if_neg h, decide_eq_false h]; rfl

/-- A row of 128 scores from the 128 scores of `f` at `o`. -/
def At (b : FVec Ideal S256x128 .f32) (r : Fin 256) (f : ℕ → EReal) (o : ℕ) : Prop := ∀ j : Fin 128, b (ix2 r j) = f (o + j.val)

theorem At.at {b : FVec Ideal S256x128 .f32} {r : Fin 256} {f : ℕ → EReal} {o : ℕ} (h : At b r f o) {j n : ℕ} (hj : j < 128)
    (e : o + j = n) : b (ix2 r ⟨j, hj⟩) = f n := (h ⟨j, hj⟩).trans (congrArg f e)

variable {b0 b1 b2 b3 : FVec Ideal S256x128 .f32} {r : Fin 256} {f : ℕ → EReal}

theorem fold_max (g : Fin 128 → EReal) :
    Finset.fold max (Ideal.ofBits FTy.f32 0xFF800000#32) g Finset.univ = Finset.univ.sup g := by
  rw [show Ideal.ofBits FTy.f32 0xFF800000#32 = (⊥ : EReal) from by simp [Ideal.ofBits, Ideal.ieee]]
  rfl

theorem max4_at (h0 : At b0 r f 0) (h1 : At b1 r f 128) (h2 : At b2 r f 256) (h3 : At b3 r f 384) :
    max4 b0 b1 b2 b3 (ix2 r 0) = top f 512 := by
  pointwise [max4]
  rw [fold_max]
  refine le_antisymm (Finset.sup_le fun j _ => ?_) (Finset.sup_le fun j hj => ?_)
  · rw [h0, h1, h2, h3]
    have hh : ∀ n, n < 512 → f n ≤ top f 512 := fun n hn => Finset.le_sup (f := f) (Finset.mem_range.2 hn)
    exact max_le (max_le (max_le (hh _ (by omega)) (hh _ (by omega))) (hh _ (by omega))) (hh _ (by omega))
  · have hj := Finset.mem_range.1 hj
    have hh := Finset.le_sup (f := fun x : Fin 128 => max (max (max (b0 (ix2 r x)) (b1 (ix2 r x))) (b2 (ix2 r x))) (b3 (ix2 r x)))
      (Finset.mem_univ ⟨j % 128, Nat.mod_lt _ (by norm_num)⟩)
    refine le_trans ?_ hh
    have : j = 0 + j % 128 ∨ j = 128 + j % 128 ∨ j = 256 + j % 128 ∨ j = 384 + j % 128 := by omega
    rcases this with e | e | e | e
    · exact ((h0.at _ e.symm).symm.le.trans (le_max_left _ _)).trans ((le_max_left _ _).trans (le_max_left _ _))
    · exact ((h1.at _ e.symm).symm.le.trans (le_max_right _ _)).trans ((le_max_left _ _).trans (le_max_left _ _))
    · exact ((h2.at _ e.symm).symm.le.trans (le_max_right _ _)).trans (le_max_left _ _)
    · exact (h3.at _ e.symm).symm.le.trans (le_max_right _ _)

theorem max2_at (h0 : At b0 r f 0) (h1 : At b1 r f 128) : max2 b0 b1 (ix2 r 0) = top f 256 := by
  pointwise [max2]
  rw [fold_max]
  refine le_antisymm (Finset.sup_le fun j _ => ?_) (Finset.sup_le fun j hj => ?_)
  · rw [h0, h1]
    have hh : ∀ n, n < 256 → f n ≤ top f 256 := fun n hn => Finset.le_sup (f := f) (Finset.mem_range.2 hn)
    exact max_le (hh _ (by omega)) (hh _ (by omega))
  · have hj := Finset.mem_range.1 hj
    have hh := Finset.le_sup (f := fun x : Fin 128 => max (b0 (ix2 r x)) (b1 (ix2 r x)))
      (Finset.mem_univ ⟨j % 128, Nat.mod_lt _ (by norm_num)⟩)
    refine le_trans ?_ hh
    have : j = 0 + j % 128 ∨ j = 128 + j % 128 := by omega
    rcases this with e | e
    · exact (h0.at _ e.symm).symm.le.trans (le_max_left _ _)
    · exact (h1.at _ e.symm).symm.le.trans (le_max_right _ _)

variable {m : FVec Ideal S256x128 .f32} {M : EReal}

/-- Four runs of 128 entries side by side, read at the place counted from the first. -/
theorem side4 (g0 g1 g2 g3 : Fin 128 → EReal) (G : ℕ → EReal) (h0 : ∀ j, g0 j = G (0 + j.val)) (h1 : ∀ j, g1 j = G (128 + j.val))
    (h2 : ∀ j, g2 j = G (256 + j.val)) (h3 : ∀ j, g3 j = G (384 + j.val)) (x : Fin 512) :
    (if h : x.val < 128 then g0 ⟨x.val, h⟩ else if h : x.val - 128 < 128 then g1 ⟨x.val - 128, h⟩ else
      if h : x.val - 128 - 128 < 128 then g2 ⟨x.val - 128 - 128, h⟩ else g3 ⟨x.val - 128 - 128 - 128, by omega⟩) = G x.val := by
  split_ifs
  · exact (h0 _).trans (congrArg G (Nat.zero_add _))
  · exact (h1 _).trans (congrArg G (by show 128 + (x.val - 128) = x.val; omega))
  · exact (h2 _).trans (congrArg G (by show 256 + (x.val - 128 - 128) = x.val; omega))
  · exact (h3 _).trans (congrArg G (by show 384 + (x.val - 128 - 128 - 128) = x.val; omega))

/-- A row of scores less the maximum, as powers of two, before `f` is named. -/
def pw (b m : FVec Ideal S256x128 .f32) (r : Fin 256) (j : Fin 128) : EReal :=
  FloatOps.exp2 (F := Ideal) (φ := .f32) (b (ix2 r j) - m (ix2 r j))

/-- A row of scores less the maximum, as powers of two. -/
theorem At.pow {b : FVec Ideal S256x128 .f32} {o : ℕ} (h : At b r f o) (hm : ∀ d, m (ix2 r d) = M) (j : Fin 128) :
    pw b m r j = (fun n => Ideal.exp2 (f n - M)) (o + j.val) := by
  rw [pw, h j, hm]; rfl

/-- The product's columns: the first 128 hold the weighted sums, the last 128 the sum. -/
theorem pv4_at (h0 : At b0 r f 0) (h1 : At b1 r f 128) (h2 : At b2 r f 256) (h3 : At b3 r f 384) (hm : ∀ d, m (ix2 r d) = M)
    {v : Vec Ideal S1x1x512x128 .bf16} {V : ℕ → Fin 128 → EReal} (hv : ∀ (j : Fin 512) d, v (ix4 0 0 j d) = V j.val d) (d : Fin 256) :
    pv4 b0 b1 b2 b3 m v (ix2 r d) = if h : d.val < 128 then sumA f (fun j => V j ⟨d.val, h⟩) M 512 else sumL f M 512 := by
  pointwise [pv4]
  have hs : ∀ g : Fin 512 → EReal, (∀ x : Fin 512, g x = Ideal.exp2 (f x.val - M) * (if h : d.val < 128 then V x.val ⟨d.val, h⟩ else 1)) →
      ∑ x, g x = if h : d.val < 128 then sumA f (fun j => V j ⟨d.val, h⟩) M 512 else sumL f M 512 := fun g hg => by
    rw [Finset.sum_congr rfl fun x _ => hg x,
      Fin.sum_univ_eq_sum_range (fun j => Ideal.exp2 (f j - M) * (if h : d.val < 128 then V j ⟨d.val, h⟩ else 1)) 512]
    split
    · rfl
    · exact Finset.sum_congr rfl fun j _ => mul_one _
  refine hs _ fun x => ?_
  simp only [hv]
  exact congrArg (· * _) (side4 (pw b0 m r) (pw b1 m r) (pw b2 m r) (pw b3 m r) (fun n => Ideal.exp2 (f n - M)) (h0.pow hm) (h1.pow hm) (h2.pow hm) (h3.pow hm) x)

theorem pv2_at (h0 : At b0 r f 0) (h1 : At b1 r f 128) (hm : ∀ d, m (ix2 r d) = M)
    {v : Vec Ideal S1x1x256x128 .bf16} {V : ℕ → Fin 128 → EReal} (hv : ∀ (j : Fin 256) d, v (ix4 0 0 j d) = V j.val d) (d : Fin 256) :
    pv2 b0 b1 m v (ix2 r d) = if h : d.val < 128 then sumA f (fun j => V j ⟨d.val, h⟩) M 256 else sumL f M 256 := by
  pointwise [pv2]
  have hs : ∀ (o : ℕ) (g : Fin 128 → EReal),
      (∀ x : Fin 128, g x = Ideal.exp2 (f (o + x.val) - M) * (if h : d.val < 128 then V (o + x.val) ⟨d.val, h⟩ else 1)) →
      ∑ x, g x = if h : d.val < 128 then sumA (fun j => f (o + j)) (fun j => V (o + j) ⟨d.val, h⟩) M 128 else sumL (fun j => f (o + j)) M 128 :=
    fun o g hg => by
    rw [Finset.sum_congr rfl fun x _ => hg x,
      Fin.sum_univ_eq_sum_range (fun j => Ideal.exp2 (f (o + j) - M) * (if h : d.val < 128 then V (o + j) ⟨d.val, h⟩ else 1)) 128]
    split
    · rfl
    · exact Finset.sum_congr rfl fun j _ => mul_one _
  refine (congrArg₂ (· + ·) (hs 0 _ fun x => ?_) (hs 128 _ fun x => ?_)).trans ?_
  · simp only [hv]
    simp only [Nat.zero_add]
    exact congrArg (· * _) ((h0.pow hm x).trans (by simp only [Nat.zero_add]))
  · simp only [hv]
    exact congrArg (· * _) (h1.pow hm x)
  · simp only [Nat.zero_add]
    split
    · exact (sumA_add f _ M 128 128).symm
    · exact (sumL_add f M 128 128).symm

/-- Row `r` of a state holds the three running values over the first `n` keys. -/
def Inv (r : Fin 256) (F : ℕ → EReal) (V : ℕ → Fin 128 → EReal) (n : ℕ) (s : St) : Prop :=
  ∀ d : Fin 128, s.m (ix2 r d) = top F n ∧ s.l (ix2 r d) = sumL F (top F n) n ∧ s.a (ix2 r d) = sumA F (fun j => V j d) (top F n) n

/-- A block's maximum and product at row `r` are those of the keys `o … o + n`. -/
def Blk (r : Fin 256) (F : ℕ → EReal) (V : ℕ → Fin 128 → EReal) (o n : ℕ) (x : FVec Ideal S256x1 .f32)
    (pv : FVec Ideal S256x128 .f32 → FVec Ideal S256x256 .f32) : Prop :=
  x (ix2 r 0) = top (fun j => F (o + j)) n ∧ ∀ m M, (∀ d, m (ix2 r d) = M) → ∀ d : Fin 256, pv m (ix2 r d) =
    if h : d.val < 128 then sumA (fun j => F (o + j)) (fun j => V (o + j) ⟨d.val, h⟩) M n else sumL (fun j => F (o + j)) M n

variable {F : ℕ → EReal} {V : ℕ → Fin 128 → EReal} {n n' o : ℕ} {x : FVec Ideal S256x1 .f32}
  {pv : FVec Ideal S256x128 .f32 → FVec Ideal S256x256 .f32} {s : St}

theorem first_m (d : Fin 128) : (first x pv).m (ix2 r d) = x (ix2 r 0) := by pointwise [first]
theorem first_l (d : Fin 128) : (first x pv).l (ix2 r d) = pv (first x pv).m (ix2 r ⟨128 + d.val, by omega⟩) := by pointwise [first]
theorem first_a (d : Fin 128) : (first x pv).a (ix2 r d) = pv (first x pv).m (ix2 r ⟨d.val, by omega⟩) := by pointwise [first]
theorem next_m (d : Fin 128) : (next s x pv).m (ix2 r d) = max (s.m (ix2 r d)) (x (ix2 r 0)) := by pointwise [next]
theorem next_l (d : Fin 128) : (next s x pv).l (ix2 r d) =
    Ideal.exp2 (s.m (ix2 r d) - max (s.m (ix2 r d)) (x (ix2 r 0))) * s.l (ix2 r d) + pv (next s x pv).m (ix2 r ⟨128 + d.val, by omega⟩) := by
  pointwise [next, exp2_def]
theorem next_a (d : Fin 128) : (next s x pv).a (ix2 r d) =
    Ideal.exp2 (s.m (ix2 r d) - max (s.m (ix2 r d)) (x (ix2 r 0))) * s.a (ix2 r d) + pv (next s x pv).m (ix2 r ⟨d.val, by omega⟩) := by
  pointwise [next, exp2_def]

theorem first_inv (hb : Blk r F V 0 n x pv) : Inv r F V n (first x pv) := fun d => by
  obtain ⟨hx, hp⟩ := hb
  simp only [Nat.zero_add] at hx hp
  have hm : ∀ d, (first x pv).m (ix2 r d) = top F n := fun d => (first_m d).trans hx
  refine ⟨hm d, ?_, ?_⟩
  · rw [first_l, hp _ _ hm, dif_neg (by simp)]
  · rw [first_a, hp _ _ hm, dif_pos d.isLt]

theorem next_inv (hF : ∀ j, Sc (F j)) (h0 : ∃ a : ℝ, F 0 = a) (hn : 0 < n) (hs : Inv r F V n s) (hb : Blk r F V n n' x pv) :
    Inv r F V (n + n') (next s x pv) := fun d => by
  obtain ⟨hx, hp⟩ := hb
  obtain ⟨a, ha⟩ := top_real hF h0 hn
  obtain ⟨b, hb⟩ := top_real hF h0 (Nat.add_pos_left hn n')
  have hm : ∀ d, (next s x pv).m (ix2 r d) = top F (n + n') := fun d => by rw [next_m, (hs d).1, hx, ← sup_add]
  refine ⟨hm d, ?_, ?_⟩
  · rw [next_l, hp _ _ hm, dif_neg (by simp), (hs d).1, (hs d).2.1, hx, ← sup_add, ha, hb, sumL_shift hF, sumL_add]
  · rw [next_a, hp _ _ hm, dif_pos d.isLt, (hs d).1, (hs d).2.2, hx, ← sup_add, ha, hb, sumA_shift _ hF, sumA_add]

/-- What a chain stores is the quotient of the two sums. -/
theorem out_at (hs : Inv r F V n s) (d : Fin 128) :
    out s (ix3 0 r d) = Ideal.div (sumA F (fun j => V j d) (top F n) n) (sumL F (top F n) n) := by
  rw [← (hs d).2.1, ← (hs d).2.2]
  pointwise [out]

end Cert.Proof.Attn

end
-- ==== Proof.Attn.Chain.lean ====
/- The sixteen chains of a grid point: chain `c` ends with the quotient over the keys up to its diagonal block, masked past the query. -/
module

public import proofs.«01_k».proof.Proof.Attn.Read

@[expose] public section

set_option maxRecDepth 16384

noncomputable section

namespace Cert.Proof.Attn

open Idealize.ShloMosaic Idealize.ShloMosaic.TcCoe
open Cert.KernelIdeal Cert.KernelIdeal.Gen

section Blocks
variable {r : Fin 256} {F : ℕ → EReal} {V : ℕ → Fin 128 → EReal} {o : ℕ}

theorem b0_at (s : FVec Ideal S256x512 .f32) (j : Fin 128) : b0 s (ix2 r j) = s (ix2 r ⟨0 + j.val, by omega⟩) := by
  pointwise []
theorem b1_at (s : FVec Ideal S256x512 .f32) (j : Fin 128) : b1 s (ix2 r j) = s (ix2 r ⟨128 + j.val, by omega⟩) := by pointwise []
theorem b2_at (s : FVec Ideal S256x512 .f32) (j : Fin 128) : b2 s (ix2 r j) = s (ix2 r ⟨256 + j.val, by omega⟩) := by pointwise []
theorem b3_at (s : FVec Ideal S256x512 .f32) (j : Fin 128) : b3 s (ix2 r j) = s (ix2 r ⟨384 + j.val, by omega⟩) := by pointwise []
theorem d0_at (s : FVec Ideal S256x256 .f32) (j : Fin 128) : d0 s (ix2 r j) = s (ix2 r ⟨0 + j.val, by omega⟩) := by
  pointwise []
theorem d1_at (s : FVec Ideal S256x256 .f32) (j : Fin 128) : d1 s (ix2 r j) = s (ix2 r ⟨128 + j.val, by omega⟩) := by pointwise []

/-- A full block of keys, none masked. -/
theorem full_blk {s : FVec Ideal S256x512 .f32} {v : Vec Ideal S1x1x512x128 .bf16} (hs : ∀ j : Fin 512, s (ix2 r j) = F (o + j.val))
    (hv : ∀ (j : Fin 512) d, v (ix4 0 0 j d) = V (o + j.val) d) : Blk r F V o 512 (xFull s) (pFull s v) := by
  have h0 : At (b0 s) r (fun j => F (o + j)) 0 := fun j => (b0_at s j).trans (hs _)
  have h1 : At (b1 s) r (fun j => F (o + j)) 128 := fun j => (b1_at s j).trans (hs _)
  have h2 : At (b2 s) r (fun j => F (o + j)) 256 := fun j => (b2_at s j).trans (hs _)
  have h3 : At (b3 s) r (fun j => F (o + j)) 384 := fun j => (b3_at s j).trans (hs _)
  exact ⟨max4_at h0 h1 h2 h3, fun m M hm d => pv4_at h0 h1 h2 h3 hm (V := fun j => V (o + j)) hv d⟩

/-- A block of keys whose last 256 meet the diagonal. -/
theorem half_blk {s : FVec Ideal S256x512 .f32} {v : Vec Ideal S1x1x512x128 .bf16}
    (hs : ∀ j : Fin 512, j.val < 256 → s (ix2 r j) = F (o + j.val))
    (hs' : ∀ (j : Fin 512) (i : Fin 256), j.val = 256 + i.val → s (ix2 r j) + bias (ix2 r i) = F (o + j.val))
    (hv : ∀ (j : Fin 512) d, v (ix4 0 0 j d) = V (o + j.val) d) : Blk r F V o 512 (xHalf s) (pHalf s v) := by
  have h0 : At (b0 s) r (fun j => F (o + j)) 0 := fun j => (b0_at s j).trans (hs _ (by show 0 + j.val < 256; omega))
  have h1 : At (b1 s) r (fun j => F (o + j)) 128 := fun j => (b1_at s j).trans (hs _ (by show 128 + j.val < 256; omega))
  have h2 : At (addf (b2 s) (d0 bias)) r (fun j => F (o + j)) 256 := fun j =>
    (congrArg₂ (fun a b : EReal => a + b) (b2_at s j) (d0_at bias j)).trans (hs' _ _ (by show 256 + j.val = 256 + (0 + j.val); omega))
  have h3 : At (addf (b3 s) (d1 bias)) r (fun j => F (o + j)) 384 := fun j =>
    (congrArg₂ (fun a b : EReal => a + b) (b3_at s j) (d1_at bias j)).trans (hs' _ _ (by show 384 + j.val = 256 + (128 + j.val); omega))
  exact ⟨max4_at h0 h1 h2 h3, fun m M hm d => pv4_at h0 h1 h2 h3 hm (V := fun j => V (o + j)) hv d⟩

/-- The square of keys on the diagonal. -/
theorem diag_blk {s : FVec Ideal S256x256 .f32} {v : Vec Ideal S1x1x256x128 .bf16}
    (hs : ∀ j : Fin 256, s (ix2 r j) + bias (ix2 r j) = F (o + j.val))
    (hv : ∀ (j : Fin 256) d, v (ix4 0 0 j d) = V (o + j.val) d) : Blk r F V o 256 (xDiag s) (pDiag s v) := by
  have h0 : At (addf (d0 s) (d0 bias)) r (fun j => F (o + j)) 0 := fun j =>
    (congrArg₂ (fun a b : EReal => a + b) (d0_at s j) (d0_at bias j)).trans (hs _)
  have h1 : At (addf (d1 s) (d1 bias)) r (fun j => F (o + j)) 128 := fun j =>
    (congrArg₂ (fun a b : EReal => a + b) (d1_at s j) (d1_at bias j)).trans (hs _)
  exact ⟨max2_at h0 h1, fun m M hm d => pv2_at h0 h1 hm (V := fun j => V (o + j)) hv d⟩

end Blocks

section
variable (x0 x1 : Vec Ideal S1x1x4096x256 .bf16) (x2 : Vec Ideal S1x1x4096x128 .bf16)

/-- The product of query `i` and key `j`. -/
def dotp (i j : ℕ) : EReal := ∑ x : Fin 256, x0 (ix4 0 0 (row i) x) * x1 (ix4 0 0 (row j) x)

/-- The score of key `j` for query `i`, masked past the query. -/
def score (i j : ℕ) : EReal := if j ≤ i then dotp x0 x1 i j else ⊥

/-- The values, by key. -/
def val (j : ℕ) (d : Fin 128) : EReal := x2 (ix4 0 0 (row j) d)

variable {x0 x1 x2}

theorem qs_at (x : Vec Ideal S1x1x4096x256 .bf16) {c : ℕ} (hc : c < 16) (r : Fin 256) (y : Fin 256) :
    qs x c (ix4 0 0 r y) = x (ix4 0 0 (row (256 * c + r.val)) y) := by
  refine View.ld_unit_apply_of _ _ _ _ _ _ fun a => ?_
  fin_cases a
  · rfl
  · rfl
  · show (256 * c + r.val) % 4096 = 256 * (c % 16) + r.val; omega
  · exact (Nat.zero_add _).symm

theorem k4_at (x : Vec Ideal S1x1x4096x256 .bf16) {n : ℕ} (hn : n < 8) (j : Fin 512) (y : Fin 256) :
    k4 x n (ix4 0 0 j y) = x (ix4 0 0 (row (512 * n + j.val)) y) := by
  refine View.ld_unit_apply_of _ _ _ _ _ _ fun a => ?_
  fin_cases a
  · rfl
  · rfl
  · show (512 * n + j.val) % 4096 = 512 * (n % 8) + j.val; omega
  · exact (Nat.zero_add _).symm

theorem v4_at (x : Vec Ideal S1x1x4096x128 .bf16) {n : ℕ} (hn : n < 8) (j : Fin 512) (y : Fin 128) :
    v4 x n (ix4 0 0 j y) = val x (512 * n + j.val) y := by
  refine View.ld_unit_apply_of _ _ _ _ _ _ fun a => ?_
  fin_cases a
  · rfl
  · rfl
  · show (512 * n + j.val) % 4096 = 512 * (n % 8) + j.val; omega
  · exact (Nat.zero_add _).symm

theorem v2_at (x : Vec Ideal S1x1x4096x128 .bf16) {c : ℕ} (hc : c < 16) (j : Fin 256) (y : Fin 128) :
    v2 x c (ix4 0 0 j y) = val x (256 * c + j.val) y := by
  refine View.ld_unit_apply_of _ _ _ _ _ _ fun a => ?_
  fin_cases a
  · rfl
  · rfl
  · show (256 * c + j.val) % 4096 = 256 * (c % 16) + j.val; omega
  · exact (Nat.zero_add _).symm

/-- The scores of chain `c` against the 512-key block `n`, and against the square on the diagonal. -/
theorem sc4_dot {c n : ℕ} (hc : c < 16) (hn : n < 8) (r : Fin 256) (j : Fin 512) :
    sc4 (qs x0 c) (k4 x1 n) (ix2 r j) = dotp x0 x1 (256 * c + r.val) (512 * n + j.val) :=
  (sc4_at _ _ _ _).trans (Finset.sum_congr rfl fun y _ => congrArg₂ _ (qs_at _ hc _ _) (k4_at _ hn _ _))

theorem sc2_dot {c : ℕ} (hc : c < 16) (r : Fin 256) (j : Fin 256) :
    sc2 (qs x0 c) (qs x1 c) (ix2 r j) = dotp x0 x1 (256 * c + r.val) (256 * c + j.val) :=
  (sc2_at _ _ _ _).trans (Finset.sum_congr rfl fun y _ => congrArg₂ _ (qs_at _ hc _ _) (qs_at _ hc _ _))

theorem score_of_le {i j : ℕ} (h : j ≤ i) : score x0 x1 i j = dotp x0 x1 i j := if_pos h

/-- Adding the mask of the diagonal square masks the keys past the query. -/
theorem add_bias (r i : Fin 256) (o : ℕ) {j : ℕ} (hj : j = o + i.val) :
    dotp x0 x1 (o + r.val) j + bias (ix2 r i) = score x0 x1 (o + r.val) j := by
  rw [bias_at, score]
  by_cases h : i.val ≤ r.val
  · rw [if_pos h, if_pos (by omega), add_zero]
  · rw [if_neg h, if_neg (by omega), EReal.add_bot]

variable (hF : ∀ i j, Sc (score x0 x1 i j)) (h0 : ∀ i, ∃ a : ℝ, score x0 x1 i 0 = a)
include hF h0

/-- Before the diagonal, a chain holds the three values over the keys it has seen. -/
theorem run_inv {c : ℕ} (hc : c < 16) (r : Fin 256) : ∀ n, 512 * (n + 1) ≤ 256 * c →
    Inv r (score x0 x1 (256 * c + r.val)) (val x2) (512 * (n + 1)) (run x0 x1 x2 c n)
  | 0, h => first_inv (full_blk (o := 0) (fun j => (sc4_dot hc (by omega) r j).trans (score_of_le (by omega)).symm)
      fun j d => v4_at _ (by omega) j d)
  | n + 1, h => by
    have hs := run_inv hc r n (by omega)
    exact next_inv (n := 512 * (n + 1)) (n' := 512) (hF _) (h0 _) (by omega) hs (full_blk (o := 512 * (n + 1)) (V := val x2)
      (fun j => (sc4_dot (n := n + 1) hc (by omega) r j).trans (score_of_le (by omega)).symm) fun j d => v4_at _ (n := n + 1) (by omega) j d)

theorem even_inv (r : Fin 256) : ∀ n, n < 8 →
    Inv r (score x0 x1 (256 * (2 * n) + r.val)) (val x2) (256 * (2 * n + 1)) (even x0 x1 x2 n)
  | 0, h => first_inv (diag_blk (o := 0) (fun j => (congrArg (· + _) (sc2_dot (c := 0) (by omega) r j)).trans (add_bias r j 0 rfl))
      fun j d => v2_at _ (c := 0) (by omega) j d)
  | n + 1, h => by
    have hs := run_inv (x2 := x2) hF h0 (c := 2 * (n + 1)) (by omega) r n (by omega)
    have := next_inv (n := 512 * (n + 1)) (hF _) (h0 _) (by omega) hs (n' := 256) (diag_blk (o := 512 * (n + 1)) (V := val x2)
      (s := sc2 (qs x0 (2 * (n + 1))) (qs x1 (2 * (n + 1)))) (v := v2 x2 (2 * (n + 1)))
      (fun j => ((congrArg (· + _) (sc2_dot (by omega) r j)).trans (add_bias r j _ rfl)).trans (congrArg _ (by omega)))
      fun j d => (v2_at _ (by omega) j d).trans (congrArg (val x2 · d) (by omega)))
    rwa [show 512 * (n + 1) + 256 = 256 * (2 * (n + 1) + 1) by omega] at this

theorem odd_inv (r : Fin 256) : ∀ n, n < 8 →
    Inv r (score x0 x1 (256 * (2 * n + 1) + r.val)) (val x2) (256 * (2 * n + 1 + 1)) (odd x0 x1 x2 n)
  | 0, h => first_inv (half_blk (o := 0) (fun j hj => (sc4_dot (c := 1) (by omega) (by omega) r j).trans (score_of_le (by omega)).symm)
      (fun j i e => (congrArg (· + _) (sc4_dot (c := 1) (by omega) (by omega) r j)).trans (add_bias r i _ (by omega)))
      fun j d => v4_at _ (n := 0) (by omega) j d)
  | n + 1, h => by
    have hs := run_inv (x2 := x2) hF h0 (c := 2 * (n + 1) + 1) (by omega) r n (by omega)
    have := next_inv (n := 512 * (n + 1)) (hF _) (h0 _) (by omega) hs (n' := 512) (half_blk (o := 512 * (n + 1)) (V := val x2)
      (s := sc4 (qs x0 (2 * (n + 1) + 1)) (k4 x1 (n + 1))) (v := v4 x2 (n + 1))
      (fun j hj => (sc4_dot (by omega) (by omega) r j).trans (score_of_le (by omega)).symm)
      (fun j i e => (congrArg (· + _) (sc4_dot (by omega) (by omega) r j)).trans (add_bias r i _ (by omega)))
      fun j d => v4_at _ (by omega) j d)
    rwa [show 512 * (n + 1) + 512 = 256 * (2 * (n + 1) + 1 + 1) by omega] at this

end

end Cert.Proof.Attn

end
-- ==== Proof.Attn.Block.lean ====
/- The attention kernel's output block: sixteen blocks of rows, each written once, as one function of the block's index. -/
module

public import proofs.«01_k».proof.Proof.Attn.Chain

@[expose] public section

set_option maxRecDepth 16384

noncomputable section

namespace Cert.Proof.Attn

open Idealize.ShloMosaic Idealize.ShloMosaic.TcCoe
open Cert.KernelIdeal Cert.KernelIdeal.Gen

variable (x0 x1 : Vec Ideal S1x1x4096x256 .bf16) (x2 : Vec Ideal S1x1x4096x128 .bf16) (x3 : Vec Ideal S64x2048 .f32) (x4 : Vec Ideal S64x8192 .f32)
  (x5 : Vec Ideal S256x2048 .f32)

/-- What the kernel stores into its output block, last store first. -/
theorem out_eq : out0_6 x0 x1 x2 x3 x4 x5 = View.canon [
  ⟨r0_58, out (even x0 x1 x2 7)⟩, ⟨r0_56, out (odd x0 x1 x2 7)⟩,
  ⟨r0_53, out (even x0 x1 x2 6)⟩, ⟨r0_51, out (odd x0 x1 x2 6)⟩,
  ⟨r0_48, out (even x0 x1 x2 5)⟩, ⟨r0_46, out (odd x0 x1 x2 5)⟩,
  ⟨r0_43, out (even x0 x1 x2 4)⟩, ⟨r0_41, out (odd x0 x1 x2 4)⟩,
  ⟨r0_38, out (even x0 x1 x2 3)⟩, ⟨r0_36, out (odd x0 x1 x2 3)⟩,
  ⟨r0_33, out (even x0 x1 x2 2)⟩, ⟨r0_31, out (odd x0 x1 x2 2)⟩,
  ⟨r0_28, out (even x0 x1 x2 1)⟩, ⟨r0_26, out (odd x0 x1 x2 1)⟩,
  ⟨r0_23, out (even x0 x1 x2 0)⟩, ⟨r0_20, out (odd x0 x1 x2 0)⟩] := by
  sl_kernel_rfl

/-- The keys seen by query `i`: the blocks of 256 up to its own. -/
def len (i : ℕ) : ℕ := 256 * (i / 256 + 1)

/-- The quotient the kernel forms for query `i` and feature `d`. -/
def quot (i : ℕ) (d : Fin 128) : EReal :=
  Ideal.div (sumA (score x0 x1 i) (fun j => val x2 j d) (top (score x0 x1 i) (len i)) (len i)) (sumL (score x0 x1 i) (top (score x0 x1 i) (len i)) (len i))

theorem quot_len (i : ℕ) (d : Fin 128) {n : ℕ} (h : len i = n) : quot x0 x1 x2 i d
    = Ideal.div (sumA (score x0 x1 i) (fun j => val x2 j d) (top (score x0 x1 i) n) n) (sumL (score x0 x1 i) (top (score x0 x1 i) n) n) := by
  subst h; rfl

variable {x0 x1} (hF : ∀ i j, Sc (score x0 x1 i j)) (h0 : ∀ i, ∃ a : ℝ, score x0 x1 i 0 = a)
include hF h0

theorem even_at (n : ℕ) (hn : n < 8) (x : S1x256x128.Idx) (i : ℕ) (d : Fin 128) (hi : i = 256 * (2 * n) + (x 1 : ℕ)) (hd : (d : ℕ) = (x 2 : ℕ)) :
    out (even x0 x1 x2 n) x = quot x0 x1 x2 i d := by
  obtain ⟨a, r, e, rfl⟩ : ∃ (a : Fin 1) (r : Fin 256) (e : Fin 128), x = ix3 a r e := ⟨_, _, _, eq_ix3 _⟩
  change i = 256 * (2 * n) + r.val at hi
  obtain rfl : d = e := Fin.ext hd
  obtain rfl : a = 0 := Subsingleton.elim _ _
  subst hi
  rw [quot_len x0 x1 x2 _ d (show len (256 * (2 * n) + r.val) = 256 * (2 * n + 1) by unfold len; omega)]
  exact out_at (even_inv hF h0 r n hn) d

theorem odd_at (n : ℕ) (hn : n < 8) (x : S1x256x128.Idx) (i : ℕ) (d : Fin 128) (hi : i = 256 * (2 * n + 1) + (x 1 : ℕ)) (hd : (d : ℕ) = (x 2 : ℕ)) :
    out (odd x0 x1 x2 n) x = quot x0 x1 x2 i d := by
  obtain ⟨a, r, e, rfl⟩ : ∃ (a : Fin 1) (r : Fin 256) (e : Fin 128), x = ix3 a r e := ⟨_, _, _, eq_ix3 _⟩
  change i = 256 * (2 * n + 1) + r.val at hi
  obtain rfl : d = e := Fin.ext hd
  obtain rfl : a = 0 := Subsingleton.elim _ _
  subst hi
  rw [quot_len x0 x1 x2 _ d (show len (256 * (2 * n + 1) + r.val) = 256 * (2 * n + 1 + 1) by unfold len; omega)]
  exact out_at (odd_inv hF h0 r n hn) d

/-- The output block at an index. -/
theorem block_at (y : S1x4096x128.Idx) : out0_6 x0 x1 x2 x3 x4 x5 y = quot x0 x1 x2 (y 1 : ℕ) (y 2) := by
  have key : out0_6 x0 x1 x2 x3 x4 x5 = fun y : S1x4096x128.Idx => quot x0 x1 x2 (y 1 : ℕ) (y 2) := by
    have hz := h0
    rw [out_eq]
    funext y
    canon_tiles x h
    all_goals first
      | (with_reducible refine even_at x2 hF hz _ ?_ x _ _ ?_ h2) <;> omega
      | (with_reducible refine odd_at x2 hF hz _ ?_ x _ _ ?_ h2) <;> omega
  exact congrFun key y

end Cert.Proof.Attn

end
-- ==== Proof.Attn.Host.lean ====
/- The attention kernel's operands as the region finds them: the arguments transposed, the queries scaled, the features padded from 192 to 256. -/
module

public import proofs.«01_k».proof.Proof.Attn.Chain

@[expose] public section

set_option maxRecDepth 16384

noncomputable section

namespace Cert.Proof.Attn

open Idealize.ShloMosaic Idealize.ShloMosaic.TcCoe
open Cert.KernelIdeal Cert.KernelIdeal.Gen

variable (m : (ℓ : Loc nD τ sig) → Buf (Elt Ideal) ℓ)

/-- Which block each point reads and writes: batch `t / 8`, head `t % 8`, and the `t`-th rows of the weights. -/
theorem idx : ∀ t : Fin cfg0.N, win0_0.index t = ![t.val / 8, t.val % 8, 0, 0] ∧ win0_1.index t = ![t.val / 8, t.val % 8, 0, 0]
    ∧ win0_2.index t = ![t.val / 8, t.val % 8, 0, 0] ∧ win0_3.index t = ![t.val, 0] ∧ win0_4.index t = ![t.val, 0] ∧ win0_5.index t = ![t.val, 0]
    ∧ win0_6.index t = ![t.val / 8, 0, t.val % 8] ∧ win0_7.index t = ![t.val, 0] ∧ win0_8.index t = ![t.val, 0] ∧ win0_9.index t = ![t.val, 0] ∧ t.val < 32 :=
  (by decide +kernel : ∀ t : Fin grid0.N, _)

/-- Features padded with zeros, heads before rows, in the narrow format. -/
def lay (x : FVec Ideal S4x4096x8x192 .f32) : FVec Ideal S4x8x4096x256 .bf16 :=
  truncf .bf16 (pad S4x8x4096x256 ![0, 0, 0, 0] ![0, 0, 0, 64] ![0, 0, 0, 0]
    (transpose S4x8x4096x192 [0, 2, 1, 3] x transposes_S4x4096x8x192_S4x8x4096x192_0_2_1_3) (sitofp .f32 (constantI S_ 32 0#32))
    pads_S4x8x4096x192_S4x8x4096x256_000_000_000_0640 h_S_) bitsLt_bf16_f32

/-- The scaled queries. -/
def qScaled (q : FVec Ideal S4x4096x8x192 .f32) : FVec Ideal S4x4096x8x192 .f32 :=
  mulf q (broadcastInDim S4x4096x8x192 ![] bcast_S_S4x4096x8x192
    (Host.divf (constant S_ .f32 0x3F800000#32) (mulf (Host.sqrt (constant S_ .f32 0x43400000#32)) (Host.log (constant S_ .f32 0x40000000#32)))))

/-- The values, heads before rows, in the narrow format. -/
def vals (v : FVec Ideal S4x4096x8x128 .f32) : FVec Ideal S4x8x4096x128 .bf16 :=
  truncf .bf16 (transpose S4x8x4096x128 [0, 2, 1, 3] v transposes_S4x4096x8x128_S4x8x4096x128_0_2_1_3) bitsLt_bf16_f32

theorem V_q (c : Dev nD) : V m c main_v8 = lay (qScaled (m ((c : Thread nD τ).loc main_arg0))) := by
  unfold lay qScaled
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.toBuf, StableHlo.TRef.ofBuf, cast_eq]
  after_results_simp <;> rfl

theorem V_k (c : Dev nD) : V m c main_v11 = lay (m ((c : Thread nD τ).loc main_arg1)) := by
  unfold lay
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.toBuf, StableHlo.TRef.ofBuf, cast_eq]
  after_results_simp <;> rfl

theorem V_v (c : Dev nD) : V m c main_v13 = vals (m ((c : Thread nD τ).loc main_arg2)) := by
  unfold vals
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.toBuf, StableHlo.TRef.ofBuf, cast_eq]
  after_results_simp <;> rfl

theorem V_w0 (c : Dev nD) : V m c main_v14 = shapeCast S2048x2048 (m ((c : Thread nD τ).loc main_arg3)) shapeCasts_S1x2048x2048_S2048x2048 := by
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.toBuf, StableHlo.TRef.ofBuf, cast_eq]
  after_results_simp <;> rfl

theorem V_w1 (c : Dev nD) : V m c main_v15 = shapeCast S2048x8192 (m ((c : Thread nD τ).loc main_arg4)) shapeCasts_S1x2048x8192_S2048x8192 := by
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.toBuf, StableHlo.TRef.ofBuf, cast_eq]
  after_results_simp <;> rfl

theorem V_w2 (c : Dev nD) : V m c main_v16 = shapeCast S8192x2048 (m ((c : Thread nD τ).loc main_arg5)) shapeCasts_S1x8192x2048_S8192x2048 := by
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.toBuf, StableHlo.TRef.ofBuf, cast_eq]
  after_results_simp <;> rfl

theorem lay_at (x : FVec Ideal S4x4096x8x192 .f32) (b : Fin 4) (h : Fin 8) (i : Fin 4096) (f : Fin 256) :
    lay x (ix4 b h i f) = if hf : f.val < 192 then x (ix4 b i h ⟨f.val, hf⟩) else 0 := by
  pointwise [lay]
  have hz : FloatOps.sitofp (F := Ideal) FTy.f32 0#32 = (0 : EReal) := by
    show (((0#32 : BitVec 32).toInt : ℝ) : EReal) = 0
    simp
  rw [hz]

theorem qScaled_at (q : FVec Ideal S4x4096x8x192 .f32) (b : Fin 4) (i : Fin 4096) (h : Fin 8) (f : Fin 192) : qScaled q (ix4 b i h f)
    = q (ix4 b i h f) * Ideal.div (Ideal.ofBits .f32 0x3F800000#32) (Ideal.sqrt (Ideal.ofBits .f32 0x43400000#32) * Ideal.log (Ideal.ofBits .f32 0x40000000#32)) := by
  pointwise [qScaled]

theorem vals_at (v : FVec Ideal S4x4096x8x128 .f32) (b : Fin 4) (h : Fin 8) (i : Fin 4096) (d : Fin 128) : vals v (ix4 b h i d) = v (ix4 b i h d) := by
  pointwise [vals]

section
variable (c : Dev nD) (t : Fin cfg0.N) (b : Fin 4) (h : Fin 8) (hb : t.val / 8 = b.val) (hh : t.val % 8 = h.val)
include hb hh

theorem q_at (i : Fin 4096) (x : Fin 256) : iblk m c 0 t (ix4 0 0 i x) = lay (qScaled (m ((c : Thread nD τ).loc main_arg0))) (ix4 b h i x) := by
  rw [← V_q]
  blk_point [iblk, idx t]

theorem k_at (i : Fin 4096) (x : Fin 256) : iblk m c 1 t (ix4 0 0 i x) = lay (m ((c : Thread nD τ).loc main_arg1)) (ix4 b h i x) := by
  rw [← V_k]
  blk_point [iblk, idx t]

theorem v_at (i : Fin 4096) (x : Fin 128) : iblk m c 2 t (ix4 0 0 i x) = vals (m ((c : Thread nD τ).loc main_arg2)) (ix4 b h i x) := by
  rw [← V_v]
  blk_point [iblk, idx t]

end

end Cert.Proof.Attn

end
-- ==== Proof.Attn.Ref.lean ====
/- The reference attention read at an index: the softmax of a query's scores, keys past the query masked, times the values. -/
module

public import proofs.«01_k».proof.Proof.Gen.ReferenceIdeal.Run
public import proofs.«01_k».proof.Proof.Attn.Online
public import Idealize.ShloMosaic.Lib.WordCmp

@[expose] public section

set_option maxRecDepth 16384

noncomputable section

namespace Cert.Proof.Attn.Ref

open Idealize.ShloMosaic Idealize.ShloMosaic.TcCoe
open Cert.ReferenceIdeal Cert.ReferenceIdeal.Gen

variable (q k : FVec Ideal S4x4096x8x192 .f32) (v : FVec Ideal S4x4096x8x128 .f32)

/-- The masked scores. -/
def sV : FVec Ideal S4x8x4096x4096 .f32 :=
  select (broadcastInDim S4x8x4096x4096 ![0, 1, 2, 3] bcast_S1x1x4096x4096_S4x8x4096x4096_0_1_2_3 (broadcastInDim S1x1x4096x4096 ![2, 3] bcast_S4096x4096_S1x1x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0))))))
    (Host.divf (Host.dotGeneral dot_S4x4096x8x192_S4x4096x8x192_S4x8x4096x4096_3_3_1_1_02_02 none q k)
      (broadcastInDim S4x8x4096x4096 ![] bcast_S_S4x8x4096x4096 (Host.sqrt (constant S_ .f32 0x43400000#32))))
    (broadcastInDim S4x8x4096x4096 ![] bcast_S_S4x8x4096x4096 (id (constant S_ .f32 0xFF800000#32)))

/-- Each query's greatest score. -/
def mV (s : FVec Ideal S4x8x4096x4096 .f32) : FVec Ideal S4x8x4096 .f32 :=
  maximumf (broadcastInDim S4x8x4096 ![] bcast_S_S4x8x4096 (constant S_ .f32 0xFF800000#32))
    (Host.reduce FloatOps.maximumf s (constant S_ .f32 0xFF800000#32) reducesTo_S4x8x4096x4096_S4x8x4096_d3 h_S_)

/-- The exponentials of the scores less the greatest. -/
def eV (s : FVec Ideal S4x8x4096x4096 .f32) : FVec Ideal S4x8x4096x4096 .f32 :=
  Host.exp (subf s (broadcastInDim S4x8x4096x4096 ![0, 1, 2, 3] bcast_S4x8x4096x1_S4x8x4096x4096_0_1_2_3
    (broadcastInDim S4x8x4096x1 ![0, 1, 2] bcast_S4x8x4096_S4x8x4096x1_0_1_2 (mV s))))

/-- Their sum. -/
def lV (e : FVec Ideal S4x8x4096x4096 .f32) : FVec Ideal S4x8x4096 .f32 :=
  Host.reduceAdd e (constant S_ .f32 0x00000000#32) reducesTo_S4x8x4096x4096_S4x8x4096_d3 h_S_

/-- The values weighted by `e` over its sum, heads beside one another. -/
def oV (e : FVec Ideal S4x8x4096x4096 .f32) : FVec Ideal S4x4096x1024 .bf16 :=
  truncf .bf16 (shapeCast S4x4096x1024 (transpose S4x4096x8x128 [0, 3, 1, 2] (Host.dotGeneral dot_S4x4096x8x128_S4x8x4096x4096_S4x8x128x4096_1_3_3_2_02_01 none v
      (Host.divf e (broadcastInDim S4x8x4096x4096 ![0, 1, 2, 3] bcast_S4x8x4096x1_S4x8x4096x4096_0_1_2_3
        (broadcastInDim S4x8x4096x1 ![0, 1, 2] bcast_S4x8x4096_S4x8x4096x1_0_1_2 (lV e))))) transposes_S4x8x128x4096_S4x4096x8x128_0_3_1_2)
    shapeCasts_S4x4096x8x128_S4x4096x1024) bitsLt_bf16_f32

/-- The attention's result. -/
def ref : FVec Ideal S4x4096x1024 .bf16 := oV v (eV (sV q k))

theorem res_eq (m : (ℓ : Loc nD τ sig) → Buf (Elt Ideal) ℓ) (c : Dev nD) : Value.res_main_v26 m c
    = ref (m ((c.tc : Thread nD τ).loc main_arg0)) (m ((c.tc : Thread nD τ).loc main_arg1)) (m ((c.tc : Thread nD τ).loc main_arg2)) := rfl

theorem sV_at (b : Fin 4) (h : Fin 8) (i j : Fin 4096) : sV q k (ix4 b h i j) =
    if j.val ≤ i.val then Ideal.div (∑ x : Fin 192, q (ix4 b i h x) * k (ix4 b j h x)) (Ideal.sqrt (Ideal.ofBits FTy.f32 0x43400000#32)) else ⊥ := by
  pointwise [sV]
  rw [WordCmp.cmpi_sle_ofNat (by omega) (by omega)]
  by_cases h : j.val ≤ i.val
  · rw [if_pos h, decide_eq_true h]; rfl
  · rw [if_neg h, decide_eq_false h]
    show Ideal.ofBits FTy.f32 0xFF800000#32 = ⊥
    simp [Ideal.ofBits, Ideal.ieee]

/-- A maximum over the last of four axes, from minus infinity. -/
theorem max_last {n0 n1 n2 n3 : ℕ} (s : FVec Ideal ⟨4, ![n0, n1, n2, n3]⟩ .f32)
    (hr : (⟨4, ![n0, n1, n2, n3]⟩ : Shape).ReducesTo [3] ⟨3, ![n0, n1, n2]⟩) (c : FVec Ideal S_ .f32) (hc : c (Shape.Idx.first h_S_) = ⊥)
    (b : Fin n0) (h : Fin n1) (i : Fin n2) :
    Host.reduce FloatOps.maximumf s c hr h_S_ (ix3 b h i) = Finset.univ.sup fun j => s (ix4 b h i j) := by
  pointwise []
  rw [hc]; rfl

theorem max_app (x y : FVec Ideal S4x8x4096 .f32) (i : S4x8x4096.Idx) : maximumf x y i = max (x i : EReal) (y i) := rfl

theorem ofBits_bot : Ideal.ofBits FTy.f32 0xFF800000#32 = (⊥ : EReal) := by simp [Ideal.ofBits, Ideal.ieee]

theorem const_bot (i : S4x8x4096.Idx) : broadcastInDim S4x8x4096 ![] bcast_S_S4x8x4096 (constant (F := Ideal) S_ .f32 0xFF800000#32) i = (⊥ : EReal) := by
  pointwise []
  exact ofBits_bot

theorem mV_at (s : FVec Ideal S4x8x4096x4096 .f32) (b : Fin 4) (h : Fin 8) (i : Fin 4096) : mV s (ix3 b h i) = Finset.univ.sup fun j => s (ix4 b h i j) := by
  rw [mV, max_app, const_bot, max_last s reducesTo_S4x8x4096x4096_S4x8x4096_d3 (constant S_ .f32 0xFF800000#32) ofBits_bot b h i]
  exact max_eq_right bot_le

theorem eV_at (s : FVec Ideal S4x8x4096x4096 .f32) (b : Fin 4) (h : Fin 8) (i j : Fin 4096) : eV s (ix4 b h i j) = Ideal.exp (s (ix4 b h i j) - mV s (ix3 b h i)) := by
  pointwise [eV]
theorem lV_at (s : FVec Ideal S4x8x4096x4096 .f32) (b : Fin 4) (h : Fin 8) (i : Fin 4096) : lV s (ix3 b h i) = ∑ j : Fin 4096, s (ix4 b h i j) := by
  pointwise [lV]
theorem oV_at (e : FVec Ideal S4x8x4096x4096 .f32) (b : Fin 4) (h : Fin 8) (i : Fin 4096) (d : Fin 128) :
    oV v e (ix3 b i ⟨h.val * 128 + d.val, by omega⟩) = ∑ j : Fin 4096, v (ix4 b j h d) * Ideal.div (e (ix4 b h i j)) (lV e (ix3 b h i)) := by
  pointwise [oV]

/-- The score of key `j` for query `i`. -/
def scoreR (b : Fin 4) (h : Fin 8) (i : Fin 4096) (j : ℕ) : EReal :=
  if j ≤ i.val then Ideal.div (∑ x : Fin 192, q (ix4 b i h x) * k (ix4 b (row j) h x)) (Ideal.sqrt (Ideal.ofBits FTy.f32 0x43400000#32)) else ⊥

/-- The reference at an index. -/
theorem ref_at (b : Fin 4) (h : Fin 8) (i : Fin 4096) (d : Fin 128) :
    ref q k v (ix3 b i ⟨h.val * 128 + d.val, by omega⟩) = attend (scoreR q k b h i) (fun j => v (ix4 b (row j) h d)) 4096 := by
  have hs : ∀ j : Fin 4096, sV q k (ix4 b h i j) = scoreR q k b h i j.val := fun j => by rw [sV_at, scoreR, row_val]
  have hm : mV (sV q k) (ix3 b h i) = top (scoreR q k b h i) 4096 := by
    rw [mV_at, top]
    refine le_antisymm (Finset.sup_le fun j _ => ?_) (Finset.sup_le fun j hj => ?_)
    · rw [hs]; exact Finset.le_sup (f := scoreR q k b h i) (Finset.mem_range.2 j.isLt)
    · have := Finset.le_sup (f := fun j : Fin 4096 => sV q k (ix4 b h i j)) (Finset.mem_univ ⟨j, Finset.mem_range.1 hj⟩)
      exact (hs ⟨j, Finset.mem_range.1 hj⟩).symm.le.trans this
  have he : ∀ j : Fin 4096, eV (sV q k) (ix4 b h i j) = Ideal.exp (scoreR q k b h i j.val - top (scoreR q k b h i) 4096) := fun j => by
    rw [eV_at, hs, hm]
  have hl : lV (eV (sV q k)) (ix3 b h i) = ∑ j ∈ Finset.range 4096, Ideal.exp (scoreR q k b h i j - top (scoreR q k b h i) 4096) := by
    rw [lV_at, Finset.sum_congr rfl fun j _ => he j]
    exact Fin.sum_univ_eq_sum_range (fun j => Ideal.exp (scoreR q k b h i j - top (scoreR q k b h i) 4096)) 4096
  rw [ref, oV_at, hl]
  refine .trans ?_ (Fin.sum_univ_eq_sum_range (fun j => v (ix4 b (row j) h d) * Ideal.div (Ideal.exp (scoreR q k b h i j - top (scoreR q k b h i) 4096))
    (∑ j ∈ Finset.range 4096, Ideal.exp (scoreR q k b h i j - top (scoreR q k b h i) 4096))) 4096)
  exact Finset.sum_congr rfl fun j _ => by rw [he, row_val]

/-! ## Real queries and keys -/

theorem ofBits_192 : Ideal.ofBits .f32 0x43400000#32 = ((192 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem sqrt_192 : Ideal.sqrt (Ideal.ofBits .f32 0x43400000#32) = ((Real.sqrt 192 : ℝ) : EReal) := by
  rw [ofBits_192, Ideal.sqrt_coe, if_neg (by norm_num)]

/-- The factor the queries are scaled by. -/
theorem factor : Ideal.div (Ideal.ofBits .f32 0x3F800000#32)
    (Ideal.sqrt (Ideal.ofBits .f32 0x43400000#32) * Ideal.log (Ideal.ofBits .f32 0x40000000#32)) = ((1 / (Real.sqrt 192 * Real.log 2) : ℝ) : EReal) := by
  have h2 := Real.log_pos one_lt_two
  have h1 : 0 < Real.sqrt 192 := Real.sqrt_pos.2 (by norm_num)
  rw [sqrt_192, ofBits_2, Ideal.log_coe, if_neg (by norm_num), ← EReal.coe_mul, Ideal.div_coe (by positivity), Ideal.ofBits_one_f32, one_mul]

theorem sum_coe {n : ℕ} (f : Fin n → ℝ) : ∑ x, ((f x : ℝ) : EReal) = ((∑ x, f x : ℝ) : EReal) := by
  induction n with
  | zero => simp
  | succ n ih => rw [Fin.sum_univ_castSucc, Fin.sum_univ_castSucc, ih, EReal.coe_add]

section
variable {q k} {q' k' : S4x4096x8x192.Idx → ℝ} (hq : ∀ i, q i = q' i) (hk : ∀ i, k i = k' i)
include hq hk

theorem scoreR_real (b : Fin 4) (h : Fin 8) (i : Fin 4096) {j : ℕ} (hj : j ≤ i.val) :
    scoreR q k b h i j = ((∑ x : Fin 192, q' (ix4 b i h x) * k' (ix4 b (row j) h x)) * (1 / Real.sqrt 192) : ℝ) := by
  have h1 : 0 < Real.sqrt 192 := Real.sqrt_pos.2 (by norm_num)
  rw [scoreR, if_pos hj, sqrt_192, Ideal.div_coe h1.ne', EReal.coe_mul, ← sum_coe]
  congr 1
  exact Finset.sum_congr rfl fun x _ => by rw [hq, hk, EReal.coe_mul]

theorem scoreR_sc (b : Fin 4) (h : Fin 8) (i : Fin 4096) (j : ℕ) : Sc (scoreR q k b h i j) := by
  by_cases hj : j ≤ i.val
  · exact .inr ⟨_, scoreR_real hq hk b h i hj⟩
  · exact .inl (if_neg hj)

/-- A product of queries scaled in advance with keys, over 256 features of which the last 64 are zero: `1 / log 2` times the scaled product. -/
theorem scaled (b : Fin 4) (h : Fin 8) (i j : Fin 4096) (Q K : Fin 256 → EReal)
    (hQ : ∀ x : Fin 256, Q x = if hx : x.val < 192 then q (ix4 b i h ⟨x.val, hx⟩) * ((1 / (Real.sqrt 192 * Real.log 2) : ℝ) : EReal) else 0)
    (hK : ∀ x : Fin 256, K x = if hx : x.val < 192 then k (ix4 b j h ⟨x.val, hx⟩) else 0) :
    ∑ x, Q x * K x = ((1 / Real.log 2 * ((∑ x : Fin 192, q' (ix4 b i h x) * k' (ix4 b j h x)) * (1 / Real.sqrt 192)) : ℝ) : EReal) := by
  have h2 := Real.log_pos one_lt_two
  have h1 : 0 < Real.sqrt 192 := Real.sqrt_pos.2 (by norm_num)
  rw [show (∑ x : Fin 256, Q x * K x) = (∑ x : Fin (192 + 64), Q x * K x) from rfl, Fin.sum_univ_add,
    Finset.sum_eq_zero (s := Finset.univ) (f := fun x : Fin 64 => Q (Fin.natAdd 192 x) * K (Fin.natAdd 192 x))
      fun x _ => by rw [hQ, dif_neg (by simp), zero_mul], add_zero]
  rw [Finset.sum_congr rfl (g := fun x : Fin 192 =>
      ((q' (ix4 b i h x) * (1 / (Real.sqrt 192 * Real.log 2)) * k' (ix4 b j h x) : ℝ) : EReal)) fun x _ => by
    rw [hQ, hK, dif_pos (show (Fin.castAdd 64 x).val < 192 from x.isLt), dif_pos (show (Fin.castAdd 64 x).val < 192 from x.isLt), EReal.coe_mul,
      EReal.coe_mul, ← hq, ← hk]
    rfl, sum_coe]
  congr 1
  rw [Finset.sum_mul, Finset.mul_sum]
  exact Finset.sum_congr rfl fun x _ => by field_simp

end

end Cert.Proof.Attn.Ref

end
-- ==== Proof.Attn.Final.lean ====
/- The attention kernel's four results: the attention, and the three weights in the narrow format. -/
module

public import proofs.«01_k».proof.Defs
public import proofs.«01_k».proof.Proof.Attn.Block
public import proofs.«01_k».proof.Proof.Attn.Host
public import proofs.«01_k».proof.Proof.Attn.Ref
public import proofs.«01_k».proof.Proof.Gen.Pre_finite_scores
public import Idealize.ShloMosaic.Lib.ReduceAll
public import Idealize.ShloMosaic.Lib.Claim

@[expose] public section

set_option maxRecDepth 16384

noncomputable section

namespace Cert.Proof.Attn

open Idealize.ShloMosaic Idealize.ShloMosaic.TcCoe Idealize.SL.Sem
open Cert.KernelIdeal Cert.KernelIdeal.Gen

variable (m : (ℓ : Loc nD τ sig) → Buf (Elt Ideal) ℓ)

/-! ## The cast weights -/

theorem out7_at (x0 x1 : Vec Ideal S1x1x4096x256 .bf16) (x2 : Vec Ideal S1x1x4096x128 .bf16) (x3 : Vec Ideal S64x2048 .f32) (x4 : Vec Ideal S64x8192 .f32)
    (x5 : Vec Ideal S256x2048 .f32) (y : S64x2048.Idx) : out0_7 x0 x1 x2 x3 x4 x5 y = x3 y := by
  rw [out0_7, Value.canon7_eq]
  obtain ⟨i, j, rfl⟩ : ∃ (i : Fin 64) (j : Fin 2048), y = ix2 i j := ⟨_, _, eq_ix2 _⟩
  refine congrArg x3 (a₁ := r0_0.idx (Value.ix7_0 (ix2 i j))) ?_
  blk_ext
  all_goals simp [r0_0]

theorem weight7_at (c : Dev nD) (t : Fin cfg0.N) (y : S64x2048.Idx) : iblk m c 3 t y = V m c main_v14 ((win0_7.blk t).view.emb y) := by
  obtain ⟨i, j, rfl⟩ : ∃ (i : Fin 64) (j : Fin 2048), y = ix2 i j := ⟨_, _, eq_ix2 _⟩
  blk_point [iblk, idx t]

theorem final7 (c : Dev nD) : (dats m 0 c).arrAt 7 cfg0.N = (truncf .bf16 (V m c main_v14) bitsLt_bf16_f32 : FVec Ideal S2048x2048 .bf16) := by
  refine (dats m 0 c).arrAt_eq_of_covers 7 _ (by decide +kernel) fun t hf y => ?_
  blk_simp
  rw [after0_7]
  exact (out7_at _ _ _ _ _ _ y).trans (weight7_at m c t y)

theorem out8_at (x0 x1 : Vec Ideal S1x1x4096x256 .bf16) (x2 : Vec Ideal S1x1x4096x128 .bf16) (x3 : Vec Ideal S64x2048 .f32) (x4 : Vec Ideal S64x8192 .f32)
    (x5 : Vec Ideal S256x2048 .f32) (y : S64x8192.Idx) : out0_8 x0 x1 x2 x3 x4 x5 y = x4 y := by
  rw [out0_8, Value.canon8_eq]
  obtain ⟨i, j, rfl⟩ : ∃ (i : Fin 64) (j : Fin 8192), y = ix2 i j := ⟨_, _, eq_ix2 _⟩
  refine congrArg x4 (a₁ := r0_1.idx (Value.ix8_0 (ix2 i j))) ?_
  blk_ext
  all_goals simp [r0_1]

theorem weight8_at (c : Dev nD) (t : Fin cfg0.N) (y : S64x8192.Idx) : iblk m c 4 t y = V m c main_v15 ((win0_8.blk t).view.emb y) := by
  obtain ⟨i, j, rfl⟩ : ∃ (i : Fin 64) (j : Fin 8192), y = ix2 i j := ⟨_, _, eq_ix2 _⟩
  blk_point [iblk, idx t]

theorem final8 (c : Dev nD) : (dats m 0 c).arrAt 8 cfg0.N = (truncf .bf16 (V m c main_v15) bitsLt_bf16_f32 : FVec Ideal S2048x8192 .bf16) := by
  refine (dats m 0 c).arrAt_eq_of_covers 8 _ (by decide +kernel) fun t hf y => ?_
  blk_simp
  rw [after0_8]
  exact (out8_at _ _ _ _ _ _ y).trans (weight8_at m c t y)

theorem out9_at (x0 x1 : Vec Ideal S1x1x4096x256 .bf16) (x2 : Vec Ideal S1x1x4096x128 .bf16) (x3 : Vec Ideal S64x2048 .f32) (x4 : Vec Ideal S64x8192 .f32)
    (x5 : Vec Ideal S256x2048 .f32) (y : S256x2048.Idx) : out0_9 x0 x1 x2 x3 x4 x5 y = x5 y := by
  rw [out0_9, Value.canon9_eq]
  obtain ⟨i, j, rfl⟩ : ∃ (i : Fin 256) (j : Fin 2048), y = ix2 i j := ⟨_, _, eq_ix2 _⟩
  refine congrArg x5 (a₁ := r0_2.idx (Value.ix9_0 (ix2 i j))) ?_
  blk_ext
  all_goals simp [r0_2]

theorem weight9_at (c : Dev nD) (t : Fin cfg0.N) (y : S256x2048.Idx) : iblk m c 5 t y = V m c main_v16 ((win0_9.blk t).view.emb y) := by
  obtain ⟨i, j, rfl⟩ : ∃ (i : Fin 256) (j : Fin 2048), y = ix2 i j := ⟨_, _, eq_ix2 _⟩
  blk_point [iblk, idx t]

theorem final9 (c : Dev nD) : (dats m 0 c).arrAt 9 cfg0.N = (truncf .bf16 (V m c main_v16) bitsLt_bf16_f32 : FVec Ideal S8192x2048 .bf16) := by
  refine (dats m 0 c).arrAt_eq_of_covers 9 _ (by decide +kernel) fun t hf y => ?_
  blk_simp
  rw [after0_9]
  exact (out9_at _ _ _ _ _ _ y).trans (weight9_at m c t y)

/-! ## The attention -/

section
variable {q' k' : S4x4096x8x192.Idx → ℝ} (c : Dev nD) (hq : ∀ i, m ((c : Thread nD τ).loc main_arg0) i = (q' i : EReal))
  (hk : ∀ i, m ((c : Thread nD τ).loc main_arg1) i = (k' i : EReal))

/-- The reference's scores over the program's arguments. -/
abbrev scoreAt (b : Fin 4) (h : Fin 8) (i : Fin 4096) (j : ℕ) : EReal :=
  Ref.scoreR (m ((c : Thread nD τ).loc main_arg0)) (m ((c : Thread nD τ).loc main_arg1)) b h i j

section
variable (t : Fin cfg0.N) (b : Fin 4) (h : Fin 8) (hb : t.val / 8 = b.val) (hh : t.val % 8 = h.val)
include hq hk hb hh

/-- The kernel's product of two rows. -/
theorem dotp_at (i j : ℕ) : dotp (iblk m c 0 t) (iblk m c 1 t) i j
    = ((1 / Real.log 2 * ((∑ x : Fin 192, q' (ix4 b (row i) h x) * k' (ix4 b (row j) h x)) * (1 / Real.sqrt 192)) : ℝ) : EReal) := by
  refine Ref.scaled hq hk b h (row i) (row j) (fun x => iblk m c 0 t (ix4 0 0 (row i) x)) (fun x => iblk m c 1 t (ix4 0 0 (row j) x))
    (fun x => ?_) (fun x => ?_)
  · rw [q_at m c t b h hb hh, lay_at]
    simp only [qScaled_at, Ref.factor]
  · rw [k_at m c t b h hb hh, lay_at]

theorem score_sc (i j : ℕ) : Sc (score (iblk m c 0 t) (iblk m c 1 t) i j) := by
  rw [score, dotp_at m c hq hk t b h hb hh]
  split
  exacts [.inr ⟨_, rfl⟩, .inl rfl]

theorem score_zero (i : ℕ) : ∃ a : ℝ, score (iblk m c 0 t) (iblk m c 1 t) i 0 = a :=
  ⟨_, (if_pos i.zero_le).trans (dotp_at m c hq hk t b h hb hh i 0)⟩

/-- The kernel's scores are the reference's in base two. -/
theorem score_at (i : Fin 4096) (j : ℕ) :
    score (iblk m c 0 t) (iblk m c 1 t) i.val j = ((1 / Real.log 2 : ℝ) : EReal) * scoreAt m c b h i j := by
  rw [score]
  by_cases hj : j ≤ i.val
  · rw [if_pos hj, dotp_at m c hq hk t b h hb hh, row_val, scoreAt, Ref.scoreR_real hq hk b h i hj, ← EReal.coe_mul]
  · rw [if_neg hj, scoreAt, Ref.scoreR, if_neg hj, EReal.coe_mul_bot_of_pos (by have := Real.log_pos one_lt_two; positivity)]

/-- The kernel's quotient is the reference's attention. -/
theorem quot_at (i : Fin 4096) (d : Fin 128) : quot (iblk m c 0 t) (iblk m c 1 t) (iblk m c 2 t) i.val d
    = Ref.ref (m ((c : Thread nD τ).loc main_arg0)) (m ((c : Thread nD τ).loc main_arg1)) (m ((c : Thread nD τ).loc main_arg2))
      (ix3 b i ⟨h.val * 128 + d.val, by omega⟩) := by
  have hv : (fun j => val (iblk m c 2 t) j d) = fun j => m ((c : Thread nD τ).loc main_arg2) (ix4 b (row j) h d) := by
    funext j
    exact (v_at m c t b h hb hh (row j) d).trans (vals_at _ b h (row j) d)
  rw [Ref.ref_at, quot, hv]
  refine quot_eq (Ref.scoreR_sc hq hk b h i) ⟨_, Ref.scoreR_real hq hk b h i (Nat.zero_le _)⟩ (by unfold len; omega) (by unfold len; omega)
    (fun j hj => if_neg (by unfold len at hj; omega)) (funext fun j => score_at m c hq hk t b h hb hh i j)

end

include hq hk

/-- A point's output block against the reference under the block's place in the result. -/
theorem point (t : Fin cfg0.N) (y : S1x4096x128.Idx) :
    out0_6 (iblk m c 0 t) (iblk m c 1 t) (iblk m c 2 t) (iblk m c 3 t) (iblk m c 4 t) (iblk m c 5 t) y
      = Ref.ref (m ((c : Thread nD τ).loc main_arg0)) (m ((c : Thread nD τ).loc main_arg1)) (m ((c : Thread nD τ).loc main_arg2))
        (((cfg0.win 6).blk t).view.emb y) := by
  have ht := (idx t).2.2.2.2.2.2.2.2.2.2
  obtain ⟨a, r, d, hy⟩ : ∃ (a : Fin 1) (r : Fin 4096) (d : Fin 128), y = ix3 a r d := ⟨_, _, _, eq_ix3 _⟩
  subst hy
  obtain ⟨B, R, D, hR⟩ : ∃ (B : Fin 4) (R : Fin 4096) (D : Fin 1024), ((cfg0.win 6).blk t).view.emb (ix3 a r d) = ix3 B R D := ⟨_, _, _, eq_ix3 _⟩
  have h0 : t.val / 8 = B.val := by
    have := congrArg (fun i : S4x4096x1024.Idx => (i 0 : ℕ)) hR
    blk_simp [idx t] at this
    omega
  obtain rfl : R = r := by
    have := congrArg (fun i : S4x4096x1024.Idx => (i 1 : ℕ)) hR
    blk_simp [idx t] at this
    exact Fin.ext (by omega)
  obtain rfl : D = ⟨t.val % 8 * 128 + d.val, by omega⟩ := by
    have := congrArg (fun i : S4x4096x1024.Idx => (i 2 : ℕ)) hR
    blk_simp [idx t] at this
    exact Fin.ext (by change D.val = t.val % 8 * 128 + d.val; omega)
  rw [hR]
  exact (block_at _ _ _ _ (score_sc m c hq hk t B ⟨t.val % 8, by omega⟩ h0 rfl) (score_zero m c hq hk t B ⟨t.val % 8, by omega⟩ h0 rfl) _).trans
    (quot_at m c hq hk t B ⟨t.val % 8, by omega⟩ h0 rfl R d)

/-- The attention array after the run is the reference's. -/
theorem final6 : (dats m 0 c).arrAt 6 cfg0.N
    = Ref.ref (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  exact point m c hq hk t y

end

/-! ## The precondition -/

/-- Less than infinity in absolute value: a real. -/
theorem real_of_olt {x : EReal} (h : FloatOps.cmpf (F := Ideal) (φ := .f32) .olt (FloatOps.hostAbsf (F := Ideal) (φ := .f32) x)
    (FloatOps.ofBits (F := Ideal) .f32 0x7F800000#32) = 1#1) : ∃ r : ℝ, x = r := by
  change Ideal.cmp .olt (max x (-x)) (Ideal.ofBits .f32 0x7F800000#32) = 1#1 at h
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

theorem reals_of {x : S4x4096x8x192.Idx → EReal} (h : ∀ i, ∃ r : ℝ, x i = r) : ∃ q' : S4x4096x8x192.Idx → ℝ, ∀ i, x i = (q' i : EReal) :=
  ⟨fun i => (h i).choose, fun i => (h i).choose_spec⟩

/-- Every query and every key is a real. -/
theorem reals (h : Cert.Pre_KernelIdeal_finite_scores m) (c : Dev nD) :
    (∃ q' : S4x4096x8x192.Idx → ℝ, ∀ i, m ((c : Thread nD τ).loc main_arg0) i = (q' i : EReal))
    ∧ ∃ k' : S4x4096x8x192.Idx → ℝ, ∀ i, m ((c : Thread nD τ).loc main_arg1) i = (k' i : EReal) := by
  have e := congrFun (h c) (Shape.Idx.first Cert.Pre_finite_scores.Gen.h_S_)
  obtain ⟨eq, ek⟩ := IntOp.andi_eq_one.1 e
  have : Subsingleton Cert.Pre_finite_scores.S_.Idx := ⟨fun a b => funext fun i => i.elim0⟩
  exact ⟨reals_of fun i => real_of_olt (Host.reduce_andi_all _ _ _ _ _ eq i), reals_of fun i => real_of_olt (Host.reduce_andi_all _ _ _ _ _ ek i)⟩

/-- The attention claim. -/
theorem algebraic : Cert.algebraic_KernelIdeal_ReferenceIdeal_pre_finite_scores := by
  intro m g m' g' hpre hm
  refine ⟨fun c => Ref.ref (m ((c : Thread nD τ).loc main_arg0)) (m ((c : Thread nD τ).loc main_arg1)) (m ((c : Thread nD τ).loc main_arg2)),
    fun c => (truncf .bf16 (V m c main_v14) bitsLt_bf16_f32 : FVec Ideal S2048x2048 .bf16),
    fun c => (truncf .bf16 (V m c main_v15) bitsLt_bf16_f32 : FVec Ideal S2048x8192 .bf16),
    fun c => (truncf .bf16 (V m c main_v16) bitsLt_bf16_f32 : FVec Ideal S8192x2048 .bf16), ?_, ?_⟩
  · refine (θ_run _ _ _).mono (fun r h c => ?_) (Cert.KernelIdeal.Value.run_blocks m g)
    obtain ⟨⟨q', hq⟩, ⟨k', hk⟩⟩ := reals m hpre c
    obtain ⟨h6, h7, h8, h9, ha⟩ := h c
    exact ⟨h6.trans (final6 m c hq hk), h7.trans (final7 m c), h8.trans (final8 m c), h9.trans (final9 m c), ha⟩
  · refine (θ_run _ _ _).mono (fun r h c => ?_) (Cert.ReferenceIdeal.Value.run (F := Ideal) m' g')
    obtain ⟨h0, h1, h2, h3, h4, h5⟩ := hm c
    obtain ⟨r0, r1, r2, r3, ra⟩ := h c
    refine ⟨r0.trans ?_, r1.trans ?_, r2.trans ?_, r3.trans ?_, ra⟩
    · rw [Ref.res_eq, h0, h1, h2]
    · beta_reduce
      rw [V_w0, h3]
    · beta_reduce
      rw [V_w1, h4]
    · beta_reduce
      rw [V_w2, h5]

end Cert.Proof.Attn

end
-- ==== Proof.Inproj.Step.lean ====
/- The input projection's tile as named values: a normalised group of rows, its products with column groups, and what each output block stores. -/
module

public import proofs.«01_k».proof.Proof.Gen.Kernel4Ideal.Value
public import Idealize.ShloMosaic.Lib.Pipeline.ValueKit
public import Idealize.ShloMosaic.Lib.Pointwise
public import Idealize.ShloMosaic.Lib.KernelVsHost

@[expose] public section

set_option maxRecDepth 16384

noncomputable section

namespace Cert.Proof.Inproj

open Idealize.ShloMosaic Idealize.ShloMosaic.TcCoe
open Cert.Kernel4Ideal Cert.Kernel4Ideal.Gen

/-- One head's 128 columns of a product, from column `o` on. -/
def cut (P : FVec Ideal S256x1024 .f32) (o : ℕ) (h : S256x1024.Slices ![0, o] S256x128) : FVec Ideal S256x128 .f32 :=
  extractStridedSlice S256x128 ![0, o] P h

/-- The rotation of a head: the head times the cosines plus each lane's partner, 16 lanes away, times the sines. -/
def turn (z c s : FVec Ideal S256x128 .f32) : FVec Ideal S256x128 .f32 :=
  addf (mulf z c) (mulf (select (broadcastTo S256x128 (shapeCast S1x128 (cmpi .slt (iota .tc S1x128 32 [1] iota_S1x128_d1_w32) (broadcast S1x128 16#32))
    shapeCasts_S1x128_S1x128) broadcasts_S1x128_S256x128) (dynamicRotate 1 112#32 none z rotates_S256x128_d1) (dynamicRotate 1 16#32 none z rotates_S256x128_d1)) s)

/-- What the value window stores of a head. -/
def valueTile (z : FVec Ideal S256x128 .f32) : FVec Ideal S1x1x256x128 .f32 := shapeCast S1x1x256x128 z shapeCasts_S256x128_S1x1x256x128

/-- What the key window stores of a head. -/
def keyTile (c s z : FVec Ideal S256x128 .f32) : FVec Ideal S1x1x256x128 .f32 := valueTile (turn z c s)

/-- What the query window stores of a head: the rotated head times one constant. -/
def queryTile (c s z : FVec Ideal S256x128 .f32) : FVec Ideal S1x1x256x128 .f32 :=
  valueTile (mulf (turn z c s) (broadcast S256x128 (Scalar.ofBits .f32 0x3E0293EE#32)))

section
variable (x0 : Vec Ideal S512x2048 .f32) (x1 : Vec Ideal S512x1 .f32) (x2 : Vec Ideal S1x2048 .f32) (x3 : Vec Ideal S2048x4160 .bf16)
  (x4 x5 : Vec Ideal S1x128 .f32) (x6 x7 : Vec Ideal S1x512 .f32)

/-- The upper and the lower group of 256 normalised rows. -/
def upper : FVec Ideal S256x2048 .bf16 := k0_pay2 (View.ld x0 r0_0) (View.ld x2 r0_1)
@[inherit_doc upper] def lower : FVec Ideal S256x2048 .bf16 := k0_pay2 (View.ld x0 r0_20) (View.ld x2 r0_1)

/-- The upper and the lower group of positions. -/
def posU : Vec Ideal S256x1 .f32 := View.ld x1 r0_2
@[inherit_doc posU] def posL : Vec Ideal S256x1 .f32 := View.ld x1 r0_21

/-- What the kernel stores into its query window, last store first. -/
theorem out8_eq : out0_8 x0 x1 x2 x3 x4 x5 x6 x7 = View.canon [
  ⟨r0_30, queryTile (k0_pay5 (posL x1) (View.ld x4 r0_3)) (k0_pay6 (posL x1) (View.ld x4 r0_3)) (cut (k0_pay11 (lower x0 x2) (View.ld x3 r0_5)) 896 slices_S256x1024_o0_896_S256x128)⟩,
  ⟨r0_29, queryTile (k0_pay5 (posL x1) (View.ld x4 r0_3)) (k0_pay6 (posL x1) (View.ld x4 r0_3)) (cut (k0_pay11 (lower x0 x2) (View.ld x3 r0_5)) 768 slices_S256x1024_o0_768_S256x128)⟩,
  ⟨r0_28, queryTile (k0_pay5 (posL x1) (View.ld x4 r0_3)) (k0_pay6 (posL x1) (View.ld x4 r0_3)) (cut (k0_pay11 (lower x0 x2) (View.ld x3 r0_5)) 640 slices_S256x1024_o0_640_S256x128)⟩,
  ⟨r0_27, queryTile (k0_pay5 (posL x1) (View.ld x4 r0_3)) (k0_pay6 (posL x1) (View.ld x4 r0_3)) (cut (k0_pay11 (lower x0 x2) (View.ld x3 r0_5)) 512 slices_S256x1024_o0_512_S256x128)⟩,
  ⟨r0_26, queryTile (k0_pay5 (posL x1) (View.ld x4 r0_3)) (k0_pay6 (posL x1) (View.ld x4 r0_3)) (cut (k0_pay11 (lower x0 x2) (View.ld x3 r0_5)) 384 slices_S256x1024_o0_384_S256x128)⟩,
  ⟨r0_25, queryTile (k0_pay5 (posL x1) (View.ld x4 r0_3)) (k0_pay6 (posL x1) (View.ld x4 r0_3)) (cut (k0_pay11 (lower x0 x2) (View.ld x3 r0_5)) 256 slices_S256x1024_o0_256_S256x128)⟩,
  ⟨r0_24, queryTile (k0_pay5 (posL x1) (View.ld x4 r0_3)) (k0_pay6 (posL x1) (View.ld x4 r0_3)) (cut (k0_pay11 (lower x0 x2) (View.ld x3 r0_5)) 128 slices_S256x1024_o0_128_S256x128)⟩,
  ⟨r0_23, queryTile (k0_pay5 (posL x1) (View.ld x4 r0_3)) (k0_pay6 (posL x1) (View.ld x4 r0_3)) (cut (k0_pay11 (lower x0 x2) (View.ld x3 r0_5)) 0 slices_S256x1024_o0_0_S256x128)⟩,
  ⟨r0_13, queryTile (k0_pay5 (posU x1) (View.ld x4 r0_3)) (k0_pay6 (posU x1) (View.ld x4 r0_3)) (cut (k0_pay11 (upper x0 x2) (View.ld x3 r0_5)) 896 slices_S256x1024_o0_896_S256x128)⟩,
  ⟨r0_12, queryTile (k0_pay5 (posU x1) (View.ld x4 r0_3)) (k0_pay6 (posU x1) (View.ld x4 r0_3)) (cut (k0_pay11 (upper x0 x2) (View.ld x3 r0_5)) 768 slices_S256x1024_o0_768_S256x128)⟩,
  ⟨r0_11, queryTile (k0_pay5 (posU x1) (View.ld x4 r0_3)) (k0_pay6 (posU x1) (View.ld x4 r0_3)) (cut (k0_pay11 (upper x0 x2) (View.ld x3 r0_5)) 640 slices_S256x1024_o0_640_S256x128)⟩,
  ⟨r0_10, queryTile (k0_pay5 (posU x1) (View.ld x4 r0_3)) (k0_pay6 (posU x1) (View.ld x4 r0_3)) (cut (k0_pay11 (upper x0 x2) (View.ld x3 r0_5)) 512 slices_S256x1024_o0_512_S256x128)⟩,
  ⟨r0_9, queryTile (k0_pay5 (posU x1) (View.ld x4 r0_3)) (k0_pay6 (posU x1) (View.ld x4 r0_3)) (cut (k0_pay11 (upper x0 x2) (View.ld x3 r0_5)) 384 slices_S256x1024_o0_384_S256x128)⟩,
  ⟨r0_8, queryTile (k0_pay5 (posU x1) (View.ld x4 r0_3)) (k0_pay6 (posU x1) (View.ld x4 r0_3)) (cut (k0_pay11 (upper x0 x2) (View.ld x3 r0_5)) 256 slices_S256x1024_o0_256_S256x128)⟩,
  ⟨r0_7, queryTile (k0_pay5 (posU x1) (View.ld x4 r0_3)) (k0_pay6 (posU x1) (View.ld x4 r0_3)) (cut (k0_pay11 (upper x0 x2) (View.ld x3 r0_5)) 128 slices_S256x1024_o0_128_S256x128)⟩,
  ⟨r0_6, queryTile (k0_pay5 (posU x1) (View.ld x4 r0_3)) (k0_pay6 (posU x1) (View.ld x4 r0_3)) (cut (k0_pay11 (upper x0 x2) (View.ld x3 r0_5)) 0 slices_S256x1024_o0_0_S256x128)⟩] := by
  sl_kernel_rfl

/-- What the kernel stores into its key window, last store first. -/
theorem out9_eq : out0_9 x0 x1 x2 x3 x4 x5 x6 x7 = View.canon [
  ⟨r0_30, keyTile (k0_pay5 (posL x1) (View.ld x4 r0_3)) (k0_pay6 (posL x1) (View.ld x4 r0_3)) (cut (k0_pay11 (lower x0 x2) (View.ld x3 r0_14)) 896 slices_S256x1024_o0_896_S256x128)⟩,
  ⟨r0_29, keyTile (k0_pay5 (posL x1) (View.ld x4 r0_3)) (k0_pay6 (posL x1) (View.ld x4 r0_3)) (cut (k0_pay11 (lower x0 x2) (View.ld x3 r0_14)) 768 slices_S256x1024_o0_768_S256x128)⟩,
  ⟨r0_28, keyTile (k0_pay5 (posL x1) (View.ld x4 r0_3)) (k0_pay6 (posL x1) (View.ld x4 r0_3)) (cut (k0_pay11 (lower x0 x2) (View.ld x3 r0_14)) 640 slices_S256x1024_o0_640_S256x128)⟩,
  ⟨r0_27, keyTile (k0_pay5 (posL x1) (View.ld x4 r0_3)) (k0_pay6 (posL x1) (View.ld x4 r0_3)) (cut (k0_pay11 (lower x0 x2) (View.ld x3 r0_14)) 512 slices_S256x1024_o0_512_S256x128)⟩,
  ⟨r0_26, keyTile (k0_pay5 (posL x1) (View.ld x4 r0_3)) (k0_pay6 (posL x1) (View.ld x4 r0_3)) (cut (k0_pay11 (lower x0 x2) (View.ld x3 r0_14)) 384 slices_S256x1024_o0_384_S256x128)⟩,
  ⟨r0_25, keyTile (k0_pay5 (posL x1) (View.ld x4 r0_3)) (k0_pay6 (posL x1) (View.ld x4 r0_3)) (cut (k0_pay11 (lower x0 x2) (View.ld x3 r0_14)) 256 slices_S256x1024_o0_256_S256x128)⟩,
  ⟨r0_24, keyTile (k0_pay5 (posL x1) (View.ld x4 r0_3)) (k0_pay6 (posL x1) (View.ld x4 r0_3)) (cut (k0_pay11 (lower x0 x2) (View.ld x3 r0_14)) 128 slices_S256x1024_o0_128_S256x128)⟩,
  ⟨r0_23, keyTile (k0_pay5 (posL x1) (View.ld x4 r0_3)) (k0_pay6 (posL x1) (View.ld x4 r0_3)) (cut (k0_pay11 (lower x0 x2) (View.ld x3 r0_14)) 0 slices_S256x1024_o0_0_S256x128)⟩,
  ⟨r0_13, keyTile (k0_pay5 (posU x1) (View.ld x4 r0_3)) (k0_pay6 (posU x1) (View.ld x4 r0_3)) (cut (k0_pay11 (upper x0 x2) (View.ld x3 r0_14)) 896 slices_S256x1024_o0_896_S256x128)⟩,
  ⟨r0_12, keyTile (k0_pay5 (posU x1) (View.ld x4 r0_3)) (k0_pay6 (posU x1) (View.ld x4 r0_3)) (cut (k0_pay11 (upper x0 x2) (View.ld x3 r0_14)) 768 slices_S256x1024_o0_768_S256x128)⟩,
  ⟨r0_11, keyTile (k0_pay5 (posU x1) (View.ld x4 r0_3)) (k0_pay6 (posU x1) (View.ld x4 r0_3)) (cut (k0_pay11 (upper x0 x2) (View.ld x3 r0_14)) 640 slices_S256x1024_o0_640_S256x128)⟩,
  ⟨r0_10, keyTile (k0_pay5 (posU x1) (View.ld x4 r0_3)) (k0_pay6 (posU x1) (View.ld x4 r0_3)) (cut (k0_pay11 (upper x0 x2) (View.ld x3 r0_14)) 512 slices_S256x1024_o0_512_S256x128)⟩,
  ⟨r0_9, keyTile (k0_pay5 (posU x1) (View.ld x4 r0_3)) (k0_pay6 (posU x1) (View.ld x4 r0_3)) (cut (k0_pay11 (upper x0 x2) (View.ld x3 r0_14)) 384 slices_S256x1024_o0_384_S256x128)⟩,
  ⟨r0_8, keyTile (k0_pay5 (posU x1) (View.ld x4 r0_3)) (k0_pay6 (posU x1) (View.ld x4 r0_3)) (cut (k0_pay11 (upper x0 x2) (View.ld x3 r0_14)) 256 slices_S256x1024_o0_256_S256x128)⟩,
  ⟨r0_7, keyTile (k0_pay5 (posU x1) (View.ld x4 r0_3)) (k0_pay6 (posU x1) (View.ld x4 r0_3)) (cut (k0_pay11 (upper x0 x2) (View.ld x3 r0_14)) 128 slices_S256x1024_o0_128_S256x128)⟩,
  ⟨r0_6, keyTile (k0_pay5 (posU x1) (View.ld x4 r0_3)) (k0_pay6 (posU x1) (View.ld x4 r0_3)) (cut (k0_pay11 (upper x0 x2) (View.ld x3 r0_14)) 0 slices_S256x1024_o0_0_S256x128)⟩] := by
  sl_kernel_rfl

/-- What the kernel stores into its value window, last store first. -/
theorem out10_eq : out0_10 x0 x1 x2 x3 x4 x5 x6 x7 = View.canon [
  ⟨r0_30, valueTile (cut (k0_pay11 (lower x0 x2) (View.ld x3 r0_15)) 896 slices_S256x1024_o0_896_S256x128)⟩,
  ⟨r0_29, valueTile (cut (k0_pay11 (lower x0 x2) (View.ld x3 r0_15)) 768 slices_S256x1024_o0_768_S256x128)⟩,
  ⟨r0_28, valueTile (cut (k0_pay11 (lower x0 x2) (View.ld x3 r0_15)) 640 slices_S256x1024_o0_640_S256x128)⟩,
  ⟨r0_27, valueTile (cut (k0_pay11 (lower x0 x2) (View.ld x3 r0_15)) 512 slices_S256x1024_o0_512_S256x128)⟩,
  ⟨r0_26, valueTile (cut (k0_pay11 (lower x0 x2) (View.ld x3 r0_15)) 384 slices_S256x1024_o0_384_S256x128)⟩,
  ⟨r0_25, valueTile (cut (k0_pay11 (lower x0 x2) (View.ld x3 r0_15)) 256 slices_S256x1024_o0_256_S256x128)⟩,
  ⟨r0_24, valueTile (cut (k0_pay11 (lower x0 x2) (View.ld x3 r0_15)) 128 slices_S256x1024_o0_128_S256x128)⟩,
  ⟨r0_23, valueTile (cut (k0_pay11 (lower x0 x2) (View.ld x3 r0_15)) 0 slices_S256x1024_o0_0_S256x128)⟩,
  ⟨r0_13, valueTile (cut (k0_pay11 (upper x0 x2) (View.ld x3 r0_15)) 896 slices_S256x1024_o0_896_S256x128)⟩,
  ⟨r0_12, valueTile (cut (k0_pay11 (upper x0 x2) (View.ld x3 r0_15)) 768 slices_S256x1024_o0_768_S256x128)⟩,
  ⟨r0_11, valueTile (cut (k0_pay11 (upper x0 x2) (View.ld x3 r0_15)) 640 slices_S256x1024_o0_640_S256x128)⟩,
  ⟨r0_10, valueTile (cut (k0_pay11 (upper x0 x2) (View.ld x3 r0_15)) 512 slices_S256x1024_o0_512_S256x128)⟩,
  ⟨r0_9, valueTile (cut (k0_pay11 (upper x0 x2) (View.ld x3 r0_15)) 384 slices_S256x1024_o0_384_S256x128)⟩,
  ⟨r0_8, valueTile (cut (k0_pay11 (upper x0 x2) (View.ld x3 r0_15)) 256 slices_S256x1024_o0_256_S256x128)⟩,
  ⟨r0_7, valueTile (cut (k0_pay11 (upper x0 x2) (View.ld x3 r0_15)) 128 slices_S256x1024_o0_128_S256x128)⟩,
  ⟨r0_6, valueTile (cut (k0_pay11 (upper x0 x2) (View.ld x3 r0_15)) 0 slices_S256x1024_o0_0_S256x128)⟩] := by
  sl_kernel_rfl

/-- What the kernel stores into its query-latent window, last store first. -/
theorem out11_eq : out0_11 x0 x1 x2 x3 x4 x5 x6 x7 = View.canon [
  ⟨r0_31, k0_pay50 (lower x0 x2) (View.ld x3 r0_16) (View.ld x6 r0_17)⟩,
  ⟨r0_18, k0_pay50 (upper x0 x2) (View.ld x3 r0_16) (View.ld x6 r0_17)⟩] := by
  sl_kernel_rfl

/-- What the kernel stores into its key-value-latent window, last store first. -/
theorem out12_eq : out0_12 x0 x1 x2 x3 x4 x5 x6 x7 = View.canon [
  ⟨r0_31, k0_pay108 (lower x0 x2) (View.ld x3 r0_16) (View.ld x7 r0_17)⟩,
  ⟨r0_18, k0_pay108 (upper x0 x2) (View.ld x3 r0_16) (View.ld x7 r0_17)⟩] := by
  sl_kernel_rfl

/-- What the kernel stores into its rotary-key window, last store first. -/
theorem out13_eq : out0_13 x0 x1 x2 x3 x4 x5 x6 x7 = View.canon [
  ⟨r0_22, k0_pay1 (lower x0 x2) (k0_pay66 (posL x1) (View.ld x5 r0_3)) (k0_pay67 (posL x1) (View.ld x5 r0_3)) (View.ld x3 r0_19)⟩,
  ⟨r0_4, k0_pay1 (upper x0 x2) (k0_pay66 (posU x1) (View.ld x5 r0_3)) (k0_pay67 (posU x1) (View.ld x5 r0_3)) (View.ld x3 r0_19)⟩] := by
  sl_kernel_rfl

/-- What the kernel stores into its cosine window, last store first. -/
theorem out14_eq : out0_14 x0 x1 x2 x3 x4 x5 x6 x7 = View.canon [
  ⟨r0_22, k0_pay66 (posL x1) (View.ld x5 r0_3)⟩,
  ⟨r0_4, k0_pay66 (posU x1) (View.ld x5 r0_3)⟩] := by
  sl_kernel_rfl

/-- What the kernel stores into its sine window, last store first. -/
theorem out15_eq : out0_15 x0 x1 x2 x3 x4 x5 x6 x7 = View.canon [
  ⟨r0_22, k0_pay67 (posL x1) (View.ld x5 r0_3)⟩,
  ⟨r0_4, k0_pay67 (posU x1) (View.ld x5 r0_3)⟩] := by
  sl_kernel_rfl

end

end Cert.Proof.Inproj

end
-- ==== Proof.Inproj.Scalar.lean ====
/- The entries both sides of the input projection compute, on extended reals: a column of the projection, a normalised latent, a rotation. -/
module

public import proofs.«01_k».proof.Proof.Row
public import Idealize.ShloMosaic.Lib.WordCmp

@[expose] public section

noncomputable section

namespace Cert.Proof.Inproj

open Idealize.ShloMosaic
open Cert.Proof.Row

/-- One column of the projection of a normalised row `p`: `g` the norm's weights, `w` the column. -/
def dotCol (p g w : Fin 2048 → EReal) : EReal := ∑ k, rowNorm p (g k) k * w k

/-- Every column of the projection, by number. -/
def cols (p g : Fin 2048 → EReal) (W : Fin 2048 → Fin 4160 → EReal) (n : ℕ) : EReal := if h : n < 4160 then dotCol p g (fun k => W k ⟨n, h⟩) else 0

theorem cols_at (p g : Fin 2048 → EReal) (W : Fin 2048 → Fin 4160 → EReal) {n : ℕ} (d : Fin 4160) (h : d.val = n) : cols p g W n = dotCol p g (fun k => W k d) := by
  subst h
  unfold cols
  rw [dif_pos d.isLt]

/-- One entry of a normalised latent row of 512 features. -/
def latNorm (p : Fin 512 → EReal) (g : EReal) (d : Fin 512) : EReal :=
  p d * Ideal.rsqrt (Ideal.div (∑ k, p k * p k) (Ideal.ofBits FTy.f32 0x44000000#32) + Ideal.ofBits FTy.f32 0x358637BD#32) * g

theorem latNorm_congr {p q : Fin 512 → EReal} {g g' : EReal} {d d' : Fin 512} (hp : ∀ k, p k = q k) (hg : g = g') (hd : d = d') :
    latNorm p g d = latNorm q g' d' := by
  obtain rfl : p = q := funext hp
  subst hg hd; rfl

/-- A finite list of frequencies, by number. -/
def byNumber {n : ℕ} (f : Fin n → EReal) (k : ℕ) : EReal := if h : k < n then f ⟨k, h⟩ else 0

theorem byNumber_at {n : ℕ} (f : Fin n → EReal) {k : ℕ} (d : Fin n) (h : d.val = k) : byNumber f k = f d := by
  subst h
  unfold byNumber
  rw [dif_pos d.isLt]

/-- The lanes' frequencies: the list twice, zero afterwards. -/
def lanes (half : ℕ) (q : ℕ → EReal) (l : ℕ) : EReal := if l < half then q l else if l - half < half then q (l - half) else 0

/-- The rotation of the row `z` by the angles `a`: the first `half` lanes against the next `half`, the rest as they are. -/
def turned (half : ℕ) (z a : ℕ → EReal) (l : ℕ) : EReal :=
  if l < half then z l * Ideal.cos (a l) - z (half + l) * Ideal.sin (a l)
  else if l - half < half then z l * Ideal.cos (a (l - half)) + z (l - half) * Ideal.sin (a (l - half)) else z l

theorem turned_congr {half : ℕ} {z z' a a' : ℕ → EReal} {l l' : ℕ} (hz : ∀ n, z n = z' n) (ha : ∀ n, a n = a' n) (hl : l = l') :
    turned half z a l = turned half z' a' l' := by
  obtain rfl : z = z' := funext hz
  obtain rfl : a = a' := funext ha
  subst hl; rfl

/-- The lane's sign on its partner. -/
def sign (half l : ℕ) : EReal := if l < half then -1 else 1

theorem cos_zero : Ideal.cos 0 = 1 := by
  change ((Real.cos 0 : ℝ) : EReal) = 1
  rw [Real.cos_zero, EReal.coe_one]

theorem sin_zero : Ideal.sin 0 = 0 := by
  change ((Real.sin 0 : ℝ) : EReal) = 0
  rw [Real.sin_zero, EReal.coe_zero]

/-- The kernel's way to rotate: the lane times its cosine plus its partner times its signed sine. -/
theorem turned_lanes (half : ℕ) (z q : ℕ → EReal) (p u v : EReal) (l : ℕ) (hu : l < half → u = z (half + l)) (hv : half ≤ l → l - half < half → v = z (l - half)) :
    z l * Ideal.cos (p * lanes half q l) + (if l < half then u else v) * (Ideal.sin (p * lanes half q l) * sign half l)
      = turned half z (fun k => p * q k) l := by
  unfold turned lanes sign
  by_cases h : l < half
  · simp only [if_pos h]
    rw [hu h, mul_neg, mul_one, mul_neg, sub_eq_add_neg]
  · simp only [if_neg h]
    by_cases h' : l - half < half
    · simp only [if_pos h']
      rw [hv (by omega) h', mul_one]
    · simp only [if_neg h']
      rw [mul_zero, cos_zero, sin_zero, mul_one, zero_mul, mul_zero, add_zero]

/-- The cosine table's entry. -/
def cosLane (half : ℕ) (a : ℕ → EReal) (l : ℕ) : EReal := if l < half then Ideal.cos (a l) else if l - half < half then Ideal.cos (a (l - half)) else 1

/-- The signed sine table's entry. -/
def sinLane (half : ℕ) (a : ℕ → EReal) (l : ℕ) : EReal := if l < half then -Ideal.sin (a l) else if l - half < half then Ideal.sin (a (l - half)) else 0

theorem cosLane_lanes (half : ℕ) (q : ℕ → EReal) (p : EReal) (l : ℕ) : Ideal.cos (p * lanes half q l) = cosLane half (fun k => p * q k) l := by
  unfold cosLane lanes
  split_ifs
  · rfl
  · rfl
  · rw [mul_zero, cos_zero]

theorem sinLane_lanes (half : ℕ) (q : ℕ → EReal) (p : EReal) (l : ℕ) :
    Ideal.sin (p * lanes half q l) * sign half l = sinLane half (fun k => p * q k) l := by
  unfold sinLane lanes sign
  split_ifs
  · rw [mul_neg, mul_one]
  · rw [mul_one]
  · rw [mul_zero, sin_zero, mul_one]

/-- The rotary key's row: 64 columns of the projection, zeros after them. -/
def ropeRow (c : ℕ → EReal) (n : ℕ) : EReal := if n < 64 then c (4096 + n) else 0

/-- Two entries chosen by a comparison of the lane's number, as a case split. -/
theorem select_lane (l : Fin 128) (half : ℕ) (hh : half < 128) (u v : EReal) :
    Scalar.select (IntOp.cmpi CmpIPredicate.slt (BitVec.ofNat 32 l.val) (BitVec.ofNat 32 half)) u v = if l.val < half then u else v := by
  rw [WordCmp.cmpi_slt_ofNat (by omega) (by omega)]
  by_cases h : l.val < half <;> simp [Scalar.select, h]

theorem neg_one_bits : Ideal.ofBits FTy.f32 0xBF800000#32 = -1 := by
  simp [Ideal.ofBits, Ideal.ieee, -EReal.coe_mul]; norm_num

theorem one_bits : Ideal.ofBits FTy.f32 0x3F800000#32 = 1 := by
  simp [Ideal.ofBits, Ideal.ieee, -EReal.coe_mul]; norm_num

theorem sitofp_zero : FloatOps.sitofp (F := Ideal) FTy.f32 0#32 = (0 : EReal) := by
  change (((0#32 : BitVec 32).toInt : ℝ) : EReal) = 0
  simp

end Cert.Proof.Inproj

end
-- ==== Proof.Inproj.Read.lean ====
/- The input projection's stored tiles at an index, over the loaded blocks. -/
module

public import proofs.«01_k».proof.Proof.Inproj.Step
public import proofs.«01_k».proof.Proof.Inproj.Scalar

@[expose] public section

set_option maxRecDepth 16384

noncomputable section

namespace Cert.Proof.Inproj

open Idealize.ShloMosaic Idealize.ShloMosaic.TcCoe
open Cert.Kernel4Ideal Cert.Kernel4Ideal.Gen
open Cert.Proof.Row

variable (x0 : Vec Ideal S512x2048 .f32) (x1 : Vec Ideal S512x1 .f32) (x2 : Vec Ideal S1x2048 .f32) (x3 : Vec Ideal S2048x4160 .bf16)

/-- The projection's columns for the block's row `i`. -/
def blockCols (i : Fin 512) : ℕ → EReal := cols (fun k => x0 (ix2 i k)) (fun k => x2 (ix2 0 k)) (fun k d => x3 (ix2 k d))

/-- `H` holds the 256 normalised rows from row `n` on. -/
def Rows (H : FVec Ideal S256x2048 .bf16) (n : ℕ) : Prop :=
  ∀ (r : Fin 256) (i : Fin 512), i.val = n + r.val → ∀ k, H (ix2 r k) = rowNorm (fun k => x0 (ix2 i k)) (x2 (ix2 0 k)) k

/-- `p` holds the 256 positions from row `n` on. -/
def Places (p : Vec Ideal S256x1 .f32) (n : ℕ) : Prop := ∀ (r : Fin 256) (i : Fin 512), i.val = n + r.val → p (ix2 r 0) = x1 (ix2 i 0)

theorem norm_at (x : Vec Ideal S256x2048 .f32) (g : Vec Ideal S1x2048 .f32) (r : Fin 256) (k : Fin 2048) :
    k0_pay2 x g (ix2 r k) = rowNorm (fun k => x (ix2 r k)) (g (ix2 0 k)) k := by
  pointwise [k0_pay2, rowNorm]

theorem upper_rows : Rows x0 x2 (upper x0 x2) 0 := by
  intro r i hi k
  unfold upper
  rw [norm_at]
  refine rowNorm_congr (fun k => congrArg x0 ?_) (congrArg x2 ?_)
  · refine funext fun a => Fin.ext ?_
    fin_cases a <;> simp [hi, ix2]
  · refine funext fun a => Fin.ext ?_
    fin_cases a <;> simp [ix2]

theorem lower_rows : Rows x0 x2 (lower x0 x2) 256 := by
  intro r i hi k
  unfold lower
  rw [norm_at]
  refine rowNorm_congr (fun k => congrArg x0 ?_) (congrArg x2 ?_)
  · refine funext fun a => Fin.ext ?_
    fin_cases a <;> simp [hi, ix2]
  · refine funext fun a => Fin.ext ?_
    fin_cases a <;> simp [ix2]

theorem posU_places : Places x1 (posU x1) 0 := by
  intro r i hi
  refine congrArg x1 (funext fun a => Fin.ext ?_)
  fin_cases a <;> simp [hi, ix2]

theorem posL_places : Places x1 (posL x1) 256 := by
  intro r i hi
  refine congrArg x1 (funext fun a => Fin.ext ?_)
  fin_cases a <;> simp [hi, ix2]

/-- A row of a product with a column of the weights. -/
theorem column {H : FVec Ideal S256x2048 .bf16} {n : ℕ} (hH : Rows x0 x2 H n) {r : Fin 256} {i : Fin 512} (hi : i.val = n + r.val)
    {w : Fin 2048 → EReal} {N : ℕ} (d : Fin 4160) (hd : d.val = N) (hw : ∀ k, w k = x3 (ix2 k d)) : ∑ k, H (ix2 r k) * w k = blockCols x0 x2 x3 i N := by
  unfold blockCols
  rw [cols_at _ _ _ d hd]
  exact Finset.sum_congr rfl fun k _ => by rw [hH r i hi, hw]

section
variable (f : Vec Ideal S1x128 .f32) {q : ℕ → EReal}

theorem cos_at (p : Vec Ideal S256x1 .f32) (r : Fin 256) (l : Fin 128) : k0_pay5 p f (ix2 r l) = Ideal.cos (p (ix2 r 0) * f (ix2 0 l)) := by
  pointwise [k0_pay5, k0_pay4, k0_pay3]

theorem sin_at (p : Vec Ideal S256x1 .f32) (r : Fin 256) (l : Fin 128) : k0_pay6 p f (ix2 r l) = Ideal.sin (p (ix2 r 0) * f (ix2 0 l)) * sign 16 l := by
  pointwise [k0_pay6, k0_pay4, k0_pay3]
  exact congrArg (_ * ·) ((select_lane l 16 (by omega) _ _).trans (by rw [neg_one_bits]; rfl))

theorem cosB_at (p : Vec Ideal S256x1 .f32) (r : Fin 256) (l : Fin 128) : k0_pay66 p f (ix2 r l) = Ideal.cos (p (ix2 r 0) * f (ix2 0 l)) := by
  pointwise [k0_pay66, k0_pay65, k0_pay61]

theorem sinB_at (p : Vec Ideal S256x1 .f32) (r : Fin 256) (l : Fin 128) : k0_pay67 p f (ix2 r l) = Ideal.sin (p (ix2 r 0) * f (ix2 0 l)) * sign 32 l := by
  pointwise [k0_pay67, k0_pay65, k0_pay61]
  exact congrArg (_ * ·) ((select_lane l 32 (by omega) _ _).trans (by rw [neg_one_bits]; rfl))

theorem turn_at (z c s : FVec Ideal S256x128 .f32) (r : Fin 256) (l : Fin 128) : turn z c s (ix2 r l) = z (ix2 r l) * c (ix2 r l)
    + (if l.val < 16 then z (ix2 r ⟨(l.val + 128 - 112) % 128, Nat.mod_lt _ (by omega)⟩) else z (ix2 r ⟨(l.val + 128 - 16) % 128, Nat.mod_lt _ (by omega)⟩)) * s (ix2 r l) := by
  pointwise [turn]
  rw [← select_lane l 16 (by omega)]

/-- A rotated head: its row `z`, the position's place and the lanes' frequencies. -/
theorem turned_at (Z : FVec Ideal S256x128 .f32) (p : Vec Ideal S256x1 .f32) (r : Fin 256) (l : Fin 128) {z : ℕ → EReal} (hz : ∀ l, Z (ix2 r l) = z l.val)
    (hf : ∀ l, f (ix2 0 l) = lanes 16 q l.val) : turn Z (k0_pay5 p f) (k0_pay6 p f) (ix2 r l) = turned 16 z (fun k => p (ix2 r 0) * q k) l := by
  rw [turn_at, cos_at, sin_at, hf, hz, hz, hz]
  refine turned_lanes 16 z q _ _ _ l (fun h => congrArg z ?_) (fun h h' => congrArg z ?_)
  · show (l.val + 128 - 112) % 128 = 16 + l.val
    omega
  · show (l.val + 128 - 16) % 128 = l.val - 16
    omega

theorem cut_at (H : FVec Ideal S256x2048 .bf16) (w : Vec Ideal S2048x1024 .bf16) (o : ℕ) (hs : S256x1024.Slices ![0, o] S256x128) (ho : o ≤ 896) (r : Fin 256) (l : Fin 128) :
    cut (k0_pay11 H w) o hs (ix2 r l) = ∑ k, H (ix2 r k) * w (ix2 k ⟨o + l.val, by omega⟩) := by
  pointwise [cut, k0_pay11]

theorem valueTile_at (z : FVec Ideal S256x128 .f32) (a b : Fin 1) (r : Fin 256) (l : Fin 128) : valueTile z (ix4 a b r l) = z (ix2 r l) := by
  pointwise [valueTile]

end

theorem latQ_at (H : FVec Ideal S256x2048 .bf16) (w : Vec Ideal S2048x1024 .bf16) (g : Vec Ideal S1x512 .f32) (r : Fin 256) (l : Fin 512) :
    k0_pay50 H w g (ix2 r l) = latNorm (fun d => ∑ k, H (ix2 r k) * w (ix2 k ⟨d.val, by omega⟩)) (g (ix2 0 l)) l := by
  pointwise [k0_pay50, k0_pay49, latNorm]

theorem latK_at (H : FVec Ideal S256x2048 .bf16) (w : Vec Ideal S2048x1024 .bf16) (g : Vec Ideal S1x512 .f32) (r : Fin 256) (l : Fin 512) :
    k0_pay108 H w g (ix2 r l) = latNorm (fun d => ∑ k, H (ix2 r k) * w (ix2 k ⟨512 + d.val, by omega⟩)) (g (ix2 0 l)) l := by
  pointwise [k0_pay108, k0_pay106, latNorm]

/-- `w` holds the 1024 columns of the weights from column `m` on. -/
def Columns (w : Vec Ideal S2048x1024 .bf16) (m : ℕ) : Prop := ∀ (k : Fin 2048) (d : Fin 1024) (e : Fin 4160), e.val = m + d.val → w (ix2 k d) = x3 (ix2 k e)

theorem columns0 : Columns x3 (View.ld x3 r0_5) 0 := by
  intro k d e he
  refine congrArg x3 (funext fun a => Fin.ext ?_)
  fin_cases a <;> simp [he, ix2]

theorem columns1 : Columns x3 (View.ld x3 r0_14) 1024 := by
  intro k d e he
  refine congrArg x3 (funext fun a => Fin.ext ?_)
  fin_cases a <;> simp [he, ix2]

theorem columns2 : Columns x3 (View.ld x3 r0_15) 2048 := by
  intro k d e he
  refine congrArg x3 (funext fun a => Fin.ext ?_)
  fin_cases a <;> simp [he, ix2]

theorem columns3 : Columns x3 (View.ld x3 r0_16) 3072 := by
  intro k d e he
  refine congrArg x3 (funext fun a => Fin.ext ?_)
  fin_cases a <;> simp [he, ix2]

section
variable {x0 x1 x2 x3} {H : FVec Ideal S256x2048 .bf16} {n : ℕ} (hH : Rows x0 x2 H n) {p : Vec Ideal S256x1 .f32} (hp : Places x1 p n)
  {w : Vec Ideal S2048x1024 .bf16} {m : ℕ} (hw : Columns x3 w m) (hm : m ≤ 3072) {f : Vec Ideal S1x128 .f32} {q : ℕ → EReal}
  {i : Fin 512}

section
variable {o : ℕ} (hs : S256x1024.Slices ![0, o] S256x128)

include hH hw hm in
theorem head_at {r : Fin 256} (hi : i.val = n + r.val) {h : Fin 8} (ho : o = 128 * h.val) (l : Fin 128) :
    cut (k0_pay11 H w) o hs (ix2 r l) = blockCols x0 x2 x3 i (m + (h.val * 128 + l.val)) := by
  rw [cut_at _ _ _ _ (by omega)]
  refine column x0 x2 x3 hH hi ⟨m + (h.val * 128 + l.val), by omega⟩ rfl fun k => hw k _ _ ?_
  show m + (h.val * 128 + l.val) = m + (o + l.val)
  omega

include hH hw hm in
theorem value_at (x : S1x1x256x128.Idx) (h : Fin 8) (l : Fin 128) (hi : i.val = n + (x 2 : ℕ)) (ho : o = 128 * h.val) (hl : l.val = (x 3 : ℕ)) :
    valueTile (cut (k0_pay11 H w) o hs) x = blockCols x0 x2 x3 i (m + (h.val * 128 + l.val)) := by
  obtain ⟨a, b, r, e, rfl⟩ : ∃ (a : Fin 1) (b : Fin 1) (r : Fin 256) (e : Fin 128), x = ix4 a b r e := ⟨_, _, _, _, eq_ix4 _⟩
  obtain rfl : l = e := Fin.ext hl
  change i.val = n + r.val at hi
  rw [valueTile_at, head_at hH hw hm hs hi ho]

include hH hp hw hm in
theorem key_at (hf : ∀ l, f (ix2 0 l) = lanes 16 q l.val) (x : S1x1x256x128.Idx) (h : Fin 8) (l : Fin 128) (hi : i.val = n + (x 2 : ℕ)) (ho : o = 128 * h.val) (hl : l.val = (x 3 : ℕ)) :
    keyTile (k0_pay5 p f) (k0_pay6 p f) (cut (k0_pay11 H w) o hs) x
      = turned 16 (fun k => blockCols x0 x2 x3 i (m + (h.val * 128 + k))) (fun k => x1 (ix2 i 0) * q k) l := by
  obtain ⟨a, b, r, e, rfl⟩ : ∃ (a : Fin 1) (b : Fin 1) (r : Fin 256) (e : Fin 128), x = ix4 a b r e := ⟨_, _, _, _, eq_ix4 _⟩
  obtain rfl : l = e := Fin.ext hl
  change i.val = n + r.val at hi
  unfold keyTile
  rw [valueTile_at, turned_at (z := fun k => blockCols x0 x2 x3 i (m + (h.val * 128 + k))) f _ p r l (fun l => head_at hH hw hm hs hi ho l) hf, hp _ _ hi]

include hH hp hw hm in
theorem query_at (hf : ∀ l, f (ix2 0 l) = lanes 16 q l.val) (x : S1x1x256x128.Idx) (h : Fin 8) (l : Fin 128) (hi : i.val = n + (x 2 : ℕ)) (ho : o = 128 * h.val) (hl : l.val = (x 3 : ℕ)) :
    queryTile (k0_pay5 p f) (k0_pay6 p f) (cut (k0_pay11 H w) o hs) x
      = turned 16 (fun k => blockCols x0 x2 x3 i (m + (h.val * 128 + k))) (fun k => x1 (ix2 i 0) * q k) l * Ideal.ofBits FTy.f32 0x3E0293EE#32 := by
  refine Eq.trans ?_ (congrArg (· * Ideal.ofBits FTy.f32 0x3E0293EE#32) (key_at hH hp hw hm hs hf x h l hi ho hl))
  obtain ⟨a, b, r, e, rfl⟩ : ∃ (a : Fin 1) (b : Fin 1) (r : Fin 256) (e : Fin 128), x = ix4 a b r e := ⟨_, _, _, _, eq_ix4 _⟩
  unfold keyTile queryTile
  rw [valueTile_at, valueTile_at]
  rfl
end

/-! ## The latents -/

theorem ld512 (g : Vec Ideal S1x512 .f32) (l : Fin 512) : View.ld g r0_17 (ix2 0 l) = g (ix2 0 l) := by
  refine congrArg g (funext fun a => Fin.ext ?_)
  fin_cases a <;> simp [ix2]

include hH in
theorem cq_at (g : Vec Ideal S1x512 .f32) (x : S256x512.Idx) (l : Fin 512) (hi : i.val = n + (x 0 : ℕ)) (hl : l.val = (x 1 : ℕ)) :
    k0_pay50 H (View.ld x3 r0_16) (View.ld g r0_17) x = latNorm (fun d => blockCols x0 x2 x3 i (3072 + d.val)) (g (ix2 0 l)) l := by
  obtain ⟨r, e, rfl⟩ : ∃ (r : Fin 256) (e : Fin 512), x = ix2 r e := ⟨_, _, eq_ix2 _⟩
  obtain rfl : l = e := Fin.ext hl
  change i.val = n + r.val at hi
  rw [latQ_at, ld512]
  exact latNorm_congr (fun d => column x0 x2 x3 hH hi ⟨3072 + d.val, by omega⟩ rfl fun k => columns3 x3 k _ _ rfl) rfl rfl

include hH in
theorem ckv_at (g : Vec Ideal S1x512 .f32) (x : S256x512.Idx) (l : Fin 512) (hi : i.val = n + (x 0 : ℕ)) (hl : l.val = (x 1 : ℕ)) :
    k0_pay108 H (View.ld x3 r0_16) (View.ld g r0_17) x = latNorm (fun d => blockCols x0 x2 x3 i (3584 + d.val)) (g (ix2 0 l)) l := by
  obtain ⟨r, e, rfl⟩ : ∃ (r : Fin 256) (e : Fin 512), x = ix2 r e := ⟨_, _, eq_ix2 _⟩
  obtain rfl : l = e := Fin.ext hl
  change i.val = n + r.val at hi
  rw [latK_at, ld512]
  refine latNorm_congr (fun d => column x0 x2 x3 hH hi ⟨3584 + d.val, by omega⟩ rfl fun k => columns3 x3 k _ _ ?_) rfl rfl
  show 3584 + d.val = 3072 + (512 + d.val)
  omega

/-! ## The rotary key and its tables -/

/-- A row of the 64 rotary columns, zeros after them. -/
def padded (H : FVec Ideal S256x2048 .bf16) (w : Vec Ideal S2048x64 .bf16) (r : Fin 256) (l : ℕ) : EReal :=
  if h : l < 64 then ∑ k, H (ix2 r k) * w (ix2 k ⟨l, h⟩) else 0

theorem ropeTile_at (H : FVec Ideal S256x2048 .bf16) (c s : FVec Ideal S256x128 .f32) (w : Vec Ideal S2048x64 .bf16) (r : Fin 256) (l : Fin 128) :
    k0_pay1 H c s w (ix2 r l) = padded H w r l * c (ix2 r l)
      + (if l.val < 32 then padded H w r ((l.val + 128 - 96) % 128) else padded H w r ((l.val + 128 - 32) % 128)) * s (ix2 r l) := by
  unfold padded
  rw [← select_lane l 32 (by omega)]
  pointwise [k0_pay1]

include hH in
theorem padded_at {r : Fin 256} (hi : i.val = n + r.val) (l : ℕ) : padded H (View.ld x3 r0_19) r l = ropeRow (blockCols x0 x2 x3 i) l := by
  unfold padded ropeRow
  by_cases h : l < 64
  · rw [dif_pos h, if_pos h]
    refine column x0 x2 x3 hH hi ⟨4096 + l, by omega⟩ rfl fun k => congrArg x3 (funext fun a => Fin.ext ?_)
    fin_cases a <;> simp [ix2]
  · rw [dif_neg h, if_neg h]

theorem ld128 (f : Vec Ideal S1x128 .f32) (l : Fin 128) : View.ld f r0_3 (ix2 0 l) = f (ix2 0 l) := by
  refine congrArg f (funext fun a => Fin.ext ?_)
  fin_cases a <;> simp [ix2]

include hH hp in
theorem rope_at (hf : ∀ l, f (ix2 0 l) = lanes 32 q l.val) (x : S256x128.Idx) (l : Fin 128) (hi : i.val = n + (x 0 : ℕ)) (hl : l.val = (x 1 : ℕ)) :
    k0_pay1 H (k0_pay66 p f) (k0_pay67 p f) (View.ld x3 r0_19) x
      = turned 32 (ropeRow (blockCols x0 x2 x3 i)) (fun k => x1 (ix2 i 0) * q k) l := by
  obtain ⟨r, e, rfl⟩ : ∃ (r : Fin 256) (e : Fin 128), x = ix2 r e := ⟨_, _, eq_ix2 _⟩
  obtain rfl : l = e := Fin.ext hl
  change i.val = n + r.val at hi
  rw [ropeTile_at, cosB_at, sinB_at, hf, padded_at hH hi, padded_at hH hi, padded_at hH hi, hp r i hi]
  refine turned_lanes 32 _ q _ _ _ l (fun h => congrArg _ ?_) (fun h h' => congrArg _ ?_)
  · omega
  · omega

include hp in
theorem cosTab_at (hf : ∀ l, f (ix2 0 l) = lanes 32 q l.val) (x : S256x128.Idx) (l : Fin 128) (hi : i.val = n + (x 0 : ℕ)) (hl : l.val = (x 1 : ℕ)) :
    k0_pay66 p f x = cosLane 32 (fun k => x1 (ix2 i 0) * q k) l := by
  obtain ⟨r, e, rfl⟩ : ∃ (r : Fin 256) (e : Fin 128), x = ix2 r e := ⟨_, _, eq_ix2 _⟩
  obtain rfl : l = e := Fin.ext hl
  change i.val = n + r.val at hi
  rw [cosB_at, hf, hp r i hi, cosLane_lanes]

include hp in
theorem sinTab_at (hf : ∀ l, f (ix2 0 l) = lanes 32 q l.val) (x : S256x128.Idx) (l : Fin 128) (hi : i.val = n + (x 0 : ℕ)) (hl : l.val = (x 1 : ℕ)) :
    k0_pay67 p f x = sinLane 32 (fun k => x1 (ix2 i 0) * q k) l := by
  obtain ⟨r, e, rfl⟩ : ∃ (r : Fin 256) (e : Fin 128), x = ix2 r e := ⟨_, _, eq_ix2 _⟩
  obtain rfl : l = e := Fin.ext hl
  change i.val = n + r.val at hi
  rw [sinB_at, hf, hp r i hi, sinLane_lanes]
end

end Cert.Proof.Inproj

end
-- ==== Proof.Inproj.Block.lean ====
/- The input projection's eight output blocks at an index, over the loaded blocks. -/
module

public import proofs.«01_k».proof.Proof.Inproj.Read

@[expose] public section

set_option maxRecDepth 16384

noncomputable section

namespace Cert.Proof.Inproj

open Idealize.ShloMosaic Idealize.ShloMosaic.TcCoe
open Cert.Kernel4Ideal Cert.Kernel4Ideal.Gen
open Cert.Proof.Row

variable (x0 : Vec Ideal S512x2048 .f32) (x1 : Vec Ideal S512x1 .f32) (x2 : Vec Ideal S1x2048 .f32) (x3 : Vec Ideal S2048x4160 .bf16)
  (x4 x5 : Vec Ideal S1x128 .f32) (x6 x7 : Vec Ideal S1x512 .f32) (q : ℕ → EReal)

theorem freq_ld {f : Vec Ideal S1x128 .f32} {half : ℕ} {q : ℕ → EReal} (hf : ∀ l, f (ix2 0 l) = lanes half q l.val) (l : Fin 128) :
    View.ld f r0_3 (ix2 0 l) = lanes half q l.val := (ld128 f l).trans (hf l)

/-- A rotated entry of the head block: the columns from `m` on. -/
def keyOf (m : ℕ) (y : S1x8x512x128.Idx) : EReal :=
  turned 16 (fun k => blockCols x0 x2 x3 (y 2) (m + ((y 1 : Fin 8).val * 128 + k))) (fun k => x1 (ix2 (y 2 : Fin 512) 0) * q k) (y 3 : Fin 128).val

/-- An entry of the value block. -/
def valueOf (y : S1x8x512x128.Idx) : EReal := blockCols x0 x2 x3 (y 2) (2048 + ((y 1 : Fin 8).val * 128 + (y 3 : Fin 128).val))

/-- An entry of a latent block: the columns from `m` on. -/
def latOf (m : ℕ) (g : Vec Ideal S1x512 .f32) (y : S512x512.Idx) : EReal :=
  latNorm (fun d => blockCols x0 x2 x3 (y 0) (m + d.val)) (g (ix2 0 (y 1 : Fin 512))) (y 1 : Fin 512)

/-- An entry of the rotary-key block. -/
def ropeOf (y : S512x128.Idx) : EReal :=
  turned 32 (ropeRow (blockCols x0 x2 x3 (y 0))) (fun k => x1 (ix2 (y 0 : Fin 512) 0) * q k) (y 1 : Fin 128).val

/-- An entry of the cosine block. -/
def cosOf (y : S512x128.Idx) : EReal := cosLane 32 (fun k => x1 (ix2 (y 0 : Fin 512) 0) * q k) (y 1 : Fin 128).val

/-- An entry of the sine block. -/
def sinOf (y : S512x128.Idx) : EReal := sinLane 32 (fun k => x1 (ix2 (y 0 : Fin 512) 0) * q k) (y 1 : Fin 128).val

section
variable {x0 x1 x2 x3 q} {H : FVec Ideal S256x2048 .bf16} {n : ℕ} (hH : Rows x0 x2 H n) {p : Vec Ideal S256x1 .f32} (hp : Places x1 p n)
  {w : Vec Ideal S2048x1024 .bf16} {m : ℕ} (hw : Columns x3 w m) (hm : m ≤ 3072) {f : Vec Ideal S1x128 .f32}

section
variable {o : ℕ} (hs : S256x1024.Slices ![0, o] S256x128) (x : S1x1x256x128.Idx) (y : S1x8x512x128.Idx)
  (hi : (y 2 : ℕ) = n + (x 2 : ℕ)) (ho : o = 128 * (y 1 : ℕ)) (hl : (y 3 : ℕ) = (x 3 : ℕ))
include hi ho hl
include hH hp hw hm in
theorem query_piece (hf : ∀ l, f (ix2 0 l) = lanes 16 q l.val) :
    @Eq (Elt Ideal .f32) (queryTile (k0_pay5 p f) (k0_pay6 p f) (cut (k0_pay11 H w) o hs) x) (keyOf x0 x1 x2 x3 q m y * Ideal.ofBits FTy.f32 0x3E0293EE#32) :=
  query_at hH hp hw hm hs hf x (y 1) (y 3) hi ho hl

include hH hp hw hm in
theorem key_piece (hf : ∀ l, f (ix2 0 l) = lanes 16 q l.val) :
    @Eq (Elt Ideal .f32) (keyTile (k0_pay5 p f) (k0_pay6 p f) (cut (k0_pay11 H w) o hs) x) (keyOf x0 x1 x2 x3 q m y) :=
  key_at hH hp hw hm hs hf x (y 1) (y 3) hi ho hl

include hH in
theorem value_piece (hw : Columns x3 w 2048) : @Eq (Elt Ideal .f32) (valueTile (cut (k0_pay11 H w) o hs) x) (valueOf x0 x2 x3 y) :=
  value_at hH hw (by norm_num) hs x (y 1) (y 3) hi ho hl
end

section
variable (x : S256x512.Idx) (y : S512x512.Idx) (hi : (y 0 : ℕ) = n + (x 0 : ℕ)) (hl : (y 1 : ℕ) = (x 1 : ℕ))
include hH hi hl
theorem cq_piece (g : Vec Ideal S1x512 .f32) :
    @Eq (Elt Ideal .bf16) (k0_pay50 H (View.ld x3 r0_16) (View.ld g r0_17) x) (latOf x0 x2 x3 3072 g y) := cq_at hH g x (y 1) hi hl

theorem ckv_piece (g : Vec Ideal S1x512 .f32) :
    @Eq (Elt Ideal .bf16) (k0_pay108 H (View.ld x3 r0_16) (View.ld g r0_17) x) (latOf x0 x2 x3 3584 g y) := ckv_at hH g x (y 1) hi hl
end

section
variable (x : S256x128.Idx) (y : S512x128.Idx) (hi : (y 0 : ℕ) = n + (x 0 : ℕ)) (hl : (y 1 : ℕ) = (x 1 : ℕ))
variable (hf : ∀ l, f (ix2 0 l) = lanes 32 q l.val)
include hi hl hf
include hH hp in
theorem rope_piece : @Eq (Elt Ideal .bf16) (k0_pay1 H (k0_pay66 p f) (k0_pay67 p f) (View.ld x3 r0_19) x) (ropeOf x0 x1 x2 x3 q y) :=
  rope_at hH hp hf x (y 1) hi hl

include hp in
theorem cosTab_piece : @Eq (Elt Ideal .f32) (k0_pay66 p f x) (cosOf x1 q y) := cosTab_at hp hf x (y 1) hi hl

include hp in
theorem sinTab_piece : @Eq (Elt Ideal .f32) (k0_pay67 p f x) (sinOf x1 q y) := sinTab_at hp hf x (y 1) hi hl
end
end

variable {q}

theorem query_block (hf : ∀ l, x4 (ix2 0 l) = lanes 16 q l.val) (y : S1x8x512x128.Idx) : out0_8 x0 x1 x2 x3 x4 x5 x6 x7 y = keyOf x0 x1 x2 x3 q 0 y * Ideal.ofBits FTy.f32 0x3E0293EE#32 := by
  have key : out0_8 x0 x1 x2 x3 x4 x5 x6 x7 = fun y : S1x8x512x128.Idx => keyOf x0 x1 x2 x3 q 0 y * Ideal.ofBits FTy.f32 0x3E0293EE#32 := by
    rw [out8_eq]
    funext y
    canon_tiles x h
    all_goals first
    | (with_reducible refine query_piece (upper_rows x0 x2) (posU_places x1) (columns0 x3) (by norm_num) _ x y ?_ ?_ ?_ (freq_ld hf)) <;> omega
    | (with_reducible refine query_piece (lower_rows x0 x2) (posL_places x1) (columns0 x3) (by norm_num) _ x y ?_ ?_ ?_ (freq_ld hf)) <;> omega
  exact congrFun key y

theorem key_block (hf : ∀ l, x4 (ix2 0 l) = lanes 16 q l.val) (y : S1x8x512x128.Idx) : out0_9 x0 x1 x2 x3 x4 x5 x6 x7 y = keyOf x0 x1 x2 x3 q 1024 y := by
  have key : out0_9 x0 x1 x2 x3 x4 x5 x6 x7 = fun y : S1x8x512x128.Idx => keyOf x0 x1 x2 x3 q 1024 y := by
    rw [out9_eq]
    funext y
    canon_tiles x h
    all_goals first
    | (with_reducible refine key_piece (upper_rows x0 x2) (posU_places x1) (columns1 x3) (by norm_num) _ x y ?_ ?_ ?_ (freq_ld hf)) <;> omega
    | (with_reducible refine key_piece (lower_rows x0 x2) (posL_places x1) (columns1 x3) (by norm_num) _ x y ?_ ?_ ?_ (freq_ld hf)) <;> omega
  exact congrFun key y

theorem value_block (y : S1x8x512x128.Idx) : out0_10 x0 x1 x2 x3 x4 x5 x6 x7 y = valueOf x0 x2 x3 y := by
  have key : out0_10 x0 x1 x2 x3 x4 x5 x6 x7 = fun y : S1x8x512x128.Idx => valueOf x0 x2 x3 y := by
    rw [out10_eq]
    funext y
    canon_tiles x h
    all_goals first
    | (with_reducible refine value_piece (upper_rows x0 x2) _ x y ?_ ?_ ?_ (columns2 x3)) <;> omega
    | (with_reducible refine value_piece (lower_rows x0 x2) _ x y ?_ ?_ ?_ (columns2 x3)) <;> omega
  exact congrFun key y

theorem cq_block (y : S512x512.Idx) : out0_11 x0 x1 x2 x3 x4 x5 x6 x7 y = latOf x0 x2 x3 3072 x6 y := by
  have key : out0_11 x0 x1 x2 x3 x4 x5 x6 x7 = fun y : S512x512.Idx => latOf x0 x2 x3 3072 x6 y := by
    rw [out11_eq]
    funext y
    canon_tiles x h
    all_goals first
    | (with_reducible refine cq_piece (upper_rows x0 x2) x y ?_ ?_ x6) <;> omega
    | (with_reducible refine cq_piece (lower_rows x0 x2) x y ?_ ?_ x6) <;> omega
  exact congrFun key y

theorem ckv_block (y : S512x512.Idx) : out0_12 x0 x1 x2 x3 x4 x5 x6 x7 y = latOf x0 x2 x3 3584 x7 y := by
  have key : out0_12 x0 x1 x2 x3 x4 x5 x6 x7 = fun y : S512x512.Idx => latOf x0 x2 x3 3584 x7 y := by
    rw [out12_eq]
    funext y
    canon_tiles x h
    all_goals first
    | (with_reducible refine ckv_piece (upper_rows x0 x2) x y ?_ ?_ x7) <;> omega
    | (with_reducible refine ckv_piece (lower_rows x0 x2) x y ?_ ?_ x7) <;> omega
  exact congrFun key y

theorem rope_block (hf : ∀ l, x5 (ix2 0 l) = lanes 32 q l.val) (y : S512x128.Idx) : out0_13 x0 x1 x2 x3 x4 x5 x6 x7 y = ropeOf x0 x1 x2 x3 q y := by
  have key : out0_13 x0 x1 x2 x3 x4 x5 x6 x7 = fun y : S512x128.Idx => ropeOf x0 x1 x2 x3 q y := by
    rw [out13_eq]
    funext y
    canon_tiles x h
    all_goals first
    | (with_reducible refine rope_piece (upper_rows x0 x2) (posU_places x1) x y ?_ ?_ (freq_ld hf)) <;> omega
    | (with_reducible refine rope_piece (lower_rows x0 x2) (posL_places x1) x y ?_ ?_ (freq_ld hf)) <;> omega
  exact congrFun key y

theorem cosTab_block (hf : ∀ l, x5 (ix2 0 l) = lanes 32 q l.val) (y : S512x128.Idx) : out0_14 x0 x1 x2 x3 x4 x5 x6 x7 y = cosOf x1 q y := by
  have key : out0_14 x0 x1 x2 x3 x4 x5 x6 x7 = fun y : S512x128.Idx => cosOf x1 q y := by
    rw [out14_eq]
    funext y
    canon_tiles x h
    all_goals first
    | (with_reducible refine cosTab_piece (posU_places x1) x y ?_ ?_ (freq_ld hf)) <;> omega
    | (with_reducible refine cosTab_piece (posL_places x1) x y ?_ ?_ (freq_ld hf)) <;> omega
  exact congrFun key y

theorem sinTab_block (hf : ∀ l, x5 (ix2 0 l) = lanes 32 q l.val) (y : S512x128.Idx) : out0_15 x0 x1 x2 x3 x4 x5 x6 x7 y = sinOf x1 q y := by
  have key : out0_15 x0 x1 x2 x3 x4 x5 x6 x7 = fun y : S512x128.Idx => sinOf x1 q y := by
    rw [out15_eq]
    funext y
    canon_tiles x h
    all_goals first
    | (with_reducible refine sinTab_piece (posU_places x1) x y ?_ ?_ (freq_ld hf)) <;> omega
    | (with_reducible refine sinTab_piece (posL_places x1) x y ?_ ?_ (freq_ld hf)) <;> omega
  exact congrFun key y

end Cert.Proof.Inproj

end
-- ==== Proof.Inproj.Ref.lean ====
/- The input projection's eight reference results over the arguments, and what each one is at an index. -/
module

public import proofs.«01_k».proof.Proof.Gen.Reference4Ideal.Run
public import proofs.«01_k».proof.Proof.Inproj.Scalar
public import Idealize.ShloMosaic.Lib.Pointwise

@[expose] public section

set_option maxRecDepth 16384

noncomputable section

namespace Cert.Proof.Inproj.Ref

open Idealize.ShloMosaic Idealize.ShloMosaic.TcCoe
open Cert.Reference4Ideal Cert.Reference4Ideal.Gen
open Cert.Proof.Row

/-- The frequencies of a rotation of 32 lanes. -/
def freq16 : FVec Ideal S16 .f32 :=
  Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- The frequencies of a rotation of 64 lanes. -/
def freq32 : FVec Ideal S32 .f32 :=
  Host.powf (broadcastInDim S32 ![] bcast_S_S32 (constant S_ .f32 0x48F42400#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- A position as a float. -/
def place (T : IVec S4x4096 32) : FVec Ideal S4x4096 .f32 := sitofp .f32 T

/-- The normalised tokens times the input weights. -/
def proj (X : FVec Ideal S4x4096x2048 .f32) (G : FVec Ideal S1x2048 .f32) (W : FVec Ideal S1x2048x4160 .f32) : FVec Ideal S4x4096x4160 .f32 :=
  Host.dotGeneral (φ₁ := .f32) (φ₂ := .f32) dot_S4x4096x2048_S2048x4160_S4x4096x4160_2_0_01_1_n_n none (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ G shapeCasts_S1x2048_S2048)))) (shapeCast _ W shapeCasts_S1x2048x4160_S2048x4160)

/-- The angles of a rotation of 32 lanes. -/
def ang16 (T : IVec S4x4096 32) : FVec Ideal S4x4096x16 .f32 :=
  mulf (broadcastInDim S4x4096x16 ![0, 1, 2] bcast_S4x4096x1_S4x4096x16_0_1_2 (broadcastInDim S4x4096x1 ![0, 1] bcast_S4x4096_S4x4096x1_0_1 (place T)))
    (broadcastInDim S4x4096x16 ![0, 1, 2] bcast_S1x1x16_S4x4096x16_0_1_2 (broadcastInDim S1x1x16 ![2] bcast_S16_S1x1x16_2 freq16))

/-- The angles of a rotation of 64 lanes. -/
def ang32 (T : IVec S4x4096 32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (place T)))
    (broadcastInDim S4x4096x32 ![0, 1, 2] bcast_S1x1x32_S4x4096x32_0_1_2 (broadcastInDim S1x1x32 ![2] bcast_S32_S1x1x32_2 freq32))

/-- Eight heads of a run of the projection. -/
def heads (A : FVec Ideal S4x4096x1024 .f32) : FVec Ideal S4x4096x8x128 .f32 := shapeCast _ A shapeCasts_S4x4096x1024_S4x4096x8x128

/-- A table of 16 lanes for every head. -/
def perHead (c : FVec Ideal S4x4096x16 .f32) : FVec Ideal S4x4096x8x16 .f32 :=
  broadcastInDim S4x4096x8x16 ![0, 1, 2, 3] bcast_S4x4096x1x16_S4x4096x8x16_0_1_2_3 (broadcastInDim S4x4096x1x16 ![0, 1, 3] bcast_S4x4096x16_S4x4096x1x16_0_1_3 c)

/-- The rotation of the first 32 lanes of every head. -/
def rot8 (Z : FVec Ideal S4x4096x8x128 .f32) (T : IVec S4x4096 32) : FVec Ideal S4x4096x8x128 .f32 :=
  concatenate S4x4096x8x128 3 [
    ⟨S4x4096x8x16, (subf (mulf (extractStridedSlice S4x4096x8x16 ![0, 0, 0, 0] Z slices_S4x4096x8x128_S4x4096x8x16_0_0_0_0) (perHead (Host.cos (ang16 T))))
      (mulf (extractStridedSlice S4x4096x8x16 ![0, 0, 0, 16] Z slices_S4x4096x8x128_S4x4096x8x16_0_0_0_16) (perHead (Host.sin (ang16 T)))) : FVec Ideal S4x4096x8x16 .f32)⟩,
    ⟨S4x4096x8x16, (addf (mulf (extractStridedSlice S4x4096x8x16 ![0, 0, 0, 16] Z slices_S4x4096x8x128_S4x4096x8x16_0_0_0_16) (perHead (Host.cos (ang16 T))))
      (mulf (extractStridedSlice S4x4096x8x16 ![0, 0, 0, 0] Z slices_S4x4096x8x128_S4x4096x8x16_0_0_0_0) (perHead (Host.sin (ang16 T)))) : FVec Ideal S4x4096x8x16 .f32)⟩,
    ⟨S4x4096x8x96, (extractStridedSlice S4x4096x8x96 ![0, 0, 0, 32] Z slices_S4x4096x8x128_S4x4096x8x96_0_0_0_32 : FVec Ideal S4x4096x8x96 .f32)⟩]
    concatenates_S4x4096x8x16_S4x4096x8x16_S4x4096x8x96_S4x4096x8x128_d3

/-- Heads before tokens. -/
def headMajor (Z : FVec Ideal S4x4096x8x128 .f32) : FVec Ideal S4x8x4096x128 .f32 :=
  transpose S4x8x4096x128 [0, 2, 1, 3] Z transposes_S4x4096x8x128_S4x8x4096x128_0_2_1_3

/-- The queries: rotated, times one constant. -/
def refQ (P : FVec Ideal S4x4096x4160 .f32) (T : IVec S4x4096 32) : FVec Ideal S4x8x4096x128 .f32 :=
  headMajor (mulf (rot8 (heads (extractStridedSlice S4x4096x1024 ![0, 0, 0] P slices_S4x4096x4160_S4x4096x1024_0_0_0)) T)
    (broadcastInDim S4x4096x8x128 ![] bcast_S_S4x4096x8x128 (constant S_ .f32 0x3E0293EE#32)))

/-- The keys: rotated. -/
def refK (P : FVec Ideal S4x4096x4160 .f32) (T : IVec S4x4096 32) : FVec Ideal S4x8x4096x128 .f32 :=
  headMajor (rot8 (heads (extractStridedSlice S4x4096x1024 ![0, 0, 1024] P slices_S4x4096x4160_S4x4096x1024_0_0_1024)) T)

/-- The values. -/
def refV (P : FVec Ideal S4x4096x4160 .f32) : FVec Ideal S4x8x4096x128 .f32 :=
  headMajor (heads (extractStridedSlice S4x4096x1024 ![0, 0, 2048] P slices_S4x4096x4160_S4x4096x1024_0_0_2048))

/-- A normalised latent, its tokens flattened. -/
def refLat (Z : FVec Ideal S4x4096x512 .f32) (G : FVec Ideal S1x512 .f32) : FVec Ideal S16384x512 .bf16 :=
  truncf .bf16 (shapeCast S16384x512 (mulf (mulf Z (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf Z Z) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 (shapeCast _ G shapeCasts_S1x512_S512)))) shapeCasts_S4x4096x512_S16384x512) bitsLt_bf16_f32

/-- The query latent. -/
def refCq (P : FVec Ideal S4x4096x4160 .f32) (G : FVec Ideal S1x512 .f32) : FVec Ideal S16384x512 .bf16 :=
  refLat (extractStridedSlice S4x4096x512 ![0, 0, 3072] P slices_S4x4096x4160_S4x4096x512_0_0_3072) G

/-- The key-value latent. -/
def refCkv (P : FVec Ideal S4x4096x4160 .f32) (G : FVec Ideal S1x512 .f32) : FVec Ideal S16384x512 .bf16 :=
  refLat (extractStridedSlice S4x4096x512 ![0, 0, 3584] P slices_S4x4096x4160_S4x4096x512_0_0_3584) G

/-- The shared rotary key as one head. -/
def keyOne (P : FVec Ideal S4x4096x4160 .f32) : FVec Ideal S4x4096x1x64 .f32 :=
  broadcastInDim S4x4096x1x64 ![0, 1, 3] bcast_S4x4096x64_S4x4096x1x64_0_1_3 (extractStridedSlice S4x4096x64 ![0, 0, 4096] P slices_S4x4096x4160_S4x4096x64_0_0_4096)

/-- A table of 32 lanes for the one head. -/
def oneHead (c : FVec Ideal S4x4096x32 .f32) : FVec Ideal S4x4096x1x32 .f32 := broadcastInDim S4x4096x1x32 ![0, 1, 3] bcast_S4x4096x32_S4x4096x1x32_0_1_3 c

/-- The rotation of the rotary key's 64 lanes. -/
def rot1 (Z : FVec Ideal S4x4096x1x64 .f32) (T : IVec S4x4096 32) : FVec Ideal S4x4096x1x64 .f32 :=
  concatenate S4x4096x1x64 3 [
    ⟨S4x4096x1x32, (subf (mulf (extractStridedSlice S4x4096x1x32 ![0, 0, 0, 0] Z slices_S4x4096x1x64_S4x4096x1x32_0_0_0_0) (oneHead (Host.cos (ang32 T))))
      (mulf (extractStridedSlice S4x4096x1x32 ![0, 0, 0, 32] Z slices_S4x4096x1x64_S4x4096x1x32_0_0_0_32) (oneHead (Host.sin (ang32 T)))) : FVec Ideal S4x4096x1x32 .f32)⟩,
    ⟨S4x4096x1x32, (addf (mulf (extractStridedSlice S4x4096x1x32 ![0, 0, 0, 32] Z slices_S4x4096x1x64_S4x4096x1x32_0_0_0_32) (oneHead (Host.cos (ang32 T))))
      (mulf (extractStridedSlice S4x4096x1x32 ![0, 0, 0, 0] Z slices_S4x4096x1x64_S4x4096x1x32_0_0_0_0) (oneHead (Host.sin (ang32 T)))) : FVec Ideal S4x4096x1x32 .f32)⟩,
    ⟨S4x4096x1x0, (extractStridedSlice S4x4096x1x0 ![0, 0, 0, 64] Z slices_S4x4096x1x64_S4x4096x1x0_0_0_0_64 : FVec Ideal S4x4096x1x0 .f32)⟩]
    concatenates_S4x4096x1x32_S4x4096x1x32_S4x4096x1x0_S4x4096x1x64_d3

/-- The rotary key, padded to 128 lanes, its tokens flattened. -/
def refRope (P : FVec Ideal S4x4096x4160 .f32) (T : IVec S4x4096 32) : FVec Ideal S16384x128 .bf16 :=
  truncf .bf16 (shapeCast S16384x128 (pad S4x4096x1x128 ![0, 0, 0, 0] ![0, 0, 0, 64] ![0, 0, 0, 0] (rot1 (keyOne P) T) (sitofp .f32 (constantI S_ 32 0#32))
    pads_S4x4096x1x64_S4x4096x1x128_000_000_000_0640 h_S_) shapeCasts_S4x4096x1x128_S16384x128) bitsLt_bf16_f32

/-- The cosine table. -/
def refCos (T : IVec S4x4096 32) : FVec Ideal S16384x128 .f32 :=
  shapeCast S16384x128 (pad S4x4096x128 ![0, 0, 0] ![0, 0, 64] ![0, 0, 0] (concatenate S4x4096x64 2 [⟨S4x4096x32, (Host.cos (ang32 T) : FVec Ideal S4x4096x32 .f32)⟩, ⟨S4x4096x32, (Host.cos (ang32 T) : FVec Ideal S4x4096x32 .f32)⟩] concatenates_S4x4096x32_S4x4096x32_S4x4096x64_d2)
    (id (constant S_ .f32 0x3F800000#32) : FVec Ideal S_ .f32) pads_S4x4096x64_S4x4096x128_000_000_0640 h_S_) shapeCasts_S4x4096x128_S16384x128

/-- The signed sine table. -/
def refSin (T : IVec S4x4096 32) : FVec Ideal S16384x128 .f32 :=
  shapeCast S16384x128 (pad S4x4096x128 ![0, 0, 0] ![0, 0, 64] ![0, 0, 0] (concatenate S4x4096x64 2 [⟨S4x4096x32, (Host.negf (Host.sin (ang32 T)) : FVec Ideal S4x4096x32 .f32)⟩, ⟨S4x4096x32, (Host.sin (ang32 T) : FVec Ideal S4x4096x32 .f32)⟩] concatenates_S4x4096x32_S4x4096x32_S4x4096x64_d2)
    (sitofp .f32 (constantI S_ 32 0#32) : FVec Ideal S_ .f32) pads_S4x4096x64_S4x4096x128_000_000_0640 h_S_) shapeCasts_S4x4096x128_S16384x128

section
variable (X : FVec Ideal S4x4096x2048 .f32) (G : FVec Ideal S1x2048 .f32) (W : FVec Ideal S1x2048x4160 .f32) (T : IVec S4x4096 32)
  (b : Fin 4) (s : Fin 4096)

theorem proj_at (d : Fin 4160) : proj X G W (ix3 b s d) = dotCol (fun k => X (ix3 b s k)) (fun k => G (ix2 0 k)) (fun k => W (ix3 0 k d)) := by
  pointwise [proj, dotCol, rowNorm]

/-- The frequencies of the heads' rotation, by number. -/
def q16 : ℕ → EReal := byNumber fun k => freq16 (ix1 k)

/-- The frequencies of the rotary key's rotation, by number. -/
def q32 : ℕ → EReal := byNumber fun k => freq32 (ix1 k)

theorem ang16_at (k : Fin 16) : ang16 T (ix3 b s k) = place T (ix2 b s) * q16 k.val := by
  unfold q16
  rw [byNumber_at _ k rfl]
  pointwise [ang16]

theorem ang32_at (k : Fin 32) : ang32 T (ix3 b s k) = place T (ix2 b s) * q32 k.val := by
  unfold q32
  rw [byNumber_at _ k rfl]
  pointwise [ang32]

theorem perHead_at (c : FVec Ideal S4x4096x16 .f32) (h : Fin 8) (k : Fin 16) : perHead c (ix4 b s h k) = c (ix3 b s k) := by
  pointwise [perHead]

theorem oneHead_at (c : FVec Ideal S4x4096x32 .f32) (k : Fin 32) : oneHead c (ix4 b s 0 k) = c (ix3 b s k) := by
  pointwise [oneHead]

theorem cosHead (h : Fin 8) (k : Fin 16) : perHead (Host.cos (ang16 T)) (ix4 b s h k) = Ideal.cos (place T (ix2 b s) * q16 k.val) := by
  rw [perHead_at, ← ang16_at]
  rfl

theorem sinHead (h : Fin 8) (k : Fin 16) : perHead (Host.sin (ang16 T)) (ix4 b s h k) = Ideal.sin (place T (ix2 b s) * q16 k.val) := by
  rw [perHead_at, ← ang16_at]
  rfl

theorem cosOne (k : Fin 32) : oneHead (Host.cos (ang32 T)) (ix4 b s 0 k) = Ideal.cos (place T (ix2 b s) * q32 k.val) := by
  rw [oneHead_at, ← ang32_at]
  rfl

theorem sinOne (k : Fin 32) : oneHead (Host.sin (ang32 T)) (ix4 b s 0 k) = Ideal.sin (place T (ix2 b s) * q32 k.val) := by
  rw [oneHead_at, ← ang32_at]
  rfl

theorem rot8_raw (Z : FVec Ideal S4x4096x8x128 .f32) (h : Fin 8) (l : Fin 128) : rot8 Z T (ix4 b s h l)
    = if h1 : l.val < 16 then Z (ix4 b s h l) * perHead (Host.cos (ang16 T)) (ix4 b s h ⟨l.val, h1⟩)
        - Z (ix4 b s h ⟨16 + l.val, by omega⟩) * perHead (Host.sin (ang16 T)) (ix4 b s h ⟨l.val, h1⟩)
      else if h2 : l.val - 16 < 16 then Z (ix4 b s h ⟨16 + (l.val - 16), by omega⟩) * perHead (Host.cos (ang16 T)) (ix4 b s h ⟨l.val - 16, h2⟩)
        + Z (ix4 b s h ⟨l.val - 16, by omega⟩) * perHead (Host.sin (ang16 T)) (ix4 b s h ⟨l.val - 16, h2⟩)
      else Z (ix4 b s h l) := by
  pointwise [rot8]
  have e (hl : ¬ l.val < 16) (hl' : ¬ l.val - 16 < 16) : (⟨32 + (l.val - 16 - 16), by omega⟩ : Fin 128) = l := Fin.ext (by show 32 + (l.val - 16 - 16) = l.val; omega)
  by_cases h1 : l.val < 16
  · simp only [dif_pos h1]
  · by_cases h2 : l.val - 16 < 16
    · simp only [dif_neg h1, dif_pos h2]
    · simp only [dif_neg h1, dif_neg h2, e h1 h2]

theorem rot8_at (Z : FVec Ideal S4x4096x8x128 .f32) (h : Fin 8) (l : Fin 128) (z : ℕ → EReal) (hz : ∀ l, Z (ix4 b s h l) = z l.val) :
    rot8 Z T (ix4 b s h l) = turned 16 z (fun k => place T (ix2 b s) * q16 k) l := by
  rw [rot8_raw]
  unfold turned
  by_cases h1 : l.val < 16
  · rw [dif_pos h1, if_pos h1, hz, hz, cosHead, sinHead]
  · by_cases h2 : l.val - 16 < 16
    · rw [dif_neg h1, if_neg h1, dif_pos h2, if_pos h2, hz, hz, cosHead, sinHead]
      have e : 16 + (l.val - 16) = l.val := by omega
      simp only [e]
    · rw [dif_neg h1, if_neg h1, dif_neg h2, if_neg h2, hz]

theorem rot1_raw (Z : FVec Ideal S4x4096x1x64 .f32) (l : Fin 64) : rot1 Z T (ix4 b s 0 l)
    = if h : l.val < 32 then Z (ix4 b s 0 l) * oneHead (Host.cos (ang32 T)) (ix4 b s 0 ⟨l.val, h⟩) - Z (ix4 b s 0 ⟨32 + l.val, by omega⟩) * oneHead (Host.sin (ang32 T)) (ix4 b s 0 ⟨l.val, h⟩)
      else Z (ix4 b s 0 ⟨32 + (l.val - 32), by omega⟩) * oneHead (Host.cos (ang32 T)) (ix4 b s 0 ⟨l.val - 32, by omega⟩)
        + Z (ix4 b s 0 ⟨l.val - 32, by omega⟩) * oneHead (Host.sin (ang32 T)) (ix4 b s 0 ⟨l.val - 32, by omega⟩) := by
  pointwise [rot1]
  have hl : l.val - 32 < 32 := by omega
  simp only [dif_pos hl]

theorem rot1_at (Z : FVec Ideal S4x4096x1x64 .f32) (l : Fin 64) (z : ℕ → EReal) (hz : ∀ l, Z (ix4 b s 0 l) = z l.val) :
    rot1 Z T (ix4 b s 0 l) = turned 32 z (fun k => place T (ix2 b s) * q32 k) l := by
  rw [rot1_raw]
  unfold turned
  by_cases h : l.val < 32
  · rw [dif_pos h, if_pos h, hz, hz, cosOne, sinOne]
  · have h2 : l.val - 32 < 32 := by omega
    rw [dif_neg h, if_neg h, if_pos h2, hz, hz, cosOne, sinOne]
    have e : 32 + (l.val - 32) = l.val := by omega
    simp only [e]

variable {P : FVec Ideal S4x4096x4160 .f32} {c : ℕ → EReal} (hP : ∀ d, P (ix3 b s d) = c d.val)
include hP

theorem refQ_at (h : Fin 8) (l : Fin 128) : refQ P T (ix4 b h s l)
    = turned 16 (fun n => c (0 + (h.val * 128 + n))) (fun k => place T (ix2 b s) * q16 k) l * Ideal.ofBits FTy.f32 0x3E0293EE#32 := by
  pointwise [refQ, headMajor]
  refine congrArg (· * _) (rot8_at T b s _ h l _ fun l => ?_)
  pointwise [heads]
  exact hP _

theorem refK_at (h : Fin 8) (l : Fin 128) : refK P T (ix4 b h s l)
    = turned 16 (fun n => c (1024 + (h.val * 128 + n))) (fun k => place T (ix2 b s) * q16 k) l := by
  pointwise [refK, headMajor]
  refine rot8_at T b s _ h l _ fun l => ?_
  pointwise [heads]
  exact hP _

theorem refV_at (h : Fin 8) (l : Fin 128) : refV P (ix4 b h s l) = c (2048 + (h.val * 128 + l.val)) := by
  pointwise [refV, headMajor, heads]
  exact hP _
omit hP

theorem refLat_at (Z : FVec Ideal S4x4096x512 .f32) (G : FVec Ideal S1x512 .f32) (r : Fin 16384) (d : Fin 512) : refLat Z G (ix2 r d)
    = latNorm (fun k => Z (ix3 ⟨r.val / 4096, by omega⟩ ⟨r.val % 4096, by omega⟩ k)) (G (ix2 0 d)) d := by
  pointwise [refLat, latNorm]
theorem keyOne_at (P : FVec Ideal S4x4096x4160 .f32) (l : Fin 64) : keyOne P (ix4 b s 0 l) = P (ix3 b s ⟨4096 + l.val, by omega⟩) := by
  pointwise [keyOne]

theorem refRope_raw (P : FVec Ideal S4x4096x4160 .f32) (r : Fin 16384) (l : Fin 128) : refRope P T (ix2 r l)
    = if h : l.val < 64 then rot1 (keyOne P) T (ix4 ⟨r.val / 4096, by omega⟩ ⟨r.val % 4096, by omega⟩ 0 ⟨l.val, h⟩) else 0 := by
  pointwise [refRope]
  have hr : r.val / 4096 < 4 := by omega
  have hs : r.val % 4096 < 4096 := by omega
  simp only [hr, hs, true_and, sitofp_zero]

theorem refCos_raw (r : Fin 16384) (l : Fin 128) : refCos T (ix2 r l)
    = if h : l.val < 64 then if h' : l.val < 32 then Ideal.cos (ang32 T (ix3 ⟨r.val / 4096, by omega⟩ ⟨r.val % 4096, by omega⟩ ⟨l.val, h'⟩))
      else Ideal.cos (ang32 T (ix3 ⟨r.val / 4096, by omega⟩ ⟨r.val % 4096, by omega⟩ ⟨l.val - 32, by omega⟩)) else 1 := by
  pointwise [refCos]
  have hr : r.val / 4096 < 4 := by omega
  have hs : r.val % 4096 < 4096 := by omega
  have h1 : (id (constant S_ FTy.f32 1065353216#32) : FVec Ideal S_ .f32) (Shape.Idx.first h_S_) = 1 := one_bits
  simp only [hr, hs, true_and, h1]

theorem refSin_raw (r : Fin 16384) (l : Fin 128) : refSin T (ix2 r l)
    = if h : l.val < 64 then if h' : l.val < 32 then -Ideal.sin (ang32 T (ix3 ⟨r.val / 4096, by omega⟩ ⟨r.val % 4096, by omega⟩ ⟨l.val, h'⟩))
      else Ideal.sin (ang32 T (ix3 ⟨r.val / 4096, by omega⟩ ⟨r.val % 4096, by omega⟩ ⟨l.val - 32, by omega⟩)) else 0 := by
  pointwise [refSin]
  have hr : r.val / 4096 < 4 := by omega
  have hs : r.val % 4096 < 4096 := by omega
  simp only [hr, hs, true_and, sitofp_zero]
end

section
variable (T : IVec S4x4096 32) (r : Fin 16384) {P : FVec Ideal S4x4096x4160 .f32} {c : ℕ → EReal}
  (hP : ∀ d, P (ix3 ⟨r.val / 4096, by omega⟩ ⟨r.val % 4096, by omega⟩ d) = c d.val)

section
include hP
theorem refCq_at (G : FVec Ideal S1x512 .f32) (d : Fin 512) : refCq P G (ix2 r d) = latNorm (fun k => c (3072 + k.val)) (G (ix2 0 d)) d := by
  unfold refCq
  rw [refLat_at]
  refine latNorm_congr (fun k => ?_) rfl rfl
  pointwise
  exact hP _

theorem refCkv_at (G : FVec Ideal S1x512 .f32) (d : Fin 512) : refCkv P G (ix2 r d) = latNorm (fun k => c (3584 + k.val)) (G (ix2 0 d)) d := by
  unfold refCkv
  rw [refLat_at]
  refine latNorm_congr (fun k => ?_) rfl rfl
  pointwise
  exact hP _

theorem refRope_at (l : Fin 128) : refRope P T (ix2 r l)
    = turned 32 (ropeRow c) (fun k => place T (ix2 ⟨r.val / 4096, by omega⟩ ⟨r.val % 4096, by omega⟩) * q32 k) l := by
  rw [refRope_raw]
  by_cases h : l.val < 64
  · rw [dif_pos h]
    refine rot1_at T _ _ _ ⟨l.val, h⟩ _ fun l => ?_
    rw [keyOne_at, hP]
    unfold ropeRow
    rw [if_pos l.isLt]
  · unfold turned ropeRow
    rw [dif_neg h, if_neg (by omega), if_neg (by omega), if_neg h]
end

theorem refCos_at (l : Fin 128) : refCos T (ix2 r l)
    = cosLane 32 (fun k => place T (ix2 ⟨r.val / 4096, by omega⟩ ⟨r.val % 4096, by omega⟩) * q32 k) l := by
  rw [refCos_raw]
  unfold cosLane
  by_cases h1 : l.val < 32
  · rw [if_pos h1, dif_pos (by omega), dif_pos h1, ang32_at]
  · by_cases h2 : l.val - 32 < 32
    · rw [if_neg h1, if_pos h2, dif_pos (by omega), dif_neg h1, ang32_at]
    · rw [if_neg h1, if_neg h2, dif_neg (by omega)]

theorem refSin_at (l : Fin 128) : refSin T (ix2 r l)
    = sinLane 32 (fun k => place T (ix2 ⟨r.val / 4096, by omega⟩ ⟨r.val % 4096, by omega⟩) * q32 k) l := by
  rw [refSin_raw]
  unfold sinLane
  by_cases h1 : l.val < 32
  · rw [if_pos h1, dif_pos (by omega), dif_pos h1, ang32_at]
  · by_cases h2 : l.val - 32 < 32
    · rw [if_neg h1, if_pos h2, dif_pos (by omega), dif_neg h1, ang32_at]
    · rw [if_neg h1, if_neg h2, dif_neg (by omega)]

end

end Cert.Proof.Inproj.Ref

end
-- ==== Proof.Inproj.Host.lean ====
/- The input projection's operands as the region finds them, and what a point's blocks hold of the arguments. -/
module

public import proofs.«01_k».proof.Proof.Inproj.Block
public import proofs.«01_k».proof.Proof.Inproj.Ref

@[expose] public section

set_option maxRecDepth 16384

noncomputable section

namespace Cert.Proof.Inproj

open Idealize.ShloMosaic Idealize.ShloMosaic.TcCoe
open Cert.Kernel4Ideal Cert.Kernel4Ideal.Gen
open Cert.Proof.Row

variable (m : (ℓ : Loc nD τ sig) → Buf (Elt Ideal) ℓ)

/-- Which block each point reads: 512 rows from `t * 512` on, and the whole of the rest. -/
theorem idxIn : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ t.val < 32 :=
  (by decide +kernel : ∀ t : Fin grid0.N, _)

/-- Which block each point writes: batch `t / 8` and its rows from `t % 8 * 512` on, or the flattened rows from `t * 512` on. -/
theorem idxOut : ∀ t : Fin cfg0.N, win0_8.index t = ![t.val / 8, 0, t.val % 8, 0] ∧ win0_9.index t = ![t.val / 8, 0, t.val % 8, 0]
    ∧ win0_10.index t = ![t.val / 8, 0, t.val % 8, 0] ∧ win0_11.index t = ![t.val, 0] ∧ win0_12.index t = ![t.val, 0] ∧ win0_13.index t = ![t.val, 0]
    ∧ win0_14.index t = ![t.val, 0] ∧ win0_15.index t = ![t.val, 0] :=
  (by decide +kernel : ∀ t : Fin grid0.N, _)

/-! ## The operands -/

/-- Tokens flattened. -/
def flatX (X : FVec Ideal S4x4096x2048 .f32) : FVec Ideal S16384x2048 .f32 := shapeCast S16384x2048 X shapeCasts_S4x4096x2048_S16384x2048

/-- Positions as floats, in a column. -/
def flatT (T : IVec S4x4096 32) : FVec Ideal S16384x1 .f32 := shapeCast S16384x1 (sitofp .f32 T : FVec Ideal S4x4096 .f32) shapeCasts_S4x4096_S16384x1

/-- The weights, in the narrow format. -/
def flatW (W : FVec Ideal S1x2048x4160 .f32) : FVec Ideal S2048x4160 .bf16 :=
  truncf .bf16 (shapeCast S2048x4160 W shapeCasts_S1x2048x4160_S2048x4160) bitsLt_bf16_f32

/-- The tokens' norm weights. -/
def flatG (G : FVec Ideal S1x2048 .f32) : FVec Ideal S1x2048 .f32 := shapeCast S1x2048 (shapeCast S2048 G shapeCasts_S1x2048_S2048) shapeCasts_S2048_S1x2048

/-- A latent's norm weights. -/
def flatL (G : FVec Ideal S1x512 .f32) : FVec Ideal S1x512 .f32 := shapeCast S1x512 (shapeCast S512 G shapeCasts_S1x512_S512) shapeCasts_S512_S1x512

/-- The heads' frequencies twice over, and zeros. -/
def table16 (q : FVec Ideal S16 .f32) : FVec Ideal S1x128 .f32 :=
  shapeCast S1x128 (concatenate S128 0 [⟨S16, q⟩, ⟨S16, q⟩, ⟨S96, (broadcastInDim S96 ![] bcast_S_S96 (constant S_ .f32 0x00000000#32) : FVec Ideal S96 .f32)⟩]
    concatenates_S16_S16_S96_S128_d0) shapeCasts_S128_S1x128

/-- The rotary key's frequencies twice over, and zeros. -/
def table32 (q : FVec Ideal S32 .f32) : FVec Ideal S1x128 .f32 :=
  shapeCast S1x128 (concatenate S128 0 [⟨S32, q⟩, ⟨S32, q⟩, ⟨S64, (broadcastInDim S64 ![] bcast_S_S64 (constant S_ .f32 0x00000000#32) : FVec Ideal S64 .f32)⟩]
    concatenates_S32_S32_S64_S128_d0) shapeCasts_S128_S1x128

theorem V_x (c : Dev nD) : V m c main_v0 = flatX (m ((c : Thread nD τ).loc main_arg0)) := by
  unfold flatX
  simp only [V, hostOps0, StableHlo.after_cons, StableHlo.after_nil, StableHlo.TRef.unary, StableHlo.TRef.binary, StableHlo.TRef.toBuf,
    StableHlo.TRef.ofBuf, cast_eq]
  after_results_simp <;> rfl

theorem V_t (c : Dev nD) : V m c main_v2 = flatT (m ((c : Thread nD τ).loc main_arg1)) := by
  unfold flatT
  simp only [V, hostOps0, StableHlo.after_cons, StableHlo.after_nil, StableHlo.TRef.unary, StableHlo.TRef.binary, StableHlo.TRef.toBuf,
    StableHlo.TRef.ofBuf, cast_eq]
  after_results_simp <;> rfl

theorem V_g (c : Dev nD) : V m c main_v4 = flatG (m ((c : Thread nD τ).loc main_arg2)) := by
  unfold flatG
  simp only [V, hostOps0, StableHlo.after_cons, StableHlo.after_nil, StableHlo.TRef.unary, StableHlo.TRef.binary, StableHlo.TRef.toBuf,
    StableHlo.TRef.ofBuf, cast_eq]
  after_results_simp <;> rfl

theorem V_w (c : Dev nD) : V m c main_v6 = flatW (m ((c : Thread nD τ).loc main_arg3)) := by
  unfold flatW
  simp only [V, hostOps0, StableHlo.after_cons, StableHlo.after_nil, StableHlo.TRef.unary, StableHlo.TRef.binary, StableHlo.TRef.toBuf,
    StableHlo.TRef.ofBuf, cast_eq]
  after_results_simp <;> rfl

theorem V_16 (c : Dev nD) : V m c main_v19 = table16 Ref.freq16 := by
  unfold table16 Ref.freq16
  simp only [V, hostOps0, StableHlo.after_cons, StableHlo.after_nil, StableHlo.TRef.unary, StableHlo.TRef.binary, StableHlo.TRef.toBuf,
    StableHlo.TRef.ofBuf, cast_eq]
  after_results_simp <;> rfl

theorem V_32 (c : Dev nD) : V m c main_v32 = table32 Ref.freq32 := by
  unfold table32 Ref.freq32
  simp only [V, hostOps0, StableHlo.after_cons, StableHlo.after_nil, StableHlo.TRef.unary, StableHlo.TRef.binary, StableHlo.TRef.toBuf,
    StableHlo.TRef.ofBuf, cast_eq]
  after_results_simp <;> rfl

theorem V_cq (c : Dev nD) : V m c main_v34 = flatL (m ((c : Thread nD τ).loc main_arg4)) := by
  unfold flatL
  simp only [V, hostOps0, StableHlo.after_cons, StableHlo.after_nil, StableHlo.TRef.unary, StableHlo.TRef.binary, StableHlo.TRef.toBuf,
    StableHlo.TRef.ofBuf, cast_eq]
  after_results_simp <;> rfl

theorem V_ckv (c : Dev nD) : V m c main_v36 = flatL (m ((c : Thread nD τ).loc main_arg5)) := by
  unfold flatL
  simp only [V, hostOps0, StableHlo.after_cons, StableHlo.after_nil, StableHlo.TRef.unary, StableHlo.TRef.binary, StableHlo.TRef.toBuf,
    StableHlo.TRef.ofBuf, cast_eq]
  after_results_simp <;> rfl

theorem flatX_at (X : FVec Ideal S4x4096x2048 .f32) (r : Fin 16384) (k : Fin 2048) :
    flatX X (ix2 r k) = X (ix3 ⟨r.val / 4096, by omega⟩ ⟨r.val % 4096, by omega⟩ k) := by
  pointwise [flatX]

theorem flatT_at (T : IVec S4x4096 32) (r : Fin 16384) : flatT T (ix2 r 0) = Ref.place T (ix2 ⟨r.val / 4096, by omega⟩ ⟨r.val % 4096, by omega⟩) := by
  pointwise [flatT, Ref.place]

theorem flatW_at (W : FVec Ideal S1x2048x4160 .f32) (k : Fin 2048) (d : Fin 4160) : flatW W (ix2 k d) = W (ix3 0 k d) := by
  pointwise [flatW]

theorem flatG_at (G : FVec Ideal S1x2048 .f32) (k : Fin 2048) : flatG G (ix2 0 k) = G (ix2 0 k) := by
  pointwise [flatG]

theorem flatL_at (G : FVec Ideal S1x512 .f32) (k : Fin 512) : flatL G (ix2 0 k) = G (ix2 0 k) := by
  pointwise [flatL]

theorem table16_raw (q : FVec Ideal S16 .f32) (l : Fin 128) : table16 q (ix2 0 l)
    = if h1 : l.val < 16 then q (ix1 ⟨l.val, h1⟩) else if h2 : l.val - 16 < 16 then q (ix1 ⟨l.val - 16, h2⟩) else Ideal.ofBits FTy.f32 0x00000000#32 := by
  pointwise [table16]

theorem table32_raw (q : FVec Ideal S32 .f32) (l : Fin 128) : table32 q (ix2 0 l)
    = if h1 : l.val < 32 then q (ix1 ⟨l.val, h1⟩) else if h2 : l.val - 32 < 32 then q (ix1 ⟨l.val - 32, h2⟩) else Ideal.ofBits FTy.f32 0x00000000#32 := by
  pointwise [table32]

theorem zero_bits : Ideal.ofBits FTy.f32 0x00000000#32 = 0 := by simp [Ideal.ofBits, Ideal.ieee]

theorem table16_at (l : Fin 128) : table16 Ref.freq16 (ix2 0 l) = lanes 16 Ref.q16 l.val := by
  rw [table16_raw, zero_bits]
  unfold lanes Ref.q16
  split_ifs with h1 h2
  exacts [(byNumber_at (fun k => Ref.freq16 (ix1 k)) ⟨_, h1⟩ rfl).symm, (byNumber_at (fun k => Ref.freq16 (ix1 k)) ⟨_, h2⟩ rfl).symm, rfl]

theorem table32_at (l : Fin 128) : table32 Ref.freq32 (ix2 0 l) = lanes 32 Ref.q32 l.val := by
  rw [table32_raw, zero_bits]
  unfold lanes Ref.q32
  split_ifs with h1 h2
  exacts [(byNumber_at (fun k => Ref.freq32 (ix1 k)) ⟨_, h1⟩ rfl).symm, (byNumber_at (fun k => Ref.freq32 (ix1 k)) ⟨_, h2⟩ rfl).symm, rfl]

/-! ## The blocks -/

section
variable (c : Dev nD) (t : Fin cfg0.N)

theorem f16_at (l : Fin 128) : iblk m c 4 t (ix2 0 l) = lanes 16 Ref.q16 l.val := by
  rw [← table16_at, ← V_16 m c]
  blk_point [iblk, idxIn t]

theorem f32_at (l : Fin 128) : iblk m c 5 t (ix2 0 l) = lanes 32 Ref.q32 l.val := by
  rw [← table32_at, ← V_32 m c]
  blk_point [iblk, idxIn t]

theorem lq_at (k : Fin 512) : iblk m c 6 t (ix2 0 k) = m ((c : Thread nD τ).loc main_arg4) (ix2 0 k) := by
  refine Eq.trans ?_ (flatL_at _ k)
  rw [← V_cq m c]
  blk_point [iblk, idxIn t]

theorem lkv_at (k : Fin 512) : iblk m c 7 t (ix2 0 k) = m ((c : Thread nD τ).loc main_arg5) (ix2 0 k) := by
  refine Eq.trans ?_ (flatL_at _ k)
  rw [← V_ckv m c]
  blk_point [iblk, idxIn t]

theorem g_at (k : Fin 2048) : iblk m c 2 t (ix2 0 k) = m ((c : Thread nD τ).loc main_arg2) (ix2 0 k) := by
  refine Eq.trans ?_ (flatG_at _ k)
  rw [← V_g m c]
  blk_point [iblk, idxIn t]

theorem w_at (k : Fin 2048) (d : Fin 4160) : iblk m c 3 t (ix2 k d) = m ((c : Thread nD τ).loc main_arg3) (ix3 0 k d) := by
  refine Eq.trans ?_ (flatW_at _ k d)
  rw [← V_w m c]
  blk_point [iblk, idxIn t]

variable (i : Fin 512) (r : Fin 16384) (hr : r.val = t.val * 512 + i.val)
include hr

theorem x_at (k : Fin 2048) : iblk m c 0 t (ix2 i k) = m ((c : Thread nD τ).loc main_arg0) (ix3 ⟨r.val / 4096, by omega⟩ ⟨r.val % 4096, by omega⟩ k) := by
  refine Eq.trans ?_ (flatX_at _ r k)
  rw [← V_x m c]
  blk_point [iblk, idxIn t]

theorem t_at : iblk m c 1 t (ix2 i 0) = Ref.place (m ((c : Thread nD τ).loc main_arg1)) (ix2 ⟨r.val / 4096, by omega⟩ ⟨r.val % 4096, by omega⟩) := by
  refine Eq.trans ?_ (flatT_at _ r)
  rw [← V_t m c]
  blk_point [iblk, idxIn t]

/-- A row's columns are the reference's projection of its token. -/
theorem proj_block (d : Fin 4160) : Ref.proj (m ((c : Thread nD τ).loc main_arg0)) (m ((c : Thread nD τ).loc main_arg2)) (m ((c : Thread nD τ).loc main_arg3))
    (ix3 ⟨r.val / 4096, by omega⟩ ⟨r.val % 4096, by omega⟩ d) = blockCols (iblk m c 0 t) (iblk m c 2 t) (iblk m c 3 t) i d.val := by
  unfold blockCols
  rw [Ref.proj_at, cols_at _ _ _ d rfl]
  simp only [x_at m c t i r hr, g_at m c t, w_at m c t]

end

end Cert.Proof.Inproj

end
-- ==== Proof.Inproj.Final.lean ====
/- The input projection's eight results: each array after the run is the reference's. -/
module

public import proofs.«01_k».proof.Defs
public import proofs.«01_k».proof.Proof.Inproj.Host
public import Idealize.ShloMosaic.Lib.Claim

@[expose] public section

set_option maxRecDepth 16384

noncomputable section

namespace Cert.Proof.Inproj

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The reference's projection over the program's arguments. -/
abbrev P : FVec Ideal Cert.Reference4Ideal.S4x4096x4160 .f32 :=
  Ref.proj (m ((c : Thread nD τ).loc main_arg0)) (m ((c : Thread nD τ).loc main_arg2)) (m ((c : Thread nD τ).loc main_arg3))

/-- The positions. -/
abbrev T : IVec S4x4096 32 := m ((c : Thread nD τ).loc main_arg1)

/-! ## The places of a point's blocks -/

section
variable (t : Fin cfg0.N)

/-- The flattened row under a block's row. -/
def tok (i : Fin 512) : Fin 16384 := ⟨t.val * 512 + i.val, by have := (idxIn t).2.2.2.2.2.2.2.2; omega⟩

/-- A flattened row's batch. -/
def batch (r : Fin 16384) : Fin 4 := ⟨r.val / 4096, by omega⟩

/-- A flattened row's place in its batch. -/
def place (r : Fin 16384) : Fin 4096 := ⟨r.val % 4096, by omega⟩

/-- The element under a head block's. -/
def underHead (h : Fin 8) (i : Fin 512) (l : Fin 128) : S4x8x4096x128.Idx :=
  ix4 (batch (tok t i)) h (place (tok t i)) l

theorem underHead_of {B : Fin 4} {H h : Fin 8} {R : Fin 4096} {i : Fin 512} {L l : Fin 128} (h0 : B.val = t.val / 8) (h1 : H.val = h.val)
    (h2 : R.val = t.val % 8 * 512 + i.val) (h3 : L.val = l.val) : (ix4 B H R L : S4x8x4096x128.Idx) = underHead t h i l := by
  obtain rfl : H = h := Fin.ext h1
  obtain rfl : L = l := Fin.ext h3
  have e0 : B = batch (tok t i) := Fin.ext (by change B.val = (t.val * 512 + i.val) / 4096; omega)
  have e2 : R = place (tok t i) := Fin.ext (by change R.val = (t.val * 512 + i.val) % 4096; omega)
  rw [e0, e2, underHead]

theorem emb8 (a : Fin 1) (h : Fin 8) (i : Fin 512) (l : Fin 128) : ((cfg0.win 8).blk t).view.emb (ix4 a h i l) = underHead t h i l := by
  obtain ⟨B, H, R, L, hR⟩ : ∃ (B : Fin 4) (H : Fin 8) (R : Fin 4096) (L : Fin 128), ((cfg0.win 8).blk t).view.emb (ix4 a h i l) = ix4 B H R L :=
    ⟨_, _, _, _, eq_ix4 _⟩
  have h0 := congrArg (fun i : S4x8x4096x128.Idx => (i 0 : ℕ)) hR
  have h1 := congrArg (fun i : S4x8x4096x128.Idx => (i 1 : ℕ)) hR
  have h2 := congrArg (fun i : S4x8x4096x128.Idx => (i 2 : ℕ)) hR
  have h3 := congrArg (fun i : S4x8x4096x128.Idx => (i 3 : ℕ)) hR
  blk_simp [idxOut t] at h0 h1 h2 h3
  rw [hR]
  refine underHead_of t ?_ ?_ ?_ ?_ <;> omega

theorem emb9 (a : Fin 1) (h : Fin 8) (i : Fin 512) (l : Fin 128) : ((cfg0.win 9).blk t).view.emb (ix4 a h i l) = underHead t h i l := by
  obtain ⟨B, H, R, L, hR⟩ : ∃ (B : Fin 4) (H : Fin 8) (R : Fin 4096) (L : Fin 128), ((cfg0.win 9).blk t).view.emb (ix4 a h i l) = ix4 B H R L :=
    ⟨_, _, _, _, eq_ix4 _⟩
  have h0 := congrArg (fun i : S4x8x4096x128.Idx => (i 0 : ℕ)) hR
  have h1 := congrArg (fun i : S4x8x4096x128.Idx => (i 1 : ℕ)) hR
  have h2 := congrArg (fun i : S4x8x4096x128.Idx => (i 2 : ℕ)) hR
  have h3 := congrArg (fun i : S4x8x4096x128.Idx => (i 3 : ℕ)) hR
  blk_simp [idxOut t] at h0 h1 h2 h3
  rw [hR]
  refine underHead_of t ?_ ?_ ?_ ?_ <;> omega

theorem emb10 (a : Fin 1) (h : Fin 8) (i : Fin 512) (l : Fin 128) : ((cfg0.win 10).blk t).view.emb (ix4 a h i l) = underHead t h i l := by
  obtain ⟨B, H, R, L, hR⟩ : ∃ (B : Fin 4) (H : Fin 8) (R : Fin 4096) (L : Fin 128), ((cfg0.win 10).blk t).view.emb (ix4 a h i l) = ix4 B H R L :=
    ⟨_, _, _, _, eq_ix4 _⟩
  have h0 := congrArg (fun i : S4x8x4096x128.Idx => (i 0 : ℕ)) hR
  have h1 := congrArg (fun i : S4x8x4096x128.Idx => (i 1 : ℕ)) hR
  have h2 := congrArg (fun i : S4x8x4096x128.Idx => (i 2 : ℕ)) hR
  have h3 := congrArg (fun i : S4x8x4096x128.Idx => (i 3 : ℕ)) hR
  blk_simp [idxOut t] at h0 h1 h2 h3
  rw [hR]
  refine underHead_of t ?_ ?_ ?_ ?_ <;> omega

theorem emb11 (i : Fin 512) (l : Fin 512) : ((cfg0.win 11).blk t).view.emb (ix2 i l) = ix2 (tok t i) l := by
  obtain ⟨R, L, hR⟩ : ∃ (R : Fin 16384) (L : Fin 512), ((cfg0.win 11).blk t).view.emb (ix2 i l) = ix2 R L := ⟨_, _, eq_ix2 _⟩
  have h0 := congrArg (fun i : S16384x512.Idx => (i 0 : ℕ)) hR
  have h1 := congrArg (fun i : S16384x512.Idx => (i 1 : ℕ)) hR
  blk_simp [idxOut t] at h0 h1
  rw [hR, show R = tok t i from Fin.ext (by change R.val = t.val * 512 + i.val; omega), show L = l from Fin.ext (by omega)]

theorem emb12 (i : Fin 512) (l : Fin 512) : ((cfg0.win 12).blk t).view.emb (ix2 i l) = ix2 (tok t i) l := by
  obtain ⟨R, L, hR⟩ : ∃ (R : Fin 16384) (L : Fin 512), ((cfg0.win 12).blk t).view.emb (ix2 i l) = ix2 R L := ⟨_, _, eq_ix2 _⟩
  have h0 := congrArg (fun i : S16384x512.Idx => (i 0 : ℕ)) hR
  have h1 := congrArg (fun i : S16384x512.Idx => (i 1 : ℕ)) hR
  blk_simp [idxOut t] at h0 h1
  rw [hR, show R = tok t i from Fin.ext (by change R.val = t.val * 512 + i.val; omega), show L = l from Fin.ext (by omega)]

theorem emb13 (i : Fin 512) (l : Fin 128) : ((cfg0.win 13).blk t).view.emb (ix2 i l) = ix2 (tok t i) l := by
  obtain ⟨R, L, hR⟩ : ∃ (R : Fin 16384) (L : Fin 128), ((cfg0.win 13).blk t).view.emb (ix2 i l) = ix2 R L := ⟨_, _, eq_ix2 _⟩
  have h0 := congrArg (fun i : S16384x128.Idx => (i 0 : ℕ)) hR
  have h1 := congrArg (fun i : S16384x128.Idx => (i 1 : ℕ)) hR
  blk_simp [idxOut t] at h0 h1
  rw [hR, show R = tok t i from Fin.ext (by change R.val = t.val * 512 + i.val; omega), show L = l from Fin.ext (by omega)]

theorem emb14 (i : Fin 512) (l : Fin 128) : ((cfg0.win 14).blk t).view.emb (ix2 i l) = ix2 (tok t i) l := by
  obtain ⟨R, L, hR⟩ : ∃ (R : Fin 16384) (L : Fin 128), ((cfg0.win 14).blk t).view.emb (ix2 i l) = ix2 R L := ⟨_, _, eq_ix2 _⟩
  have h0 := congrArg (fun i : S16384x128.Idx => (i 0 : ℕ)) hR
  have h1 := congrArg (fun i : S16384x128.Idx => (i 1 : ℕ)) hR
  blk_simp [idxOut t] at h0 h1
  rw [hR, show R = tok t i from Fin.ext (by change R.val = t.val * 512 + i.val; omega), show L = l from Fin.ext (by omega)]

theorem emb15 (i : Fin 512) (l : Fin 128) : ((cfg0.win 15).blk t).view.emb (ix2 i l) = ix2 (tok t i) l := by
  obtain ⟨R, L, hR⟩ : ∃ (R : Fin 16384) (L : Fin 128), ((cfg0.win 15).blk t).view.emb (ix2 i l) = ix2 R L := ⟨_, _, eq_ix2 _⟩
  have h0 := congrArg (fun i : S16384x128.Idx => (i 0 : ℕ)) hR
  have h1 := congrArg (fun i : S16384x128.Idx => (i 1 : ℕ)) hR
  blk_simp [idxOut t] at h0 h1
  rw [hR, show R = tok t i from Fin.ext (by change R.val = t.val * 512 + i.val; omega), show L = l from Fin.ext (by omega)]

end

/-! ## The blocks against the reference -/

theorem point8 (t : Fin cfg0.N) (y : S1x8x512x128.Idx) :
    out0_8 (iblk m c 0 t) (iblk m c 1 t) (iblk m c 2 t) (iblk m c 3 t) (iblk m c 4 t) (iblk m c 5 t) (iblk m c 6 t) (iblk m c 7 t)
      y = Ref.refQ (P m c) (T m c) (((cfg0.win 8).blk t).view.emb y) := by
  obtain ⟨a, h, i, l, rfl⟩ : ∃ (a : Fin 1) (h : Fin 8) (i : Fin 512) (l : Fin 128), y = ix4 a h i l := ⟨_, _, _, _, eq_ix4 _⟩
  refine (query_block _ _ _ _ _ _ _ _ (f16_at m c t) _).trans ?_
  rw [emb8]
  refine Eq.trans ?_ (Ref.refQ_at (T m c) _ _ (fun d => proj_block m c t i (tok t i) rfl d) h l).symm
  exact congrArg (· * _) (turned_congr (fun _ => rfl) (fun _ => congrArg (· * _) (t_at m c t i (tok t i) rfl)) rfl)

theorem final8 : (dats m 0 c).arrAt 8 cfg0.N = Ref.refQ (P m c) (T m c) := by
  refine (dats m 0 c).arrAt_eq_of_covers 8 _ (by decide +kernel) fun t hf y => ?_
  blk_simp
  rw [after0_8]
  exact point8 m c t y

theorem point9 (t : Fin cfg0.N) (y : S1x8x512x128.Idx) :
    out0_9 (iblk m c 0 t) (iblk m c 1 t) (iblk m c 2 t) (iblk m c 3 t) (iblk m c 4 t) (iblk m c 5 t) (iblk m c 6 t) (iblk m c 7 t)
      y = Ref.refK (P m c) (T m c) (((cfg0.win 9).blk t).view.emb y) := by
  obtain ⟨a, h, i, l, rfl⟩ : ∃ (a : Fin 1) (h : Fin 8) (i : Fin 512) (l : Fin 128), y = ix4 a h i l := ⟨_, _, _, _, eq_ix4 _⟩
  refine (key_block _ _ _ _ _ _ _ _ (f16_at m c t) _).trans ?_
  rw [emb9]
  refine Eq.trans ?_ (Ref.refK_at (T m c) _ _ (fun d => proj_block m c t i (tok t i) rfl d) h l).symm
  exact turned_congr (fun _ => rfl) (fun _ => congrArg (· * _) (t_at m c t i (tok t i) rfl)) rfl

theorem final9 : (dats m 0 c).arrAt 9 cfg0.N = Ref.refK (P m c) (T m c) := by
  refine (dats m 0 c).arrAt_eq_of_covers 9 _ (by decide +kernel) fun t hf y => ?_
  blk_simp
  rw [after0_9]
  exact point9 m c t y

theorem point10 (t : Fin cfg0.N) (y : S1x8x512x128.Idx) :
    out0_10 (iblk m c 0 t) (iblk m c 1 t) (iblk m c 2 t) (iblk m c 3 t) (iblk m c 4 t) (iblk m c 5 t) (iblk m c 6 t) (iblk m c 7 t)
      y = Ref.refV (P m c) (((cfg0.win 10).blk t).view.emb y) := by
  obtain ⟨a, h, i, l, rfl⟩ : ∃ (a : Fin 1) (h : Fin 8) (i : Fin 512) (l : Fin 128), y = ix4 a h i l := ⟨_, _, _, _, eq_ix4 _⟩
  refine (value_block _ _ _ _ _ _ _ _ _).trans ?_
  rw [emb10]
  refine Eq.trans ?_ (Ref.refV_at _ _ (fun d => proj_block m c t i (tok t i) rfl d) h l).symm
  exact rfl

theorem final10 : (dats m 0 c).arrAt 10 cfg0.N = Ref.refV (P m c) := by
  refine (dats m 0 c).arrAt_eq_of_covers 10 _ (by decide +kernel) fun t hf y => ?_
  blk_simp
  rw [after0_10]
  exact point10 m c t y

theorem point11 (t : Fin cfg0.N) (y : S512x512.Idx) :
    out0_11 (iblk m c 0 t) (iblk m c 1 t) (iblk m c 2 t) (iblk m c 3 t) (iblk m c 4 t) (iblk m c 5 t) (iblk m c 6 t) (iblk m c 7 t)
      y = Ref.refCq (P m c) (m ((c : Thread nD τ).loc main_arg4)) (((cfg0.win 11).blk t).view.emb y) := by
  obtain ⟨i, l, rfl⟩ : ∃ (i : Fin 512) (l : Fin 512), y = ix2 i l := ⟨_, _, eq_ix2 _⟩
  refine (cq_block _ _ _ _ _ _ _ _ _).trans ?_
  rw [emb11]
  refine Eq.trans ?_ (Ref.refCq_at (tok t i) (fun d => proj_block m c t i (tok t i) rfl d) _ l).symm
  exact latNorm_congr (fun _ => rfl) (lq_at m c t l) rfl

theorem final11 : (dats m 0 c).arrAt 11 cfg0.N = Ref.refCq (P m c) (m ((c : Thread nD τ).loc main_arg4)) := by
  refine (dats m 0 c).arrAt_eq_of_covers 11 _ (by decide +kernel) fun t hf y => ?_
  blk_simp
  rw [after0_11]
  exact point11 m c t y

theorem point12 (t : Fin cfg0.N) (y : S512x512.Idx) :
    out0_12 (iblk m c 0 t) (iblk m c 1 t) (iblk m c 2 t) (iblk m c 3 t) (iblk m c 4 t) (iblk m c 5 t) (iblk m c 6 t) (iblk m c 7 t)
      y = Ref.refCkv (P m c) (m ((c : Thread nD τ).loc main_arg5)) (((cfg0.win 12).blk t).view.emb y) := by
  obtain ⟨i, l, rfl⟩ : ∃ (i : Fin 512) (l : Fin 512), y = ix2 i l := ⟨_, _, eq_ix2 _⟩
  refine (ckv_block _ _ _ _ _ _ _ _ _).trans ?_
  rw [emb12]
  refine Eq.trans ?_ (Ref.refCkv_at (tok t i) (fun d => proj_block m c t i (tok t i) rfl d) _ l).symm
  exact latNorm_congr (fun _ => rfl) (lkv_at m c t l) rfl

theorem final12 : (dats m 0 c).arrAt 12 cfg0.N = Ref.refCkv (P m c) (m ((c : Thread nD τ).loc main_arg5)) := by
  refine (dats m 0 c).arrAt_eq_of_covers 12 _ (by decide +kernel) fun t hf y => ?_
  blk_simp
  rw [after0_12]
  exact point12 m c t y

theorem point13 (t : Fin cfg0.N) (y : S512x128.Idx) :
    out0_13 (iblk m c 0 t) (iblk m c 1 t) (iblk m c 2 t) (iblk m c 3 t) (iblk m c 4 t) (iblk m c 5 t) (iblk m c 6 t) (iblk m c 7 t)
      y = Ref.refRope (P m c) (T m c) (((cfg0.win 13).blk t).view.emb y) := by
  obtain ⟨i, l, rfl⟩ : ∃ (i : Fin 512) (l : Fin 128), y = ix2 i l := ⟨_, _, eq_ix2 _⟩
  refine (rope_block _ _ _ _ _ _ _ _ (f32_at m c t) _).trans ?_
  rw [emb13]
  refine Eq.trans ?_ (Ref.refRope_at (T m c) (tok t i) (fun d => proj_block m c t i (tok t i) rfl d) l).symm
  exact turned_congr (fun _ => rfl) (fun _ => congrArg (· * _) (t_at m c t i (tok t i) rfl)) rfl

theorem final13 : (dats m 0 c).arrAt 13 cfg0.N = Ref.refRope (P m c) (T m c) := by
  refine (dats m 0 c).arrAt_eq_of_covers 13 _ (by decide +kernel) fun t hf y => ?_
  blk_simp
  rw [after0_13]
  exact point13 m c t y

theorem point14 (t : Fin cfg0.N) (y : S512x128.Idx) :
    out0_14 (iblk m c 0 t) (iblk m c 1 t) (iblk m c 2 t) (iblk m c 3 t) (iblk m c 4 t) (iblk m c 5 t) (iblk m c 6 t) (iblk m c 7 t)
      y = Ref.refCos (T m c) (((cfg0.win 14).blk t).view.emb y) := by
  obtain ⟨i, l, rfl⟩ : ∃ (i : Fin 512) (l : Fin 128), y = ix2 i l := ⟨_, _, eq_ix2 _⟩
  refine (cosTab_block _ _ _ _ _ _ _ _ (f32_at m c t) _).trans ?_
  rw [emb14]
  refine Eq.trans ?_ (Ref.refCos_at (T m c) (tok t i) l).symm
  exact congrArg (fun a => cosLane 32 a l.val) (funext fun _ => congrArg (· * _) (t_at m c t i (tok t i) rfl))

theorem final14 : (dats m 0 c).arrAt 14 cfg0.N = Ref.refCos (T m c) := by
  refine (dats m 0 c).arrAt_eq_of_covers 14 _ (by decide +kernel) fun t hf y => ?_
  blk_simp
  rw [after0_14]
  exact point14 m c t y

theorem point15 (t : Fin cfg0.N) (y : S512x128.Idx) :
    out0_15 (iblk m c 0 t) (iblk m c 1 t) (iblk m c 2 t) (iblk m c 3 t) (iblk m c 4 t) (iblk m c 5 t) (iblk m c 6 t) (iblk m c 7 t)
      y = Ref.refSin (T m c) (((cfg0.win 15).blk t).view.emb y) := by
  obtain ⟨i, l, rfl⟩ : ∃ (i : Fin 512) (l : Fin 128), y = ix2 i l := ⟨_, _, eq_ix2 _⟩
  refine (sinTab_block _ _ _ _ _ _ _ _ (f32_at m c t) _).trans ?_
  rw [emb15]
  refine Eq.trans ?_ (Ref.refSin_at (T m c) (tok t i) l).symm
  exact congrArg (fun a => sinLane 32 a l.val) (funext fun _ => congrArg (· * _) (t_at m c t i (tok t i) rfl))

theorem final15 : (dats m 0 c).arrAt 15 cfg0.N = Ref.refSin (T m c) := by
  refine (dats m 0 c).arrAt_eq_of_covers 15 _ (by decide +kernel) fun t hf y => ?_
  blk_simp
  rw [after0_15]
  exact point15 m c t y

/-- The input projection's claim. -/
theorem algebraic : Cert.algebraic_Kernel4Ideal_Reference4Ideal := by
  intro m g m' g' _ hm
  refine ⟨fun c => Ref.refQ (P m c) (T m c), fun c => Ref.refK (P m c) (T m c), fun c => Ref.refV (P m c), fun c => Ref.refCq (P m c) (m ((c : Thread nD τ).loc main_arg4)), fun c => Ref.refCkv (P m c) (m ((c : Thread nD τ).loc main_arg5)), fun c => Ref.refRope (P m c) (T m c), fun c => Ref.refCos (T m c), fun c => Ref.refSin (T m c), ?_, ?_⟩
  · refine (θ_run _ _ _).mono (fun r h c => ?_) (Cert.Kernel4Ideal.Value.run_blocks m g)
    obtain ⟨h8, h9, h10, h11, h12, h13, h14, h15, ha⟩ := h c
    exact ⟨h8.trans (final8 m c), h9.trans (final9 m c), h10.trans (final10 m c), h11.trans (final11 m c), h12.trans (final12 m c), h13.trans (final13 m c), h14.trans (final14 m c), h15.trans (final15 m c), ha⟩
  · refine (θ_run _ _ _).mono (fun r h c => ?_) (Cert.Reference4Ideal.Value.run (F := Ideal) m' g')
    obtain ⟨h0, h1, h2, h3, h4, h5⟩ := hm c
    obtain ⟨r0, r1, r2, r3, r4, r5, r6, r7, ra⟩ := h c
    simp only [P, T, ← h0, ← h1, ← h2, ← h3, ← h4, ← h5]
    exact ⟨r0, r1, r2, r3, r4, r5, r6, r7, ra⟩

end Cert.Proof.Inproj

end
-- ==== Proof.Up.Step.lean ====
/- The latent up-projection's tile as named values: the two products of a group of rows, and what each output block stores of them. -/
module

public import proofs.«01_k».proof.Proof.Gen.Kernel5Ideal.Value
public import Idealize.ShloMosaic.Lib.Pipeline.ValueKit
public import Idealize.ShloMosaic.Lib.Pointwise
public import Idealize.ShloMosaic.Lib.KernelVsHost

@[expose] public section

set_option maxRecDepth 16384

noncomputable section

namespace Cert.Proof.Up

open Idealize.ShloMosaic Idealize.ShloMosaic.TcCoe
open Cert.Kernel5Ideal Cert.Kernel5Ideal.Gen

/-- A head's tile as it is stored. -/
def tile (z : FVec Ideal S256x128 .bf16) : FVec Ideal S1x1x256x128 .bf16 := shapeCast S1x1x256x128 z shapeCasts_S256x128_S1x1x256x128

/-- Times the scores' scale, in the narrow format. -/
def scaled (z : FVec Ideal S256x128 .f32) : FVec Ideal S256x128 .bf16 :=
  truncf .bf16 (mulf z (broadcast S256x128 (Scalar.ofBits .f32 0x3DD53B95#32))) bitsLt_bf16_f32

/-- The queries' lower lanes: 128 columns of the product from column `o` on, scaled. -/
def qLow (P : FVec Ideal S256x1536 .f32) (o : ℕ) (h : S256x1536.Slices ![0, o] S256x128) : FVec Ideal S1x1x256x128 .bf16 :=
  tile (scaled (extractStridedSlice S256x128 ![0, o] P h))

/-- 64 columns of the product from column `o` on, then 64 zeros. -/
def wide (P : FVec Ideal S256x1536 .f32) (o : ℕ) (h : S256x1536.Slices ![0, o] S256x64) : FVec Ideal S256x128 .f32 :=
  concatenate S256x128 1 [⟨S256x64, extractStridedSlice S256x64 ![0, o] P h⟩, ⟨S256x64, (broadcast S256x64 (Scalar.ofBits .f32 0x00000000#32) : FVec Ideal S256x64 .f32)⟩]
    concatenates_S256x64_S256x64_S256x128_d1

/-- The rotation: the row times the cosines plus each lane's partner, 32 lanes away, times the sines. -/
def turn (z c s : FVec Ideal S256x128 .f32) : FVec Ideal S256x128 .f32 :=
  addf (mulf z (shapeCast S256x128 c shapeCasts_S256x128_S256x128)) (mulf (select (broadcastTo S256x128 (shapeCast S1x128
    (cmpi .slt (iota .tc S1x128 32 [1] iota_S1x128_d1_w32) (broadcast S1x128 32#32)) shapeCasts_S1x128_S1x128) broadcasts_S1x128_S256x128)
    (dynamicRotate 1 96#32 none z rotates_S256x128_d1) (dynamicRotate 1 32#32 none z rotates_S256x128_d1)) (shapeCast S256x128 s shapeCasts_S256x128_S256x128))

/-- The queries' upper lanes: the 64 rotary columns rotated, zeros after them, scaled. -/
def qHigh (P : FVec Ideal S256x1536 .f32) (c s : FVec Ideal S256x128 .f32) (o : ℕ) (h : S256x1536.Slices ![0, o] S256x64) : FVec Ideal S1x1x256x128 .bf16 :=
  tile (scaled (turn (wide P o h) c s))

/-- The keys' lower lanes or the values: 128 columns of the other product from column `o` on. -/
def kv (P : FVec Ideal S256x2048 .f32) (o : ℕ) (h : S256x2048.Slices ![0, o] S256x128) : FVec Ideal S1x1x256x128 .bf16 :=
  tile (truncf .bf16 (extractStridedSlice S256x128 ![0, o] P h) bitsLt_bf16_f32)

/-- The keys' upper lanes: the shared rotary key. -/
def kHigh (z : FVec Ideal S256x128 .bf16) : FVec Ideal S1x1x256x128 .bf16 := tile (shapeCast S256x128 z shapeCasts_S256x128_S256x128)

section
variable (x0 x1 : Vec Ideal S1024x512 .bf16) (x2 : Vec Ideal S1024x128 .bf16) (x3 x4 : Vec Ideal S1024x128 .f32)
  (x5 : Vec Ideal S512x1536 .bf16) (x6 : Vec Ideal S512x2048 .bf16)

/-- What the kernel stores into its query window, last store first. -/
theorem out7_eq : out0_7 x0 x1 x2 x3 x4 x5 x6 = View.canon [
  ⟨r0_104, qHigh (k0_pay4 (View.ld x0 r0_81) (View.ld x5 r0_2)) (View.ld x3 r0_80) (View.ld x4 r0_80) 1472 slices_S256x1536_o0_1472_S256x64⟩,
  ⟨r0_103, qLow (k0_pay4 (View.ld x0 r0_81) (View.ld x5 r0_2)) 1344 slices_S256x1536_o0_1344_S256x128⟩,
  ⟨r0_101, qHigh (k0_pay4 (View.ld x0 r0_81) (View.ld x5 r0_2)) (View.ld x3 r0_80) (View.ld x4 r0_80) 1280 slices_S256x1536_o0_1280_S256x64⟩,
  ⟨r0_100, qLow (k0_pay4 (View.ld x0 r0_81) (View.ld x5 r0_2)) 1152 slices_S256x1536_o0_1152_S256x128⟩,
  ⟨r0_98, qHigh (k0_pay4 (View.ld x0 r0_81) (View.ld x5 r0_2)) (View.ld x3 r0_80) (View.ld x4 r0_80) 1088 slices_S256x1536_o0_1088_S256x64⟩,
  ⟨r0_97, qLow (k0_pay4 (View.ld x0 r0_81) (View.ld x5 r0_2)) 960 slices_S256x1536_o0_960_S256x128⟩,
  ⟨r0_95, qHigh (k0_pay4 (View.ld x0 r0_81) (View.ld x5 r0_2)) (View.ld x3 r0_80) (View.ld x4 r0_80) 896 slices_S256x1536_o0_896_S256x64⟩,
  ⟨r0_94, qLow (k0_pay4 (View.ld x0 r0_81) (View.ld x5 r0_2)) 768 slices_S256x1536_o0_768_S256x128⟩,
  ⟨r0_92, qHigh (k0_pay4 (View.ld x0 r0_81) (View.ld x5 r0_2)) (View.ld x3 r0_80) (View.ld x4 r0_80) 704 slices_S256x1536_o0_704_S256x64⟩,
  ⟨r0_91, qLow (k0_pay4 (View.ld x0 r0_81) (View.ld x5 r0_2)) 576 slices_S256x1536_o0_576_S256x128⟩,
  ⟨r0_89, qHigh (k0_pay4 (View.ld x0 r0_81) (View.ld x5 r0_2)) (View.ld x3 r0_80) (View.ld x4 r0_80) 512 slices_S256x1536_o0_512_S256x64⟩,
  ⟨r0_88, qLow (k0_pay4 (View.ld x0 r0_81) (View.ld x5 r0_2)) 384 slices_S256x1536_o0_384_S256x128⟩,
  ⟨r0_86, qHigh (k0_pay4 (View.ld x0 r0_81) (View.ld x5 r0_2)) (View.ld x3 r0_80) (View.ld x4 r0_80) 320 slices_S256x1536_o0_320_S256x64⟩,
  ⟨r0_85, qLow (k0_pay4 (View.ld x0 r0_81) (View.ld x5 r0_2)) 192 slices_S256x1536_o0_192_S256x128⟩,
  ⟨r0_83, qHigh (k0_pay4 (View.ld x0 r0_81) (View.ld x5 r0_2)) (View.ld x3 r0_80) (View.ld x4 r0_80) 128 slices_S256x1536_o0_128_S256x64⟩,
  ⟨r0_82, qLow (k0_pay4 (View.ld x0 r0_81) (View.ld x5 r0_2)) 0 slices_S256x1536_o0_0_S256x128⟩,
  ⟨r0_78, qHigh (k0_pay4 (View.ld x0 r0_55) (View.ld x5 r0_2)) (View.ld x3 r0_54) (View.ld x4 r0_54) 1472 slices_S256x1536_o0_1472_S256x64⟩,
  ⟨r0_77, qLow (k0_pay4 (View.ld x0 r0_55) (View.ld x5 r0_2)) 1344 slices_S256x1536_o0_1344_S256x128⟩,
  ⟨r0_75, qHigh (k0_pay4 (View.ld x0 r0_55) (View.ld x5 r0_2)) (View.ld x3 r0_54) (View.ld x4 r0_54) 1280 slices_S256x1536_o0_1280_S256x64⟩,
  ⟨r0_74, qLow (k0_pay4 (View.ld x0 r0_55) (View.ld x5 r0_2)) 1152 slices_S256x1536_o0_1152_S256x128⟩,
  ⟨r0_72, qHigh (k0_pay4 (View.ld x0 r0_55) (View.ld x5 r0_2)) (View.ld x3 r0_54) (View.ld x4 r0_54) 1088 slices_S256x1536_o0_1088_S256x64⟩,
  ⟨r0_71, qLow (k0_pay4 (View.ld x0 r0_55) (View.ld x5 r0_2)) 960 slices_S256x1536_o0_960_S256x128⟩,
  ⟨r0_69, qHigh (k0_pay4 (View.ld x0 r0_55) (View.ld x5 r0_2)) (View.ld x3 r0_54) (View.ld x4 r0_54) 896 slices_S256x1536_o0_896_S256x64⟩,
  ⟨r0_68, qLow (k0_pay4 (View.ld x0 r0_55) (View.ld x5 r0_2)) 768 slices_S256x1536_o0_768_S256x128⟩,
  ⟨r0_66, qHigh (k0_pay4 (View.ld x0 r0_55) (View.ld x5 r0_2)) (View.ld x3 r0_54) (View.ld x4 r0_54) 704 slices_S256x1536_o0_704_S256x64⟩,
  ⟨r0_65, qLow (k0_pay4 (View.ld x0 r0_55) (View.ld x5 r0_2)) 576 slices_S256x1536_o0_576_S256x128⟩,
  ⟨r0_63, qHigh (k0_pay4 (View.ld x0 r0_55) (View.ld x5 r0_2)) (View.ld x3 r0_54) (View.ld x4 r0_54) 512 slices_S256x1536_o0_512_S256x64⟩,
  ⟨r0_62, qLow (k0_pay4 (View.ld x0 r0_55) (View.ld x5 r0_2)) 384 slices_S256x1536_o0_384_S256x128⟩,
  ⟨r0_60, qHigh (k0_pay4 (View.ld x0 r0_55) (View.ld x5 r0_2)) (View.ld x3 r0_54) (View.ld x4 r0_54) 320 slices_S256x1536_o0_320_S256x64⟩,
  ⟨r0_59, qLow (k0_pay4 (View.ld x0 r0_55) (View.ld x5 r0_2)) 192 slices_S256x1536_o0_192_S256x128⟩,
  ⟨r0_57, qHigh (k0_pay4 (View.ld x0 r0_55) (View.ld x5 r0_2)) (View.ld x3 r0_54) (View.ld x4 r0_54) 128 slices_S256x1536_o0_128_S256x64⟩,
  ⟨r0_56, qLow (k0_pay4 (View.ld x0 r0_55) (View.ld x5 r0_2)) 0 slices_S256x1536_o0_0_S256x128⟩,
  ⟨r0_52, qHigh (k0_pay4 (View.ld x0 r0_29) (View.ld x5 r0_2)) (View.ld x3 r0_28) (View.ld x4 r0_28) 1472 slices_S256x1536_o0_1472_S256x64⟩,
  ⟨r0_51, qLow (k0_pay4 (View.ld x0 r0_29) (View.ld x5 r0_2)) 1344 slices_S256x1536_o0_1344_S256x128⟩,
  ⟨r0_49, qHigh (k0_pay4 (View.ld x0 r0_29) (View.ld x5 r0_2)) (View.ld x3 r0_28) (View.ld x4 r0_28) 1280 slices_S256x1536_o0_1280_S256x64⟩,
  ⟨r0_48, qLow (k0_pay4 (View.ld x0 r0_29) (View.ld x5 r0_2)) 1152 slices_S256x1536_o0_1152_S256x128⟩,
  ⟨r0_46, qHigh (k0_pay4 (View.ld x0 r0_29) (View.ld x5 r0_2)) (View.ld x3 r0_28) (View.ld x4 r0_28) 1088 slices_S256x1536_o0_1088_S256x64⟩,
  ⟨r0_45, qLow (k0_pay4 (View.ld x0 r0_29) (View.ld x5 r0_2)) 960 slices_S256x1536_o0_960_S256x128⟩,
  ⟨r0_43, qHigh (k0_pay4 (View.ld x0 r0_29) (View.ld x5 r0_2)) (View.ld x3 r0_28) (View.ld x4 r0_28) 896 slices_S256x1536_o0_896_S256x64⟩,
  ⟨r0_42, qLow (k0_pay4 (View.ld x0 r0_29) (View.ld x5 r0_2)) 768 slices_S256x1536_o0_768_S256x128⟩,
  ⟨r0_40, qHigh (k0_pay4 (View.ld x0 r0_29) (View.ld x5 r0_2)) (View.ld x3 r0_28) (View.ld x4 r0_28) 704 slices_S256x1536_o0_704_S256x64⟩,
  ⟨r0_39, qLow (k0_pay4 (View.ld x0 r0_29) (View.ld x5 r0_2)) 576 slices_S256x1536_o0_576_S256x128⟩,
  ⟨r0_37, qHigh (k0_pay4 (View.ld x0 r0_29) (View.ld x5 r0_2)) (View.ld x3 r0_28) (View.ld x4 r0_28) 512 slices_S256x1536_o0_512_S256x64⟩,
  ⟨r0_36, qLow (k0_pay4 (View.ld x0 r0_29) (View.ld x5 r0_2)) 384 slices_S256x1536_o0_384_S256x128⟩,
  ⟨r0_34, qHigh (k0_pay4 (View.ld x0 r0_29) (View.ld x5 r0_2)) (View.ld x3 r0_28) (View.ld x4 r0_28) 320 slices_S256x1536_o0_320_S256x64⟩,
  ⟨r0_33, qLow (k0_pay4 (View.ld x0 r0_29) (View.ld x5 r0_2)) 192 slices_S256x1536_o0_192_S256x128⟩,
  ⟨r0_31, qHigh (k0_pay4 (View.ld x0 r0_29) (View.ld x5 r0_2)) (View.ld x3 r0_28) (View.ld x4 r0_28) 128 slices_S256x1536_o0_128_S256x64⟩,
  ⟨r0_30, qLow (k0_pay4 (View.ld x0 r0_29) (View.ld x5 r0_2)) 0 slices_S256x1536_o0_0_S256x128⟩,
  ⟨r0_26, qHigh (k0_pay4 (View.ld x0 r0_1) (View.ld x5 r0_2)) (View.ld x3 r0_0) (View.ld x4 r0_0) 1472 slices_S256x1536_o0_1472_S256x64⟩,
  ⟨r0_25, qLow (k0_pay4 (View.ld x0 r0_1) (View.ld x5 r0_2)) 1344 slices_S256x1536_o0_1344_S256x128⟩,
  ⟨r0_23, qHigh (k0_pay4 (View.ld x0 r0_1) (View.ld x5 r0_2)) (View.ld x3 r0_0) (View.ld x4 r0_0) 1280 slices_S256x1536_o0_1280_S256x64⟩,
  ⟨r0_22, qLow (k0_pay4 (View.ld x0 r0_1) (View.ld x5 r0_2)) 1152 slices_S256x1536_o0_1152_S256x128⟩,
  ⟨r0_20, qHigh (k0_pay4 (View.ld x0 r0_1) (View.ld x5 r0_2)) (View.ld x3 r0_0) (View.ld x4 r0_0) 1088 slices_S256x1536_o0_1088_S256x64⟩,
  ⟨r0_19, qLow (k0_pay4 (View.ld x0 r0_1) (View.ld x5 r0_2)) 960 slices_S256x1536_o0_960_S256x128⟩,
  ⟨r0_17, qHigh (k0_pay4 (View.ld x0 r0_1) (View.ld x5 r0_2)) (View.ld x3 r0_0) (View.ld x4 r0_0) 896 slices_S256x1536_o0_896_S256x64⟩,
  ⟨r0_16, qLow (k0_pay4 (View.ld x0 r0_1) (View.ld x5 r0_2)) 768 slices_S256x1536_o0_768_S256x128⟩,
  ⟨r0_14, qHigh (k0_pay4 (View.ld x0 r0_1) (View.ld x5 r0_2)) (View.ld x3 r0_0) (View.ld x4 r0_0) 704 slices_S256x1536_o0_704_S256x64⟩,
  ⟨r0_13, qLow (k0_pay4 (View.ld x0 r0_1) (View.ld x5 r0_2)) 576 slices_S256x1536_o0_576_S256x128⟩,
  ⟨r0_11, qHigh (k0_pay4 (View.ld x0 r0_1) (View.ld x5 r0_2)) (View.ld x3 r0_0) (View.ld x4 r0_0) 512 slices_S256x1536_o0_512_S256x64⟩,
  ⟨r0_10, qLow (k0_pay4 (View.ld x0 r0_1) (View.ld x5 r0_2)) 384 slices_S256x1536_o0_384_S256x128⟩,
  ⟨r0_8, qHigh (k0_pay4 (View.ld x0 r0_1) (View.ld x5 r0_2)) (View.ld x3 r0_0) (View.ld x4 r0_0) 320 slices_S256x1536_o0_320_S256x64⟩,
  ⟨r0_7, qLow (k0_pay4 (View.ld x0 r0_1) (View.ld x5 r0_2)) 192 slices_S256x1536_o0_192_S256x128⟩,
  ⟨r0_5, qHigh (k0_pay4 (View.ld x0 r0_1) (View.ld x5 r0_2)) (View.ld x3 r0_0) (View.ld x4 r0_0) 128 slices_S256x1536_o0_128_S256x64⟩,
  ⟨r0_4, qLow (k0_pay4 (View.ld x0 r0_1) (View.ld x5 r0_2)) 0 slices_S256x1536_o0_0_S256x128⟩] := by
  sl_kernel_rfl

/-- What the kernel stores into its key window, last store first. -/
theorem out8_eq : out0_8 x0 x1 x2 x3 x4 x5 x6 = View.canon [
  ⟨r0_104, kHigh (View.ld x2 r0_80)⟩,
  ⟨r0_103, kv (k0_pay5 (View.ld x1 r0_81) (View.ld x6 r0_3)) 1792 slices_S256x2048_o0_1792_S256x128⟩,
  ⟨r0_101, kHigh (View.ld x2 r0_80)⟩,
  ⟨r0_100, kv (k0_pay5 (View.ld x1 r0_81) (View.ld x6 r0_3)) 1536 slices_S256x2048_o0_1536_S256x128⟩,
  ⟨r0_98, kHigh (View.ld x2 r0_80)⟩,
  ⟨r0_97, kv (k0_pay5 (View.ld x1 r0_81) (View.ld x6 r0_3)) 1280 slices_S256x2048_o0_1280_S256x128⟩,
  ⟨r0_95, kHigh (View.ld x2 r0_80)⟩,
  ⟨r0_94, kv (k0_pay5 (View.ld x1 r0_81) (View.ld x6 r0_3)) 1024 slices_S256x2048_o0_1024_S256x128⟩,
  ⟨r0_92, kHigh (View.ld x2 r0_80)⟩,
  ⟨r0_91, kv (k0_pay5 (View.ld x1 r0_81) (View.ld x6 r0_3)) 768 slices_S256x2048_o0_768_S256x128⟩,
  ⟨r0_89, kHigh (View.ld x2 r0_80)⟩,
  ⟨r0_88, kv (k0_pay5 (View.ld x1 r0_81) (View.ld x6 r0_3)) 512 slices_S256x2048_o0_512_S256x128⟩,
  ⟨r0_86, kHigh (View.ld x2 r0_80)⟩,
  ⟨r0_85, kv (k0_pay5 (View.ld x1 r0_81) (View.ld x6 r0_3)) 256 slices_S256x2048_o0_256_S256x128⟩,
  ⟨r0_83, kHigh (View.ld x2 r0_80)⟩,
  ⟨r0_82, kv (k0_pay5 (View.ld x1 r0_81) (View.ld x6 r0_3)) 0 slices_S256x2048_o0_0_S256x128⟩,
  ⟨r0_78, kHigh (View.ld x2 r0_54)⟩,
  ⟨r0_77, kv (k0_pay5 (View.ld x1 r0_55) (View.ld x6 r0_3)) 1792 slices_S256x2048_o0_1792_S256x128⟩,
  ⟨r0_75, kHigh (View.ld x2 r0_54)⟩,
  ⟨r0_74, kv (k0_pay5 (View.ld x1 r0_55) (View.ld x6 r0_3)) 1536 slices_S256x2048_o0_1536_S256x128⟩,
  ⟨r0_72, kHigh (View.ld x2 r0_54)⟩,
  ⟨r0_71, kv (k0_pay5 (View.ld x1 r0_55) (View.ld x6 r0_3)) 1280 slices_S256x2048_o0_1280_S256x128⟩,
  ⟨r0_69, kHigh (View.ld x2 r0_54)⟩,
  ⟨r0_68, kv (k0_pay5 (View.ld x1 r0_55) (View.ld x6 r0_3)) 1024 slices_S256x2048_o0_1024_S256x128⟩,
  ⟨r0_66, kHigh (View.ld x2 r0_54)⟩,
  ⟨r0_65, kv (k0_pay5 (View.ld x1 r0_55) (View.ld x6 r0_3)) 768 slices_S256x2048_o0_768_S256x128⟩,
  ⟨r0_63, kHigh (View.ld x2 r0_54)⟩,
  ⟨r0_62, kv (k0_pay5 (View.ld x1 r0_55) (View.ld x6 r0_3)) 512 slices_S256x2048_o0_512_S256x128⟩,
  ⟨r0_60, kHigh (View.ld x2 r0_54)⟩,
  ⟨r0_59, kv (k0_pay5 (View.ld x1 r0_55) (View.ld x6 r0_3)) 256 slices_S256x2048_o0_256_S256x128⟩,
  ⟨r0_57, kHigh (View.ld x2 r0_54)⟩,
  ⟨r0_56, kv (k0_pay5 (View.ld x1 r0_55) (View.ld x6 r0_3)) 0 slices_S256x2048_o0_0_S256x128⟩,
  ⟨r0_52, kHigh (View.ld x2 r0_28)⟩,
  ⟨r0_51, kv (k0_pay5 (View.ld x1 r0_29) (View.ld x6 r0_3)) 1792 slices_S256x2048_o0_1792_S256x128⟩,
  ⟨r0_49, kHigh (View.ld x2 r0_28)⟩,
  ⟨r0_48, kv (k0_pay5 (View.ld x1 r0_29) (View.ld x6 r0_3)) 1536 slices_S256x2048_o0_1536_S256x128⟩,
  ⟨r0_46, kHigh (View.ld x2 r0_28)⟩,
  ⟨r0_45, kv (k0_pay5 (View.ld x1 r0_29) (View.ld x6 r0_3)) 1280 slices_S256x2048_o0_1280_S256x128⟩,
  ⟨r0_43, kHigh (View.ld x2 r0_28)⟩,
  ⟨r0_42, kv (k0_pay5 (View.ld x1 r0_29) (View.ld x6 r0_3)) 1024 slices_S256x2048_o0_1024_S256x128⟩,
  ⟨r0_40, kHigh (View.ld x2 r0_28)⟩,
  ⟨r0_39, kv (k0_pay5 (View.ld x1 r0_29) (View.ld x6 r0_3)) 768 slices_S256x2048_o0_768_S256x128⟩,
  ⟨r0_37, kHigh (View.ld x2 r0_28)⟩,
  ⟨r0_36, kv (k0_pay5 (View.ld x1 r0_29) (View.ld x6 r0_3)) 512 slices_S256x2048_o0_512_S256x128⟩,
  ⟨r0_34, kHigh (View.ld x2 r0_28)⟩,
  ⟨r0_33, kv (k0_pay5 (View.ld x1 r0_29) (View.ld x6 r0_3)) 256 slices_S256x2048_o0_256_S256x128⟩,
  ⟨r0_31, kHigh (View.ld x2 r0_28)⟩,
  ⟨r0_30, kv (k0_pay5 (View.ld x1 r0_29) (View.ld x6 r0_3)) 0 slices_S256x2048_o0_0_S256x128⟩,
  ⟨r0_26, kHigh (View.ld x2 r0_0)⟩,
  ⟨r0_25, kv (k0_pay5 (View.ld x1 r0_1) (View.ld x6 r0_3)) 1792 slices_S256x2048_o0_1792_S256x128⟩,
  ⟨r0_23, kHigh (View.ld x2 r0_0)⟩,
  ⟨r0_22, kv (k0_pay5 (View.ld x1 r0_1) (View.ld x6 r0_3)) 1536 slices_S256x2048_o0_1536_S256x128⟩,
  ⟨r0_20, kHigh (View.ld x2 r0_0)⟩,
  ⟨r0_19, kv (k0_pay5 (View.ld x1 r0_1) (View.ld x6 r0_3)) 1280 slices_S256x2048_o0_1280_S256x128⟩,
  ⟨r0_17, kHigh (View.ld x2 r0_0)⟩,
  ⟨r0_16, kv (k0_pay5 (View.ld x1 r0_1) (View.ld x6 r0_3)) 1024 slices_S256x2048_o0_1024_S256x128⟩,
  ⟨r0_14, kHigh (View.ld x2 r0_0)⟩,
  ⟨r0_13, kv (k0_pay5 (View.ld x1 r0_1) (View.ld x6 r0_3)) 768 slices_S256x2048_o0_768_S256x128⟩,
  ⟨r0_11, kHigh (View.ld x2 r0_0)⟩,
  ⟨r0_10, kv (k0_pay5 (View.ld x1 r0_1) (View.ld x6 r0_3)) 512 slices_S256x2048_o0_512_S256x128⟩,
  ⟨r0_8, kHigh (View.ld x2 r0_0)⟩,
  ⟨r0_7, kv (k0_pay5 (View.ld x1 r0_1) (View.ld x6 r0_3)) 256 slices_S256x2048_o0_256_S256x128⟩,
  ⟨r0_5, kHigh (View.ld x2 r0_0)⟩,
  ⟨r0_4, kv (k0_pay5 (View.ld x1 r0_1) (View.ld x6 r0_3)) 0 slices_S256x2048_o0_0_S256x128⟩] := by
  sl_kernel_rfl

/-- What the kernel stores into its value window, last store first. -/
theorem out9_eq : out0_9 x0 x1 x2 x3 x4 x5 x6 = View.canon [
  ⟨r0_105, kv (k0_pay5 (View.ld x1 r0_81) (View.ld x6 r0_3)) 1920 slices_S256x2048_o0_1920_S256x128⟩,
  ⟨r0_102, kv (k0_pay5 (View.ld x1 r0_81) (View.ld x6 r0_3)) 1664 slices_S256x2048_o0_1664_S256x128⟩,
  ⟨r0_99, kv (k0_pay5 (View.ld x1 r0_81) (View.ld x6 r0_3)) 1408 slices_S256x2048_o0_1408_S256x128⟩,
  ⟨r0_96, kv (k0_pay5 (View.ld x1 r0_81) (View.ld x6 r0_3)) 1152 slices_S256x2048_o0_1152_S256x128⟩,
  ⟨r0_93, kv (k0_pay5 (View.ld x1 r0_81) (View.ld x6 r0_3)) 896 slices_S256x2048_o0_896_S256x128⟩,
  ⟨r0_90, kv (k0_pay5 (View.ld x1 r0_81) (View.ld x6 r0_3)) 640 slices_S256x2048_o0_640_S256x128⟩,
  ⟨r0_87, kv (k0_pay5 (View.ld x1 r0_81) (View.ld x6 r0_3)) 384 slices_S256x2048_o0_384_S256x128⟩,
  ⟨r0_84, kv (k0_pay5 (View.ld x1 r0_81) (View.ld x6 r0_3)) 128 slices_S256x2048_o0_128_S256x128⟩,
  ⟨r0_79, kv (k0_pay5 (View.ld x1 r0_55) (View.ld x6 r0_3)) 1920 slices_S256x2048_o0_1920_S256x128⟩,
  ⟨r0_76, kv (k0_pay5 (View.ld x1 r0_55) (View.ld x6 r0_3)) 1664 slices_S256x2048_o0_1664_S256x128⟩,
  ⟨r0_73, kv (k0_pay5 (View.ld x1 r0_55) (View.ld x6 r0_3)) 1408 slices_S256x2048_o0_1408_S256x128⟩,
  ⟨r0_70, kv (k0_pay5 (View.ld x1 r0_55) (View.ld x6 r0_3)) 1152 slices_S256x2048_o0_1152_S256x128⟩,
  ⟨r0_67, kv (k0_pay5 (View.ld x1 r0_55) (View.ld x6 r0_3)) 896 slices_S256x2048_o0_896_S256x128⟩,
  ⟨r0_64, kv (k0_pay5 (View.ld x1 r0_55) (View.ld x6 r0_3)) 640 slices_S256x2048_o0_640_S256x128⟩,
  ⟨r0_61, kv (k0_pay5 (View.ld x1 r0_55) (View.ld x6 r0_3)) 384 slices_S256x2048_o0_384_S256x128⟩,
  ⟨r0_58, kv (k0_pay5 (View.ld x1 r0_55) (View.ld x6 r0_3)) 128 slices_S256x2048_o0_128_S256x128⟩,
  ⟨r0_53, kv (k0_pay5 (View.ld x1 r0_29) (View.ld x6 r0_3)) 1920 slices_S256x2048_o0_1920_S256x128⟩,
  ⟨r0_50, kv (k0_pay5 (View.ld x1 r0_29) (View.ld x6 r0_3)) 1664 slices_S256x2048_o0_1664_S256x128⟩,
  ⟨r0_47, kv (k0_pay5 (View.ld x1 r0_29) (View.ld x6 r0_3)) 1408 slices_S256x2048_o0_1408_S256x128⟩,
  ⟨r0_44, kv (k0_pay5 (View.ld x1 r0_29) (View.ld x6 r0_3)) 1152 slices_S256x2048_o0_1152_S256x128⟩,
  ⟨r0_41, kv (k0_pay5 (View.ld x1 r0_29) (View.ld x6 r0_3)) 896 slices_S256x2048_o0_896_S256x128⟩,
  ⟨r0_38, kv (k0_pay5 (View.ld x1 r0_29) (View.ld x6 r0_3)) 640 slices_S256x2048_o0_640_S256x128⟩,
  ⟨r0_35, kv (k0_pay5 (View.ld x1 r0_29) (View.ld x6 r0_3)) 384 slices_S256x2048_o0_384_S256x128⟩,
  ⟨r0_32, kv (k0_pay5 (View.ld x1 r0_29) (View.ld x6 r0_3)) 128 slices_S256x2048_o0_128_S256x128⟩,
  ⟨r0_27, kv (k0_pay5 (View.ld x1 r0_1) (View.ld x6 r0_3)) 1920 slices_S256x2048_o0_1920_S256x128⟩,
  ⟨r0_24, kv (k0_pay5 (View.ld x1 r0_1) (View.ld x6 r0_3)) 1664 slices_S256x2048_o0_1664_S256x128⟩,
  ⟨r0_21, kv (k0_pay5 (View.ld x1 r0_1) (View.ld x6 r0_3)) 1408 slices_S256x2048_o0_1408_S256x128⟩,
  ⟨r0_18, kv (k0_pay5 (View.ld x1 r0_1) (View.ld x6 r0_3)) 1152 slices_S256x2048_o0_1152_S256x128⟩,
  ⟨r0_15, kv (k0_pay5 (View.ld x1 r0_1) (View.ld x6 r0_3)) 896 slices_S256x2048_o0_896_S256x128⟩,
  ⟨r0_12, kv (k0_pay5 (View.ld x1 r0_1) (View.ld x6 r0_3)) 640 slices_S256x2048_o0_640_S256x128⟩,
  ⟨r0_9, kv (k0_pay5 (View.ld x1 r0_1) (View.ld x6 r0_3)) 384 slices_S256x2048_o0_384_S256x128⟩,
  ⟨r0_6, kv (k0_pay5 (View.ld x1 r0_1) (View.ld x6 r0_3)) 128 slices_S256x2048_o0_128_S256x128⟩] := by
  sl_kernel_rfl

end

end Cert.Proof.Up

end
-- ==== Proof.Up.Read.lean ====
/- The latent up-projection's stored tiles at an index, over the loaded blocks. -/
module

public import proofs.«01_k».proof.Proof.Up.Step
public import proofs.«01_k».proof.Proof.Inproj.Scalar

@[expose] public section

set_option maxRecDepth 16384

noncomputable section

namespace Cert.Proof.Up

open Idealize.ShloMosaic Idealize.ShloMosaic.TcCoe
open Cert.Kernel5Ideal Cert.Kernel5Ideal.Gen
open Cert.Proof.Inproj

/-- A row of a latent times every column of the weights, by number. -/
def prods {N : ℕ} (x : Fin 512 → EReal) (w : Fin 512 → Fin N → EReal) (n : ℕ) : EReal := if h : n < N then ∑ k, x k * w k ⟨n, h⟩ else 0

theorem prods_at {N : ℕ} (x : Fin 512 → EReal) (w : Fin 512 → Fin N → EReal) {n : ℕ} (d : Fin N) (h : d.val = n) : prods x w n = ∑ k, x k * w k d := by
  subst h
  unfold prods
  rw [dif_pos d.isLt]

/-- The 64 rotary columns from column `o` on, zeros after them. -/
def widened (C : ℕ → EReal) (o n : ℕ) : EReal := if n < 64 then C (o + n) else 0

/-- An entry of the queries: head `h`, lane `l`, over the product's columns and the angles. -/
def qEntry (C a : ℕ → EReal) (h l : ℕ) : EReal :=
  (if l < 128 then C (192 * h + l) else turned 32 (widened C (192 * h + 128)) a (l - 128)) * Ideal.ofBits FTy.f32 0x3DD53B95#32

/-- An entry of the keys: head `h`, lane `l`, over the other product's columns and the shared key. -/
def kEntry (D z : ℕ → EReal) (h l : ℕ) : EReal := if l < 128 then D (256 * h + l) else z (l - 128)

/-! ## The pieces at an index -/

theorem tile_at (z : FVec Ideal S256x128 .bf16) (a b : Fin 1) (r : Fin 256) (l : Fin 128) : tile z (ix4 a b r l) = z (ix2 r l) := by
  pointwise [tile]

theorem prodQ_at (X : Vec Ideal S256x512 .bf16) (w : Vec Ideal S512x1536 .bf16) (r : Fin 256) (d : Fin 1536) :
    k0_pay4 X w (ix2 r d) = ∑ k, X (ix2 r k) * w (ix2 k d) := by
  pointwise [k0_pay4]

theorem prodK_at (X : Vec Ideal S256x512 .bf16) (w : Vec Ideal S512x2048 .bf16) (r : Fin 256) (d : Fin 2048) :
    k0_pay5 X w (ix2 r d) = ∑ k, X (ix2 r k) * w (ix2 k d) := by
  pointwise [k0_pay5]

theorem qLow_at (P : FVec Ideal S256x1536 .f32) (o : ℕ) (hs : S256x1536.Slices ![0, o] S256x128) (ho : o ≤ 1408) (a b : Fin 1) (r : Fin 256) (l : Fin 128) :
    qLow P o hs (ix4 a b r l) = P (ix2 r ⟨o + l.val, by omega⟩) * Ideal.ofBits FTy.f32 0x3DD53B95#32 := by
  unfold qLow
  rw [tile_at]
  pointwise [scaled]

theorem kv_at (P : FVec Ideal S256x2048 .f32) (o : ℕ) (hs : S256x2048.Slices ![0, o] S256x128) (ho : o ≤ 1920) (a b : Fin 1) (r : Fin 256) (l : Fin 128) :
    kv P o hs (ix4 a b r l) = P (ix2 r ⟨o + l.val, by omega⟩) := by
  unfold kv
  rw [tile_at]
  pointwise

theorem kHigh_at (z : FVec Ideal S256x128 .bf16) (a b : Fin 1) (r : Fin 256) (l : Fin 128) : kHigh z (ix4 a b r l) = z (ix2 r l) := by
  unfold kHigh
  rw [tile_at]
  pointwise

theorem wide_at (P : FVec Ideal S256x1536 .f32) (o : ℕ) (hs : S256x1536.Slices ![0, o] S256x64) (ho : o ≤ 1472) (r : Fin 256) (l : Fin 128) :
    wide P o hs (ix2 r l) = if h : l.val < 64 then P (ix2 r ⟨o + l.val, by omega⟩) else 0 := by
  pointwise [wide]

theorem turn_at (z c s : FVec Ideal S256x128 .f32) (r : Fin 256) (l : Fin 128) : turn z c s (ix2 r l) = z (ix2 r l) * c (ix2 r l)
    + (if l.val < 32 then z (ix2 r ⟨(l.val + 128 - 96) % 128, Nat.mod_lt _ (by omega)⟩) else z (ix2 r ⟨(l.val + 128 - 32) % 128, Nat.mod_lt _ (by omega)⟩)) * s (ix2 r l) := by
  pointwise [turn]
  rw [← select_lane l 32 (by omega)]

theorem qHigh_raw (P : FVec Ideal S256x1536 .f32) (c s : FVec Ideal S256x128 .f32) (o : ℕ) (hs : S256x1536.Slices ![0, o] S256x64) (a b : Fin 1) (r : Fin 256)
    (l : Fin 128) : qHigh P c s o hs (ix4 a b r l) = turn (wide P o hs) c s (ix2 r l) * Ideal.ofBits FTy.f32 0x3DD53B95#32 := by
  unfold qHigh
  rw [tile_at]
  rfl

/-! ## Groups of 256 rows -/

/-- `X` holds the 256 rows of `x` from row `n` on. -/
def Group {N : ℕ} (x : Fin 1024 → Fin N → EReal) (X : Fin 256 → Fin N → EReal) (n : ℕ) : Prop :=
  ∀ (r : Fin 256) (i : Fin 1024), i.val = n + r.val → ∀ k, X r k = x i k

section
variable (x : Vec Ideal S1024x512 .bf16)
/-- The rows of a latent's block. -/
def lat (i : Fin 1024) (k : Fin 512) : EReal := x (ix2 i k)
/-- The rows of a latent's group. -/
def latG (X : Vec Ideal S256x512 .bf16) (r : Fin 256) (k : Fin 512) : EReal := X (ix2 r k)

theorem lat0 : Group (lat x) (latG (View.ld x r0_1)) 0 := by
  intro r i hi k
  refine congrArg x (funext fun a => Fin.ext ?_)
  fin_cases a <;> simp [hi, ix2]

theorem lat1 : Group (lat x) (latG (View.ld x r0_29)) 256 := by
  intro r i hi k
  refine congrArg x (funext fun a => Fin.ext ?_)
  fin_cases a <;> simp [hi, ix2]

theorem lat2 : Group (lat x) (latG (View.ld x r0_55)) 512 := by
  intro r i hi k
  refine congrArg x (funext fun a => Fin.ext ?_)
  fin_cases a <;> simp [hi, ix2]

theorem lat3 : Group (lat x) (latG (View.ld x r0_81)) 768 := by
  intro r i hi k
  refine congrArg x (funext fun a => Fin.ext ?_)
  fin_cases a <;> simp [hi, ix2]
end

section
variable (x : Vec Ideal S1024x128 .f32)
/-- The rows of a table's block. -/
def tab (i : Fin 1024) (l : Fin 128) : EReal := x (ix2 i l)
/-- The rows of a table's group. -/
def tabG (X : Vec Ideal S256x128 .f32) (r : Fin 256) (l : Fin 128) : EReal := X (ix2 r l)

theorem tab0 : Group (tab x) (tabG (View.ld x r0_0)) 0 := by
  intro r i hi k
  refine congrArg x (funext fun a => Fin.ext ?_)
  fin_cases a <;> simp [hi, ix2]

theorem tab1 : Group (tab x) (tabG (View.ld x r0_28)) 256 := by
  intro r i hi k
  refine congrArg x (funext fun a => Fin.ext ?_)
  fin_cases a <;> simp [hi, ix2]

theorem tab2 : Group (tab x) (tabG (View.ld x r0_54)) 512 := by
  intro r i hi k
  refine congrArg x (funext fun a => Fin.ext ?_)
  fin_cases a <;> simp [hi, ix2]

theorem tab3 : Group (tab x) (tabG (View.ld x r0_80)) 768 := by
  intro r i hi k
  refine congrArg x (funext fun a => Fin.ext ?_)
  fin_cases a <;> simp [hi, ix2]
end

section
variable (x : Vec Ideal S1024x128 .bf16)
/-- The rows of the rotary key's block. -/
def key (i : Fin 1024) (l : Fin 128) : EReal := x (ix2 i l)
/-- The rows of the rotary key's group. -/
def keyG (X : Vec Ideal S256x128 .bf16) (r : Fin 256) (l : Fin 128) : EReal := X (ix2 r l)

theorem key0 : Group (key x) (keyG (View.ld x r0_0)) 0 := by
  intro r i hi k
  refine congrArg x (funext fun a => Fin.ext ?_)
  fin_cases a <;> simp [hi, ix2]

theorem key1 : Group (key x) (keyG (View.ld x r0_28)) 256 := by
  intro r i hi k
  refine congrArg x (funext fun a => Fin.ext ?_)
  fin_cases a <;> simp [hi, ix2]

theorem key2 : Group (key x) (keyG (View.ld x r0_54)) 512 := by
  intro r i hi k
  refine congrArg x (funext fun a => Fin.ext ?_)
  fin_cases a <;> simp [hi, ix2]

theorem key3 : Group (key x) (keyG (View.ld x r0_80)) 768 := by
  intro r i hi k
  refine congrArg x (funext fun a => Fin.ext ?_)
  fin_cases a <;> simp [hi, ix2]
end

theorem ldQ (w : Vec Ideal S512x1536 .bf16) (k : Fin 512) (d : Fin 1536) : View.ld w r0_2 (ix2 k d) = w (ix2 k d) := by
  refine congrArg w (funext fun a => Fin.ext ?_)
  fin_cases a <;> simp [ix2]

theorem ldK (w : Vec Ideal S512x2048 .bf16) (k : Fin 512) (d : Fin 2048) : View.ld w r0_3 (ix2 k d) = w (ix2 k d) := by
  refine congrArg w (funext fun a => Fin.ext ?_)
  fin_cases a <;> simp [ix2]

/-! ## The tiles over the blocks -/

variable (x0 x1 : Vec Ideal S1024x512 .bf16) (x5 : Vec Ideal S512x1536 .bf16) (x6 : Vec Ideal S512x2048 .bf16)

/-- The query product's columns for the block's row `i`. -/
def colsQ (i : Fin 1024) : ℕ → EReal := prods (fun k => x0 (ix2 i k)) (fun k d => x5 (ix2 k d))

/-- The key-value product's columns for the block's row `i`. -/
def colsK (i : Fin 1024) : ℕ → EReal := prods (fun k => x1 (ix2 i k)) (fun k d => x6 (ix2 k d))

section
variable {x0 x1} {X : Vec Ideal S256x512 .bf16} {n : ℕ} {r : Fin 256} {i : Fin 1024} (hi : i.val = n + r.val)

include hi in
theorem colQ (hX : Group (lat x0) (latG X) n) (d : Fin 1536) {N : ℕ} (hd : d.val = N) : k0_pay4 X (View.ld x5 r0_2) (ix2 r d) = colsQ x0 x5 i N := by
  unfold colsQ
  rw [prodQ_at, prods_at _ _ d hd]
  exact Finset.sum_congr rfl fun k _ => by rw [ldQ]; exact congrArg (· * _) (hX r i hi k)

include hi in
theorem colK (hX : Group (lat x1) (latG X) n) (d : Fin 2048) {N : ℕ} (hd : d.val = N) : k0_pay5 X (View.ld x6 r0_3) (ix2 r d) = colsK x1 x6 i N := by
  unfold colsK
  rw [prodK_at, prods_at _ _ d hd]
  exact Finset.sum_congr rfl fun k _ => by rw [ldK]; exact congrArg (· * _) (hX r i hi k)

include hi in
theorem wide_cols (hX : Group (lat x0) (latG X) n) {o : ℕ} (hs : S256x1536.Slices ![0, o] S256x64) (ho : o ≤ 1472) (l : Fin 128) :
    wide (k0_pay4 X (View.ld x5 r0_2)) o hs (ix2 r l) = widened (colsQ x0 x5 i) o l := by
  rw [wide_at _ _ _ ho]
  unfold widened
  by_cases h : l.val < 64
  · rw [dif_pos h, if_pos h]
    exact colQ x5 hi hX ⟨o + l.val, by omega⟩ rfl
  · rw [dif_neg h, if_neg h]

include hi in
theorem turn_cols (hX : Group (lat x0) (latG X) n) {o : ℕ} (hs : S256x1536.Slices ![0, o] S256x64) (ho : o ≤ 1472)
    {x3 x4 : Vec Ideal S1024x128 .f32} {p : EReal} {q : ℕ → EReal} (hc : ∀ l, x3 (ix2 i l) = Ideal.cos (p * lanes 32 q l.val))
    (hn : ∀ l, x4 (ix2 i l) = Ideal.sin (p * lanes 32 q l.val) * sign 32 l.val) {c s : FVec Ideal S256x128 .f32} (gc : Group (tab x3) (tabG c) n)
    (gs : Group (tab x4) (tabG s) n) (l : Fin 128) :
    turn (wide (k0_pay4 X (View.ld x5 r0_2)) o hs) c s (ix2 r l) = turned 32 (widened (colsQ x0 x5 i) o) (fun k => p * q k) l := by
  have ec : c (ix2 r l) = Ideal.cos (p * lanes 32 q l.val) := (gc r i hi l).trans (hc l)
  have es : s (ix2 r l) = Ideal.sin (p * lanes 32 q l.val) * sign 32 l.val := (gs r i hi l).trans (hn l)
  rw [turn_at, ec, es, wide_cols x5 hi hX hs ho, wide_cols x5 hi hX hs ho, wide_cols x5 hi hX hs ho]
  refine turned_lanes 32 _ q _ _ _ l (fun h => congrArg _ ?_) (fun h h' => congrArg _ ?_)
  · show (l.val + 128 - 96) % 128 = 32 + l.val
    omega
  · show (l.val + 128 - 32) % 128 = l.val - 32
    omega
end

end Cert.Proof.Up

end
-- ==== Proof.Up.Block.lean ====
/- The latent up-projection's three output blocks at an index, over the loaded blocks. -/
module

public import proofs.«01_k».proof.Proof.Up.Read

@[expose] public section

set_option maxRecDepth 16384

noncomputable section

namespace Cert.Proof.Up

open Idealize.ShloMosaic Idealize.ShloMosaic.TcCoe
open Cert.Kernel5Ideal Cert.Kernel5Ideal.Gen
open Cert.Proof.Inproj

variable (x0 x1 : Vec Ideal S1024x512 .bf16) (x2 : Vec Ideal S1024x128 .bf16) (x3 x4 : Vec Ideal S1024x128 .f32)
  (x5 : Vec Ideal S512x1536 .bf16) (x6 : Vec Ideal S512x2048 .bf16) (p : Fin 1024 → EReal) (q : ℕ → EReal)

/-- An entry of the query block. -/
def queryOf (y : S1x8x1024x256.Idx) : EReal :=
  qEntry (colsQ x0 x5 (y 2)) (fun k => p (y 2) * q k) (y 1 : Fin 8).val (y 3 : Fin 256).val

/-- An entry of the key block. -/
def keyOf (y : S1x8x1024x256.Idx) : EReal :=
  kEntry (colsK x1 x6 (y 2)) (byNumber fun l => key x2 (y 2) l) (y 1 : Fin 8).val (y 3 : Fin 256).val

/-- An entry of the value block. -/
def valueOf (y : S1x8x1024x128.Idx) : EReal := colsK x1 x6 (y 2) (256 * (y 1 : Fin 8).val + 128 + (y 3 : Fin 128).val)

section
variable {x0 x1 x2 x3 x4 p q} {X : Vec Ideal S256x512 .bf16} {n o : ℕ} (x : S1x1x256x128.Idx) (y : S1x8x1024x256.Idx) (hi : (y 2 : ℕ) = n + (x 2 : ℕ))
include hi

theorem qLow_piece (hX : Group (lat x0) (latG X) n) (hs : S256x1536.Slices ![0, o] S256x128) (ho : o = 192 * (y 1 : ℕ)) (hl : (y 3 : ℕ) = (x 3 : ℕ)) :
    @Eq (Elt Ideal .bf16) (qLow (k0_pay4 X (View.ld x5 r0_2)) o hs x) (queryOf x0 x5 p q y) := by
  obtain ⟨a, b, r, e, rfl⟩ : ∃ (a : Fin 1) (b : Fin 1) (r : Fin 256) (e : Fin 128), x = ix4 a b r e := ⟨_, _, _, _, eq_ix4 _⟩
  have h8 : (y 1 : ℕ) < 8 := (y 1 : Fin 8).isLt
  change (y 3 : ℕ) = e.val at hl
  refine (qLow_at _ o hs (by omega) a b r e).trans ?_
  unfold queryOf qEntry
  refine congrArg (· * _) ?_
  have hlt : (y 3 : Fin 256).val < 128 := by omega
  rw [if_pos hlt]
  exact colQ x5 (i := (y 2 : Fin 1024)) hi hX ⟨o + e.val, by omega⟩ (by show o + e.val = 192 * (y 1 : ℕ) + (y 3 : ℕ); omega)

theorem qHigh_piece (hX : Group (lat x0) (latG X) n) (hs : S256x1536.Slices ![0, o] S256x64) (ho : o = 192 * (y 1 : ℕ) + 128) (hl : (y 3 : ℕ) = 128 + (x 3 : ℕ))
    (hc : ∀ i l, x3 (ix2 i l) = Ideal.cos (p i * lanes 32 q l.val)) (hn : ∀ i l, x4 (ix2 i l) = Ideal.sin (p i * lanes 32 q l.val) * sign 32 l.val)
    {c s : FVec Ideal S256x128 .f32} (gc : Group (tab x3) (tabG c) n) (gs : Group (tab x4) (tabG s) n) :
    @Eq (Elt Ideal .bf16) (qHigh (k0_pay4 X (View.ld x5 r0_2)) c s o hs x) (queryOf x0 x5 p q y) := by
  obtain ⟨a, b, r, e, rfl⟩ : ∃ (a : Fin 1) (b : Fin 1) (r : Fin 256) (e : Fin 128), x = ix4 a b r e := ⟨_, _, _, _, eq_ix4 _⟩
  have h8 : (y 1 : ℕ) < 8 := (y 1 : Fin 8).isLt
  change (y 3 : ℕ) = 128 + e.val at hl
  refine (qHigh_raw _ c s o hs a b r e).trans ?_
  unfold queryOf qEntry
  refine congrArg (· * _) ?_
  have hlt : ¬ (y 3 : Fin 256).val < 128 := by omega
  have el : (y 3 : Fin 256).val - 128 = e.val := by omega
  rw [if_neg hlt, el]
  subst ho
  exact turn_cols x5 (i := (y 2 : Fin 1024)) hi hX hs (by omega) (hc (y 2)) (hn (y 2)) gc gs e

theorem kLow_piece (hX : Group (lat x1) (latG X) n) (hs : S256x2048.Slices ![0, o] S256x128) (ho : o = 256 * (y 1 : ℕ)) (hl : (y 3 : ℕ) = (x 3 : ℕ)) :
    @Eq (Elt Ideal .bf16) (kv (k0_pay5 X (View.ld x6 r0_3)) o hs x) (keyOf x1 x2 x6 y) := by
  obtain ⟨a, b, r, e, rfl⟩ : ∃ (a : Fin 1) (b : Fin 1) (r : Fin 256) (e : Fin 128), x = ix4 a b r e := ⟨_, _, _, _, eq_ix4 _⟩
  have h8 : (y 1 : ℕ) < 8 := (y 1 : Fin 8).isLt
  change (y 3 : ℕ) = e.val at hl
  refine (kv_at _ o hs (by omega) a b r e).trans ?_
  unfold keyOf kEntry
  have hlt : (y 3 : Fin 256).val < 128 := by omega
  rw [if_pos hlt]
  exact colK x6 (i := (y 2 : Fin 1024)) hi hX ⟨o + e.val, by omega⟩ (by show o + e.val = 256 * (y 1 : ℕ) + (y 3 : ℕ); omega)

theorem kHigh_piece {Z : Vec Ideal S256x128 .bf16} (hZ : Group (key x2) (keyG Z) n) (hl : (y 3 : ℕ) = 128 + (x 3 : ℕ)) :
    @Eq (Elt Ideal .bf16) (kHigh Z x) (keyOf x1 x2 x6 y) := by
  obtain ⟨a, b, r, e, rfl⟩ : ∃ (a : Fin 1) (b : Fin 1) (r : Fin 256) (e : Fin 128), x = ix4 a b r e := ⟨_, _, _, _, eq_ix4 _⟩
  change (y 3 : ℕ) = 128 + e.val at hl
  refine (kHigh_at Z a b r e).trans ?_
  unfold keyOf kEntry
  have hlt : ¬ (y 3 : Fin 256).val < 128 := by omega
  have el : (y 3 : Fin 256).val - 128 = e.val := by omega
  rw [if_neg hlt, el]
  exact (hZ r (y 2) hi e).trans (byNumber_at (fun l => key x2 (y 2) l) e rfl).symm
end

theorem value_piece {x1 : Vec Ideal S1024x512 .bf16} {X : Vec Ideal S256x512 .bf16} {n o : ℕ} (x : S1x1x256x128.Idx) (y : S1x8x1024x128.Idx) (hi : (y 2 : ℕ) = n + (x 2 : ℕ))
    (hX : Group (lat x1) (latG X) n) (hs : S256x2048.Slices ![0, o] S256x128) (ho : o = 256 * (y 1 : ℕ) + 128) (hl : (y 3 : ℕ) = (x 3 : ℕ)) :
    @Eq (Elt Ideal .bf16) (kv (k0_pay5 X (View.ld x6 r0_3)) o hs x) (valueOf x1 x6 y) := by
  obtain ⟨a, b, r, e, rfl⟩ : ∃ (a : Fin 1) (b : Fin 1) (r : Fin 256) (e : Fin 128), x = ix4 a b r e := ⟨_, _, _, _, eq_ix4 _⟩
  have h8 : (y 1 : ℕ) < 8 := (y 1 : Fin 8).isLt
  change (y 3 : ℕ) = e.val at hl
  refine (kv_at _ o hs (by omega) a b r e).trans ?_
  unfold valueOf
  exact colK x6 (i := (y 2 : Fin 1024)) hi hX ⟨o + e.val, by omega⟩ (by show o + e.val = 256 * (y 1 : ℕ) + 128 + (y 3 : ℕ); omega)

variable {p q}

theorem query_block (hc : ∀ i l, x3 (ix2 i l) = Ideal.cos (p i * lanes 32 q l.val))
    (hn : ∀ i l, x4 (ix2 i l) = Ideal.sin (p i * lanes 32 q l.val) * sign 32 l.val) (y : S1x8x1024x256.Idx) : out0_7 x0 x1 x2 x3 x4 x5 x6 y = queryOf x0 x5 p q y := by
  have key : out0_7 x0 x1 x2 x3 x4 x5 x6 = fun y : S1x8x1024x256.Idx => queryOf x0 x5 p q y := by
    rw [out7_eq]
    funext y
    canon_tiles x h
    all_goals first
    | (with_reducible refine qLow_piece x5 x y ?_ (lat0 x0) _ ?_ ?_) <;> omega
    | (with_reducible refine qLow_piece x5 x y ?_ (lat1 x0) _ ?_ ?_) <;> omega
    | (with_reducible refine qLow_piece x5 x y ?_ (lat2 x0) _ ?_ ?_) <;> omega
    | (with_reducible refine qLow_piece x5 x y ?_ (lat3 x0) _ ?_ ?_) <;> omega
    | (with_reducible refine qHigh_piece x5 x y ?_ (lat0 x0) _ ?_ ?_ hc hn (tab0 x3) (tab0 x4)) <;> omega
    | (with_reducible refine qHigh_piece x5 x y ?_ (lat1 x0) _ ?_ ?_ hc hn (tab1 x3) (tab1 x4)) <;> omega
    | (with_reducible refine qHigh_piece x5 x y ?_ (lat2 x0) _ ?_ ?_ hc hn (tab2 x3) (tab2 x4)) <;> omega
    | (with_reducible refine qHigh_piece x5 x y ?_ (lat3 x0) _ ?_ ?_ hc hn (tab3 x3) (tab3 x4)) <;> omega
  exact congrFun key y

theorem key_block (y : S1x8x1024x256.Idx) : out0_8 x0 x1 x2 x3 x4 x5 x6 y = keyOf x1 x2 x6 y := by
  have key : out0_8 x0 x1 x2 x3 x4 x5 x6 = fun y : S1x8x1024x256.Idx => keyOf x1 x2 x6 y := by
    rw [out8_eq]
    funext y
    canon_tiles x h
    all_goals first
    | (with_reducible refine kLow_piece x6 x y ?_ (lat0 x1) _ ?_ ?_) <;> omega
    | (with_reducible refine kLow_piece x6 x y ?_ (lat1 x1) _ ?_ ?_) <;> omega
    | (with_reducible refine kLow_piece x6 x y ?_ (lat2 x1) _ ?_ ?_) <;> omega
    | (with_reducible refine kLow_piece x6 x y ?_ (lat3 x1) _ ?_ ?_) <;> omega
    | (with_reducible refine kHigh_piece x6 x y ?_ (key0 x2) ?_) <;> omega
    | (with_reducible refine kHigh_piece x6 x y ?_ (key1 x2) ?_) <;> omega
    | (with_reducible refine kHigh_piece x6 x y ?_ (key2 x2) ?_) <;> omega
    | (with_reducible refine kHigh_piece x6 x y ?_ (key3 x2) ?_) <;> omega
  exact congrFun key y

theorem value_block (y : S1x8x1024x128.Idx) : out0_9 x0 x1 x2 x3 x4 x5 x6 y = valueOf x1 x6 y := by
  have key : out0_9 x0 x1 x2 x3 x4 x5 x6 = fun y : S1x8x1024x128.Idx => valueOf x1 x6 y := by
    rw [out9_eq]
    funext y
    canon_tiles x h
    all_goals first
    | (with_reducible refine value_piece x6 x y ?_ (lat0 x1) _ ?_ ?_) <;> omega
    | (with_reducible refine value_piece x6 x y ?_ (lat1 x1) _ ?_ ?_) <;> omega
    | (with_reducible refine value_piece x6 x y ?_ (lat2 x1) _ ?_ ?_) <;> omega
    | (with_reducible refine value_piece x6 x y ?_ (lat3 x1) _ ?_ ?_) <;> omega
  exact congrFun key y

end Cert.Proof.Up

end
-- ==== Proof.Up.Ref.lean ====
/- The latent up-projection's three reference results over the arguments, and what each one is at an index. -/
module

public import proofs.«01_k».proof.Proof.Gen.Reference5Ideal.Run
public import proofs.«01_k».proof.Proof.Inproj.Ref
public import proofs.«01_k».proof.Proof.Up.Read

@[expose] public section

set_option maxRecDepth 16384

noncomputable section

namespace Cert.Proof.Up.Ref

open Idealize.ShloMosaic Idealize.ShloMosaic.TcCoe
open Cert.Reference5Ideal Cert.Reference5Ideal.Gen
open Cert.Proof.Inproj Cert.Proof.Inproj.Ref

/-- The query latents times their weights. -/
def prodQ (X : FVec Ideal S4x4096x512 .f32) (W : FVec Ideal S1x512x1536 .f32) : FVec Ideal S4x4096x1536 .f32 :=
  Host.dotGeneral (φ₁ := .f32) (φ₂ := .f32) dot_S4x4096x512_S512x1536_S4x4096x1536_2_0_01_1_n_n none X (shapeCast S512x1536 W shapeCasts_S1x512x1536_S512x1536)

/-- The key-value latents times their weights. -/
def prodK (X : FVec Ideal S4x4096x512 .f32) (W : FVec Ideal S1x512x2048 .f32) : FVec Ideal S4x4096x2048 .f32 :=
  Host.dotGeneral (φ₁ := .f32) (φ₂ := .f32) dot_S4x4096x512_S512x2048_S4x4096x2048_2_0_01_1_n_n none X (shapeCast S512x2048 W shapeCasts_S1x512x2048_S512x2048)

/-- Eight query heads of 192 lanes. -/
def headsQ (P : FVec Ideal S4x4096x1536 .f32) : FVec Ideal S4x4096x8x192 .f32 := shapeCast S4x4096x8x192 P shapeCasts_S4x4096x1536_S4x4096x8x192

/-- Eight key-value heads of 256 lanes. -/
def headsK (P : FVec Ideal S4x4096x2048 .f32) : FVec Ideal S4x4096x8x256 .f32 := shapeCast S4x4096x8x256 P shapeCasts_S4x4096x2048_S4x4096x8x256

/-- A table of 32 lanes for every head. -/
def everyHead (c : FVec Ideal S4x4096x32 .f32) : FVec Ideal S4x4096x8x32 .f32 :=
  broadcastInDim S4x4096x8x32 ![0, 1, 2, 3] bcast_S4x4096x1x32_S4x4096x8x32_0_1_2_3 (broadcastInDim S4x4096x1x32 ![0, 1, 3] bcast_S4x4096x32_S4x4096x1x32_0_1_3 c)

/-- The rotation of every head's 64 lanes. -/
def rotQ (Z : FVec Ideal S4x4096x8x64 .f32) (T : IVec S4x4096 32) : FVec Ideal S4x4096x8x64 .f32 :=
  concatenate S4x4096x8x64 3 [
    ⟨S4x4096x8x32, (subf (mulf (extractStridedSlice S4x4096x8x32 ![0, 0, 0, 0] Z slices_S4x4096x8x64_S4x4096x8x32_0_0_0_0) (everyHead (Host.cos (ang32 T))))
      (mulf (extractStridedSlice S4x4096x8x32 ![0, 0, 0, 32] Z slices_S4x4096x8x64_S4x4096x8x32_0_0_0_32) (everyHead (Host.sin (ang32 T)))) : FVec Ideal S4x4096x8x32 .f32)⟩,
    ⟨S4x4096x8x32, (addf (mulf (extractStridedSlice S4x4096x8x32 ![0, 0, 0, 32] Z slices_S4x4096x8x64_S4x4096x8x32_0_0_0_32) (everyHead (Host.cos (ang32 T))))
      (mulf (extractStridedSlice S4x4096x8x32 ![0, 0, 0, 0] Z slices_S4x4096x8x64_S4x4096x8x32_0_0_0_0) (everyHead (Host.sin (ang32 T)))) : FVec Ideal S4x4096x8x32 .f32)⟩,
    ⟨S4x4096x8x0, (extractStridedSlice S4x4096x8x0 ![0, 0, 0, 64] Z slices_S4x4096x8x64_S4x4096x8x0_0_0_0_64 : FVec Ideal S4x4096x8x0 .f32)⟩]
    concatenates_S4x4096x8x32_S4x4096x8x32_S4x4096x8x0_S4x4096x8x64_d3

/-- 192 lanes padded to 256 with zeros, heads before tokens, in the narrow format. -/
def laid (Z : FVec Ideal S4x4096x8x192 .f32) : FVec Ideal S4x8x4096x256 .bf16 :=
  truncf .bf16 (transpose S4x8x4096x256 [0, 2, 1, 3] (pad S4x4096x8x256 ![0, 0, 0, 0] ![0, 0, 0, 64] ![0, 0, 0, 0] Z (sitofp .f32 (constantI S_ 32 0#32))
    pads_S4x4096x8x192_S4x4096x8x256_000_000_000_0640 h_S_) transposes_S4x4096x8x256_S4x8x4096x256_0_2_1_3) bitsLt_bf16_f32

/-- The lanes that carry no position, then the 64 others. -/
def joined (Z : FVec Ideal S4x4096x8x128 .f32) (R : FVec Ideal S4x4096x8x64 .f32) : FVec Ideal S4x4096x8x192 .f32 :=
  concatenate S4x4096x8x192 3 [⟨S4x4096x8x128, Z⟩, ⟨S4x4096x8x64, R⟩] concatenates_S4x4096x8x128_S4x4096x8x64_S4x4096x8x192_d3

/-- A query head's rotary lanes. -/
def lastQ (P : FVec Ideal S4x4096x1536 .f32) : FVec Ideal S4x4096x8x64 .f32 :=
  extractStridedSlice S4x4096x8x64 ![0, 0, 0, 128] (headsQ P) slices_S4x4096x8x192_S4x4096x8x64_0_0_0_128

/-- The queries: the last 64 lanes rotated, all times one constant. -/
def refQ (P : FVec Ideal S4x4096x1536 .f32) (T : IVec S4x4096 32) : FVec Ideal S4x8x4096x256 .bf16 :=
  laid (mulf (joined (extractStridedSlice S4x4096x8x128 ![0, 0, 0, 0] (headsQ P) slices_S4x4096x8x192_S4x4096x8x128_0_0_0_0) (rotQ (lastQ P) T))
    (broadcastInDim S4x4096x8x192 ![] bcast_S_S4x4096x8x192 (constant S_ .f32 0x3DD53B95#32)))

/-- The keys: each head's own 128 lanes, then the shared rotary key. -/
def refK (P : FVec Ideal S4x4096x2048 .f32) (R : FVec Ideal S4x4096x64 .f32) : FVec Ideal S4x8x4096x256 .bf16 :=
  laid (joined (extractStridedSlice S4x4096x8x128 ![0, 0, 0, 0] (headsK P) slices_S4x4096x8x256_S4x4096x8x128_0_0_0_0)
    (broadcastInDim S4x4096x8x64 ![0, 1, 2, 3] bcast_S4x4096x1x64_S4x4096x8x64_0_1_2_3 (broadcastInDim S4x4096x1x64 ![0, 1, 3] bcast_S4x4096x64_S4x4096x1x64_0_1_3 R)))

/-- The values. -/
def refV (P : FVec Ideal S4x4096x2048 .f32) : FVec Ideal S4x8x4096x128 .bf16 :=
  truncf .bf16 (transpose S4x8x4096x128 [0, 2, 1, 3] (extractStridedSlice S4x4096x8x128 ![0, 0, 0, 128] (headsK P) slices_S4x4096x8x256_S4x4096x8x128_0_0_0_128)
    transposes_S4x4096x8x128_S4x8x4096x128_0_2_1_3) bitsLt_bf16_f32

variable (b : Fin 4) (s : Fin 4096) (h : Fin 8)

theorem prodQ_at (X : FVec Ideal S4x4096x512 .f32) (W : FVec Ideal S1x512x1536 .f32) (d : Fin 1536) :
    prodQ X W (ix3 b s d) = ∑ k, X (ix3 b s k) * W (ix3 0 k d) := by
  pointwise [prodQ]

theorem prodK_at (X : FVec Ideal S4x4096x512 .f32) (W : FVec Ideal S1x512x2048 .f32) (d : Fin 2048) :
    prodK X W (ix3 b s d) = ∑ k, X (ix3 b s k) * W (ix3 0 k d) := by
  pointwise [prodK]

theorem everyHead_at (c : FVec Ideal S4x4096x32 .f32) (k : Fin 32) : everyHead c (ix4 b s h k) = c (ix3 b s k) := by
  pointwise [everyHead]

section
variable (T : IVec S4x4096 32)

theorem cosEvery (k : Fin 32) : everyHead (Host.cos (ang32 T)) (ix4 b s h k) = Ideal.cos (place T (ix2 b s) * q32 k.val) := by
  rw [everyHead_at, ← ang32_at]
  rfl

theorem sinEvery (k : Fin 32) : everyHead (Host.sin (ang32 T)) (ix4 b s h k) = Ideal.sin (place T (ix2 b s) * q32 k.val) := by
  rw [everyHead_at, ← ang32_at]
  rfl

theorem rotQ_raw (Z : FVec Ideal S4x4096x8x64 .f32) (l : Fin 64) : rotQ Z T (ix4 b s h l)
    = if h1 : l.val < 32 then Z (ix4 b s h l) * everyHead (Host.cos (ang32 T)) (ix4 b s h ⟨l.val, h1⟩) - Z (ix4 b s h ⟨32 + l.val, by omega⟩) * everyHead (Host.sin (ang32 T)) (ix4 b s h ⟨l.val, h1⟩)
      else Z (ix4 b s h ⟨32 + (l.val - 32), by omega⟩) * everyHead (Host.cos (ang32 T)) (ix4 b s h ⟨l.val - 32, by omega⟩)
        + Z (ix4 b s h ⟨l.val - 32, by omega⟩) * everyHead (Host.sin (ang32 T)) (ix4 b s h ⟨l.val - 32, by omega⟩) := by
  pointwise [rotQ]
  have hl : l.val - 32 < 32 := by omega
  simp only [dif_pos hl]

theorem rotQ_at (Z : FVec Ideal S4x4096x8x64 .f32) (l : Fin 64) (z : ℕ → EReal) (hz : ∀ l, Z (ix4 b s h l) = z l.val) :
    rotQ Z T (ix4 b s h l) = turned 32 z (fun k => place T (ix2 b s) * q32 k) l := by
  rw [rotQ_raw]
  unfold turned
  by_cases h1 : l.val < 32
  · rw [dif_pos h1, if_pos h1, hz, hz, cosEvery, sinEvery]
  · have h2 : l.val - 32 < 32 := by omega
    rw [dif_neg h1, if_neg h1, if_pos h2, hz, hz, cosEvery, sinEvery]
    have e : 32 + (l.val - 32) = l.val := by omega
    simp only [e]
end

theorem laid_raw (Z : FVec Ideal S4x4096x8x192 .f32) (l : Fin 256) : laid Z (ix4 b h s l) = if h1 : l.val < 192 then Z (ix4 b s h ⟨l.val, h1⟩) else 0 := by
  pointwise [laid]
  simp only [Inproj.sitofp_zero]

theorem joined_raw (Z : FVec Ideal S4x4096x8x128 .f32) (R : FVec Ideal S4x4096x8x64 .f32) (l : Fin 192) :
    joined Z R (ix4 b s h l) = if h1 : l.val < 128 then Z (ix4 b s h ⟨l.val, h1⟩) else R (ix4 b s h ⟨l.val - 128, by omega⟩) := by
  pointwise [joined]

theorem scale_at (Z : FVec Ideal S4x4096x8x192 .f32) (l : Fin 192) : (mulf Z (broadcastInDim S4x4096x8x192 ![] bcast_S_S4x4096x8x192 (constant S_ .f32 0x3DD53B95#32)) :
    FVec Ideal S4x4096x8x192 .f32) (ix4 b s h l) = Z (ix4 b s h l) * Ideal.ofBits FTy.f32 0x3DD53B95#32 := by
  pointwise

theorem firstQ_at (P : FVec Ideal S4x4096x1536 .f32) (l : Fin 128) :
    extractStridedSlice S4x4096x8x128 ![0, 0, 0, 0] (headsQ P) slices_S4x4096x8x192_S4x4096x8x128_0_0_0_0 (ix4 b s h l) = P (ix3 b s ⟨h.val * 192 + l.val, by omega⟩) := by
  pointwise [headsQ]

theorem lastQ_at (P : FVec Ideal S4x4096x1536 .f32) (l : Fin 64) : lastQ P (ix4 b s h l) = P (ix3 b s ⟨h.val * 192 + (128 + l.val), by omega⟩) := by
  pointwise [lastQ, headsQ]

theorem firstK_at (P : FVec Ideal S4x4096x2048 .f32) (l : Fin 128) :
    extractStridedSlice S4x4096x8x128 ![0, 0, 0, 0] (headsK P) slices_S4x4096x8x256_S4x4096x8x128_0_0_0_0 (ix4 b s h l) = P (ix3 b s ⟨h.val * 256 + l.val, by omega⟩) := by
  pointwise [headsK]

theorem shared_at (R : FVec Ideal S4x4096x64 .f32) (l : Fin 64) : (broadcastInDim S4x4096x8x64 ![0, 1, 2, 3] bcast_S4x4096x1x64_S4x4096x8x64_0_1_2_3
    (broadcastInDim S4x4096x1x64 ![0, 1, 3] bcast_S4x4096x64_S4x4096x1x64_0_1_3 R) : FVec Ideal S4x4096x8x64 .f32) (ix4 b s h l) = R (ix3 b s l) := by
  pointwise

/-- The rotation leaves the lanes that hold nothing at zero. -/
theorem turned_empty (C a : ℕ → EReal) (o : ℕ) {l : ℕ} (hl : 64 ≤ l) : turned 32 (widened C o) a l = 0 := by
  unfold turned widened
  rw [if_neg (by omega), if_neg (by omega), if_neg (by omega)]

section
variable {P : FVec Ideal S4x4096x1536 .f32} {C : ℕ → EReal} (hP : ∀ d, P (ix3 b s d) = C d.val) (T : IVec S4x4096 32)
include hP

theorem refQ_at (l : Fin 256) : refQ P T (ix4 b h s l) = qEntry C (fun k => place T (ix2 b s) * q32 k) h.val l.val := by
  unfold refQ
  rw [laid_raw]
  unfold qEntry
  by_cases h1 : l.val < 192
  · rw [dif_pos h1, scale_at, joined_raw]
    refine congrArg (· * _) ?_
    by_cases h2 : l.val < 128
    · rw [dif_pos h2, if_pos h2, firstQ_at, hP]
      exact congrArg C (by show h.val * 192 + l.val = 192 * h.val + l.val; omega)
    · rw [dif_neg h2, if_neg h2]
      refine (rotQ_at b s h T (lastQ P) ⟨l.val - 128, by omega⟩ (widened C (192 * h.val + 128)) fun l => ?_).trans rfl
      unfold widened
      rw [lastQ_at, hP, if_pos l.isLt]
      exact congrArg C (by show h.val * 192 + (128 + l.val) = 192 * h.val + 128 + l.val; omega)
  · rw [dif_neg h1, if_neg (by omega), turned_empty C _ _ (by omega), zero_mul]
end

section
variable {P : FVec Ideal S4x4096x2048 .f32} {D : ℕ → EReal} (hP : ∀ d, P (ix3 b s d) = D d.val)
include hP

theorem refK_at (R : FVec Ideal S4x4096x64 .f32) {z : ℕ → EReal} (hz : ∀ l, z l = if g : l < 64 then R (ix3 b s ⟨l, g⟩) else 0) (l : Fin 256) :
    refK P R (ix4 b h s l) = kEntry D z h.val l.val := by
  unfold refK
  rw [laid_raw]
  unfold kEntry
  by_cases h1 : l.val < 192
  · rw [dif_pos h1, joined_raw]
    by_cases h2 : l.val < 128
    · rw [dif_pos h2, if_pos h2, firstK_at, hP]
      exact congrArg D (by show h.val * 256 + l.val = 256 * h.val + l.val; omega)
    · rw [dif_neg h2, if_neg h2, shared_at, hz, dif_pos (by omega)]
  · rw [dif_neg h1, if_neg (by omega), hz, dif_neg (by omega)]

theorem refV_at (l : Fin 128) : refV P (ix4 b h s l) = D (256 * h.val + 128 + l.val) := by
  have e : refV P (ix4 b h s l) = P (ix3 b s ⟨h.val * 256 + (128 + l.val), by omega⟩) := by pointwise [refV, headsK]
  rw [e, hP]
  exact congrArg D (by show h.val * 256 + (128 + l.val) = 256 * h.val + 128 + l.val; omega)
end

end Cert.Proof.Up.Ref

end
-- ==== Proof.Up.Host.lean ====
/- The latent up-projection's operands as the region finds them, and what a point's blocks hold of the arguments. -/
module

public import proofs.«01_k».proof.Proof.Up.Block
public import proofs.«01_k».proof.Proof.Up.Ref
public import proofs.«01_k».proof.Proof.Inproj.Host

@[expose] public section

set_option maxRecDepth 16384

noncomputable section

namespace Cert.Proof.Up

open Idealize.ShloMosaic Idealize.ShloMosaic.TcCoe
open Cert.Kernel5Ideal Cert.Kernel5Ideal.Gen
open Cert.Proof.Inproj (lanes sign byNumber table32 flatT table32_at flatT_at select_lane neg_one_bits)

variable (m : (ℓ : Loc nD τ sig) → Buf (Elt Ideal) ℓ)

/-- Which block each point reads: 1024 rows from `t * 1024` on, and the whole of the weights. -/
theorem idxIn : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ t.val < 16 :=
  (by decide +kernel : ∀ t : Fin grid0.N, _)

/-- Which block each point writes: batch `t / 4` and its rows from `t % 4 * 1024` on. -/
theorem idxOut : ∀ t : Fin cfg0.N, win0_7.index t = ![t.val / 4, 0, t.val % 4, 0] ∧ win0_8.index t = ![t.val / 4, 0, t.val % 4, 0]
    ∧ win0_9.index t = ![t.val / 4, 0, t.val % 4, 0] :=
  (by decide +kernel : ∀ t : Fin grid0.N, _)

/-! ## The operands -/

/-- Latents flattened, in the narrow format. -/
def flatC (X : FVec Ideal S4x4096x512 .f32) : FVec Ideal S16384x512 .bf16 :=
  truncf .bf16 (shapeCast S16384x512 X shapeCasts_S4x4096x512_S16384x512) bitsLt_bf16_f32

/-- The rotary key flattened and padded to 128 lanes with zeros, in the narrow format. -/
def flatR (R : FVec Ideal S4x4096x64 .f32) : FVec Ideal S16384x128 .bf16 :=
  truncf .bf16 (pad S16384x128 ![0, 0] ![0, 64] ![0, 0] (shapeCast S16384x64 R shapeCasts_S4x4096x64_S16384x64) (sitofp .f32 (constantI S_ 32 0#32))
    pads_S16384x64_S16384x128_000_0640 h_S_) bitsLt_bf16_f32

/-- The query weights, in the narrow format. -/
def flatQ (W : FVec Ideal S1x512x1536 .f32) : FVec Ideal S512x1536 .bf16 :=
  truncf .bf16 (shapeCast S512x1536 W shapeCasts_S1x512x1536_S512x1536) bitsLt_bf16_f32

/-- The key-value weights, in the narrow format. -/
def flatK (W : FVec Ideal S1x512x2048 .f32) : FVec Ideal S512x2048 .bf16 :=
  truncf .bf16 (shapeCast S512x2048 W shapeCasts_S1x512x2048_S512x2048) bitsLt_bf16_f32

/-- Every position times every lane's frequency. -/
def angles (T : IVec S4x4096 32) (q : FVec Ideal S32 .f32) : FVec Ideal S16384x128 .f32 :=
  mulf (broadcastInDim S16384x128 ![0, 1] bcast_S16384x1_S16384x128_0_1 (flatT T)) (broadcastInDim S16384x128 ![0, 1] bcast_S1x128_S16384x128_0_1 (table32 q))

/-- The lanes' signs. -/
def signs : FVec Ideal S128 .f32 :=
  select (cmpi .slt (iotaInDim S128 32 0) (broadcastInDim S128 ![] bcast_S_S128 (constantI S_ 32 32#32)))
    (broadcastInDim S128 ![] bcast_S_S128 (constant S_ .f32 0xBF800000#32) : FVec Ideal S128 .f32) (broadcastInDim S128 ![] bcast_S_S128 (constant S_ .f32 0x3F800000#32))

/-- The cosine table. -/
def cosTable (T : IVec S4x4096 32) (q : FVec Ideal S32 .f32) : FVec Ideal S16384x128 .f32 := Host.cos (angles T q)

/-- The signed sine table. -/
def sinTable (T : IVec S4x4096 32) (q : FVec Ideal S32 .f32) : FVec Ideal S16384x128 .f32 :=
  mulf (Host.sin (angles T q)) (broadcastInDim S16384x128 ![0, 1] bcast_S1x128_S16384x128_0_1 (broadcastInDim S1x128 ![1] bcast_S128_S1x128_1 signs))

theorem V_cq (c : Dev nD) : V m c main_v27 = flatC (m ((c : Thread nD τ).loc main_arg0)) := by
  unfold flatC
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.ternary, StableHlo.TRef.toBuf, StableHlo.TRef.ofBuf, cast_eq]
  after_results_simp <;> rfl

theorem V_ckv (c : Dev nD) : V m c main_v29 = flatC (m ((c : Thread nD τ).loc main_arg1)) := by
  unfold flatC
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.ternary, StableHlo.TRef.toBuf, StableHlo.TRef.ofBuf, cast_eq]
  after_results_simp <;> rfl

theorem V_r (c : Dev nD) : V m c main_v25 = flatR (m ((c : Thread nD τ).loc main_arg2)) := by
  unfold flatR
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.ternary, StableHlo.TRef.toBuf, StableHlo.TRef.ofBuf, cast_eq]
  after_results_simp <;> rfl

theorem V_cos (c : Dev nD) : V m c main_v30 = cosTable (m ((c : Thread nD τ).loc main_arg3)) Inproj.Ref.freq32 := by
  unfold cosTable angles flatT table32 Inproj.Ref.freq32
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.ternary, StableHlo.TRef.toBuf, StableHlo.TRef.ofBuf, cast_eq]
  after_results_simp <;> rfl

theorem V_sin (c : Dev nD) : V m c main_v34 = sinTable (m ((c : Thread nD τ).loc main_arg3)) Inproj.Ref.freq32 := by
  unfold sinTable angles signs flatT table32 Inproj.Ref.freq32
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.ternary, StableHlo.TRef.toBuf, StableHlo.TRef.ofBuf, cast_eq]
  after_results_simp <;> rfl

theorem V_wq (c : Dev nD) : V m c main_v36 = flatQ (m ((c : Thread nD τ).loc main_arg4)) := by
  unfold flatQ
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.ternary, StableHlo.TRef.toBuf, StableHlo.TRef.ofBuf, cast_eq]
  after_results_simp <;> rfl

theorem V_wk (c : Dev nD) : V m c main_v38 = flatK (m ((c : Thread nD τ).loc main_arg5)) := by
  unfold flatK
  simp only [V, hostOps0, hostOps0_1, hostOps0_2, hostOps0_3, hostOps0_4, List.flatten_cons, List.flatten_nil, List.append_nil, List.cons_append,
    List.nil_append, StableHlo.after_cons, StableHlo.after_nil, StableHlo.TRef.unary, StableHlo.TRef.binary, StableHlo.TRef.ternary, StableHlo.TRef.toBuf, StableHlo.TRef.ofBuf, cast_eq]
  after_results_simp <;> rfl

/-- A flattened row's batch. -/
def batch (r : Fin 16384) : Fin 4 := ⟨r.val / 4096, by omega⟩

/-- A flattened row's place in its batch. -/
def place (r : Fin 16384) : Fin 4096 := ⟨r.val % 4096, by omega⟩

theorem flatC_at (X : FVec Ideal S4x4096x512 .f32) (r : Fin 16384) (k : Fin 512) : flatC X (ix2 r k) = X (ix3 (batch r) (place r) k) := by
  pointwise [flatC, batch, place]

theorem flatQ_at (W : FVec Ideal S1x512x1536 .f32) (k : Fin 512) (d : Fin 1536) : flatQ W (ix2 k d) = W (ix3 0 k d) := by
  pointwise [flatQ]

theorem flatK_at (W : FVec Ideal S1x512x2048 .f32) (k : Fin 512) (d : Fin 2048) : flatK W (ix2 k d) = W (ix3 0 k d) := by
  pointwise [flatK]

theorem flatR_at (R : FVec Ideal S4x4096x64 .f32) (r : Fin 16384) (l : Fin 128) :
    flatR R (ix2 r l) = if h : l.val < 64 then R (ix3 (batch r) (place r) ⟨l.val, h⟩) else 0 := by
  pointwise [flatR, batch, place]
  simp only [Inproj.sitofp_zero]

theorem angles_at (T : IVec S4x4096 32) (r : Fin 16384) (l : Fin 128) :
    angles T Inproj.Ref.freq32 (ix2 r l) = Inproj.Ref.place T (ix2 (batch r) (place r)) * lanes 32 Inproj.Ref.q32 l.val := by
  have e : angles T Inproj.Ref.freq32 (ix2 r l) = flatT T (ix2 r 0) * table32 Inproj.Ref.freq32 (ix2 0 l) := by pointwise [angles]
  rw [e, table32_at, flatT_at, batch, place]

theorem signs_at (l : Fin 128) : signs (ix1 l) = sign 32 l.val := by
  pointwise [signs]
  refine (select_lane l 32 (by omega) _ _).trans ?_
  rw [neg_one_bits, sign]

theorem cosTable_at (T : IVec S4x4096 32) (r : Fin 16384) (l : Fin 128) :
    cosTable T Inproj.Ref.freq32 (ix2 r l) = Ideal.cos (Inproj.Ref.place T (ix2 (batch r) (place r)) * lanes 32 Inproj.Ref.q32 l.val) :=
  congrArg Ideal.cos (angles_at T r l)

theorem sinTable_at (T : IVec S4x4096 32) (r : Fin 16384) (l : Fin 128) :
    sinTable T Inproj.Ref.freq32 (ix2 r l) = Ideal.sin (Inproj.Ref.place T (ix2 (batch r) (place r)) * lanes 32 Inproj.Ref.q32 l.val) * sign 32 l.val := by
  have e : sinTable T Inproj.Ref.freq32 (ix2 r l) = Ideal.sin (angles T Inproj.Ref.freq32 (ix2 r l)) * signs (ix1 l) := by pointwise [sinTable]
  rw [e, angles_at, signs_at]

/-! ## The blocks -/

section
variable (c : Dev nD) (t : Fin cfg0.N)

/-- The flattened row under a block's row. -/
def tok (i : Fin 1024) : Fin 16384 := ⟨t.val * 1024 + i.val, by have := (idxIn t).2.2.2.2.2.2.2; omega⟩

theorem wq_at (k : Fin 512) (d : Fin 1536) : iblk m c 5 t (ix2 k d) = m ((c : Thread nD τ).loc main_arg4) (ix3 0 k d) := by
  refine Eq.trans ?_ (flatQ_at _ k d)
  rw [← V_wq m c]
  blk_point [iblk, idxIn t]

theorem wk_at (k : Fin 512) (d : Fin 2048) : iblk m c 6 t (ix2 k d) = m ((c : Thread nD τ).loc main_arg5) (ix3 0 k d) := by
  refine Eq.trans ?_ (flatK_at _ k d)
  rw [← V_wk m c]
  blk_point [iblk, idxIn t]

variable (i : Fin 1024)

theorem cq_at (k : Fin 512) : iblk m c 0 t (ix2 i k) = m ((c : Thread nD τ).loc main_arg0) (ix3 (batch (tok t i)) (place (tok t i)) k) := by
  refine Eq.trans ?_ (flatC_at _ (tok t i) k)
  rw [← V_cq m c]
  unfold tok
  blk_point [iblk, idxIn t]

theorem ckv_at (k : Fin 512) : iblk m c 1 t (ix2 i k) = m ((c : Thread nD τ).loc main_arg1) (ix3 (batch (tok t i)) (place (tok t i)) k) := by
  refine Eq.trans ?_ (flatC_at _ (tok t i) k)
  rw [← V_ckv m c]
  unfold tok
  blk_point [iblk, idxIn t]

theorem r_at (l : Fin 128) : key (iblk m c 2 t) i l
    = if h : l.val < 64 then m ((c : Thread nD τ).loc main_arg2) (ix3 (batch (tok t i)) (place (tok t i)) ⟨l.val, h⟩) else (0 : EReal) := by
  refine Eq.trans ?_ (flatR_at _ (tok t i) l)
  rw [← V_r m c]
  unfold tok key
  blk_point [iblk, idxIn t]

/-- The position of a block's row. -/
def pos : EReal := Inproj.Ref.place (m ((c : Thread nD τ).loc main_arg3)) (ix2 (batch (tok t i)) (place (tok t i)))

theorem cos_at (l : Fin 128) : iblk m c 3 t (ix2 i l) = Ideal.cos (pos m c t i * lanes 32 Inproj.Ref.q32 l.val) := by
  refine Eq.trans ?_ (cosTable_at _ (tok t i) l)
  rw [← V_cos m c]
  unfold tok
  blk_point [iblk, idxIn t]

theorem sin_at (l : Fin 128) : iblk m c 4 t (ix2 i l) = Ideal.sin (pos m c t i * lanes 32 Inproj.Ref.q32 l.val) * sign 32 l.val := by
  refine Eq.trans ?_ (sinTable_at _ (tok t i) l)
  rw [← V_sin m c]
  unfold tok
  blk_point [iblk, idxIn t]

/-- A row's query columns are the reference's product of its token. -/
theorem prodQ_block (d : Fin 1536) : Ref.prodQ (m ((c : Thread nD τ).loc main_arg0)) (m ((c : Thread nD τ).loc main_arg4)) (ix3 (batch (tok t i)) (place (tok t i)) d)
    = colsQ (iblk m c 0 t) (iblk m c 5 t) i d.val := by
  unfold colsQ
  rw [Ref.prodQ_at, prods_at _ _ d rfl]
  simp only [cq_at m c t i, wq_at m c t]

/-- A row's key-value columns are the reference's product of its token. -/
theorem prodK_block (d : Fin 2048) : Ref.prodK (m ((c : Thread nD τ).loc main_arg1)) (m ((c : Thread nD τ).loc main_arg5)) (ix3 (batch (tok t i)) (place (tok t i)) d)
    = colsK (iblk m c 1 t) (iblk m c 6 t) i d.val := by
  unfold colsK
  rw [Ref.prodK_at, prods_at _ _ d rfl]
  simp only [ckv_at m c t i, wk_at m c t]

end

end Cert.Proof.Up

end
-- ==== Proof.Up.Final.lean ====
/- The latent up-projection's three results: each array after the run is the reference's. -/
module

public import proofs.«01_k».proof.Defs
public import proofs.«01_k».proof.Proof.Up.Host
public import Idealize.ShloMosaic.Lib.Claim

@[expose] public section

set_option maxRecDepth 16384

noncomputable section

namespace Cert.Proof.Up

open Idealize.ShloMosaic Idealize.ShloMosaic.TcCoe Idealize.SL.Sem
open Cert.Kernel5Ideal Cert.Kernel5Ideal.Gen
open Cert.Proof.Inproj (byNumber byNumber_at)

variable (m : (ℓ : Loc nD τ sig) → Buf (Elt Ideal) ℓ) (c : Dev nD)

/-- The reference's query product over the program's arguments. -/
abbrev PQ : FVec Ideal Cert.Reference5Ideal.S4x4096x1536 .f32 := Ref.prodQ (m ((c : Thread nD τ).loc main_arg0)) (m ((c : Thread nD τ).loc main_arg4))

/-- The reference's key-value product over the program's arguments. -/
abbrev PK : FVec Ideal Cert.Reference5Ideal.S4x4096x2048 .f32 := Ref.prodK (m ((c : Thread nD τ).loc main_arg1)) (m ((c : Thread nD τ).loc main_arg5))

/-- The rotary key. -/
abbrev R : FVec Ideal S4x4096x64 .f32 := m ((c : Thread nD τ).loc main_arg2)

/-- The positions. -/
abbrev T : IVec S4x4096 32 := m ((c : Thread nD τ).loc main_arg3)

/-! ## The places of a point's blocks -/

section
variable (t : Fin cfg0.N)

/-- The element under a block's. -/
def under {N : ℕ} (h : Fin 8) (i : Fin 1024) (l : Fin N) : (⟨4, ![4, 8, 4096, N]⟩ : Shape).Idx := ix4 (batch (tok t i)) h (place (tok t i)) l

theorem under_of {N : ℕ} {B : Fin 4} {H h : Fin 8} {S : Fin 4096} {i : Fin 1024} {L l : Fin N} (h0 : B.val = t.val / 4) (h1 : H.val = h.val)
    (h2 : S.val = t.val % 4 * 1024 + i.val) (h3 : L.val = l.val) : (ix4 B H S L : (⟨4, ![4, 8, 4096, N]⟩ : Shape).Idx) = under t h i l := by
  obtain rfl : H = h := Fin.ext h1
  obtain rfl : L = l := Fin.ext h3
  have e0 : B = batch (tok t i) := Fin.ext (by change B.val = (t.val * 1024 + i.val) / 4096; omega)
  have e2 : S = place (tok t i) := Fin.ext (by change S.val = (t.val * 1024 + i.val) % 4096; omega)
  rw [e0, e2, under]

theorem emb7 (a : Fin 1) (h : Fin 8) (i : Fin 1024) (l : Fin 256) : ((cfg0.win 7).blk t).view.emb (ix4 a h i l) = under t h i l := by
  obtain ⟨B, H, S, L, hR⟩ : ∃ (B : Fin 4) (H : Fin 8) (S : Fin 4096) (L : Fin 256), ((cfg0.win 7).blk t).view.emb (ix4 a h i l) = ix4 B H S L :=
    ⟨_, _, _, _, eq_ix4 _⟩
  have h0 := congrArg (fun i : S4x8x4096x256.Idx => (i 0 : ℕ)) hR
  have h1 := congrArg (fun i : S4x8x4096x256.Idx => (i 1 : ℕ)) hR
  have h2 := congrArg (fun i : S4x8x4096x256.Idx => (i 2 : ℕ)) hR
  have h3 := congrArg (fun i : S4x8x4096x256.Idx => (i 3 : ℕ)) hR
  blk_simp [idxOut t] at h0 h1 h2 h3
  rw [hR]
  refine under_of t ?_ ?_ ?_ ?_ <;> omega

theorem emb8 (a : Fin 1) (h : Fin 8) (i : Fin 1024) (l : Fin 256) : ((cfg0.win 8).blk t).view.emb (ix4 a h i l) = under t h i l := by
  obtain ⟨B, H, S, L, hR⟩ : ∃ (B : Fin 4) (H : Fin 8) (S : Fin 4096) (L : Fin 256), ((cfg0.win 8).blk t).view.emb (ix4 a h i l) = ix4 B H S L :=
    ⟨_, _, _, _, eq_ix4 _⟩
  have h0 := congrArg (fun i : S4x8x4096x256.Idx => (i 0 : ℕ)) hR
  have h1 := congrArg (fun i : S4x8x4096x256.Idx => (i 1 : ℕ)) hR
  have h2 := congrArg (fun i : S4x8x4096x256.Idx => (i 2 : ℕ)) hR
  have h3 := congrArg (fun i : S4x8x4096x256.Idx => (i 3 : ℕ)) hR
  blk_simp [idxOut t] at h0 h1 h2 h3
  rw [hR]
  refine under_of t ?_ ?_ ?_ ?_ <;> omega

theorem emb9 (a : Fin 1) (h : Fin 8) (i : Fin 1024) (l : Fin 128) : ((cfg0.win 9).blk t).view.emb (ix4 a h i l) = under t h i l := by
  obtain ⟨B, H, S, L, hR⟩ : ∃ (B : Fin 4) (H : Fin 8) (S : Fin 4096) (L : Fin 128), ((cfg0.win 9).blk t).view.emb (ix4 a h i l) = ix4 B H S L :=
    ⟨_, _, _, _, eq_ix4 _⟩
  have h0 := congrArg (fun i : S4x8x4096x128.Idx => (i 0 : ℕ)) hR
  have h1 := congrArg (fun i : S4x8x4096x128.Idx => (i 1 : ℕ)) hR
  have h2 := congrArg (fun i : S4x8x4096x128.Idx => (i 2 : ℕ)) hR
  have h3 := congrArg (fun i : S4x8x4096x128.Idx => (i 3 : ℕ)) hR
  blk_simp [idxOut t] at h0 h1 h2 h3
  rw [hR]
  refine under_of t ?_ ?_ ?_ ?_ <;> omega

end

/-! ## The blocks against the reference -/

/-- The rotary key's row by number. -/
theorem key_row (t : Fin cfg0.N) (i : Fin 1024) (l : ℕ) : byNumber (fun l => key (iblk m c 2 t) i l) l
    = if g : l < 64 then R m c (ix3 (batch (tok t i)) (place (tok t i)) ⟨l, g⟩) else (0 : EReal) := by
  by_cases h : l < 128
  · exact (byNumber_at (fun l => key (iblk m c 2 t) i l) ⟨l, h⟩ rfl).trans (r_at m c t i ⟨l, h⟩)
  · unfold byNumber
    rw [dif_neg h, dif_neg (by omega)]

theorem point7 (t : Fin cfg0.N) (y : S1x8x1024x256.Idx) :
    out0_7 (iblk m c 0 t) (iblk m c 1 t) (iblk m c 2 t) (iblk m c 3 t) (iblk m c 4 t) (iblk m c 5 t) (iblk m c 6 t) y
      = Ref.refQ (PQ m c) (T m c) (((cfg0.win 7).blk t).view.emb y) := by
  obtain ⟨a, h, i, l, rfl⟩ : ∃ (a : Fin 1) (h : Fin 8) (i : Fin 1024) (l : Fin 256), y = ix4 a h i l := ⟨_, _, _, _, eq_ix4 _⟩
  refine (query_block _ _ _ _ _ _ _ (cos_at m c t) (sin_at m c t) _).trans ?_
  rw [emb7]
  exact (Ref.refQ_at _ _ h (fun d => prodQ_block m c t i d) (T m c) l).symm

theorem final7 : (dats m 0 c).arrAt 7 cfg0.N = Ref.refQ (PQ m c) (T m c) := by
  refine (dats m 0 c).arrAt_eq_of_covers 7 _ (by decide +kernel) fun t hf y => ?_
  blk_simp
  rw [after0_7]
  exact point7 m c t y

theorem point8 (t : Fin cfg0.N) (y : S1x8x1024x256.Idx) :
    out0_8 (iblk m c 0 t) (iblk m c 1 t) (iblk m c 2 t) (iblk m c 3 t) (iblk m c 4 t) (iblk m c 5 t) (iblk m c 6 t) y
      = Ref.refK (PK m c) (R m c) (((cfg0.win 8).blk t).view.emb y) := by
  obtain ⟨a, h, i, l, rfl⟩ : ∃ (a : Fin 1) (h : Fin 8) (i : Fin 1024) (l : Fin 256), y = ix4 a h i l := ⟨_, _, _, _, eq_ix4 _⟩
  refine (key_block _ _ _ _ _ _ _ _).trans ?_
  rw [emb8]
  exact (Ref.refK_at _ _ h (fun d => prodK_block m c t i d) (R m c) (key_row m c t i) l).symm

theorem final8 : (dats m 0 c).arrAt 8 cfg0.N = Ref.refK (PK m c) (R m c) := by
  refine (dats m 0 c).arrAt_eq_of_covers 8 _ (by decide +kernel) fun t hf y => ?_
  blk_simp
  rw [after0_8]
  exact point8 m c t y

theorem point9 (t : Fin cfg0.N) (y : S1x8x1024x128.Idx) :
    out0_9 (iblk m c 0 t) (iblk m c 1 t) (iblk m c 2 t) (iblk m c 3 t) (iblk m c 4 t) (iblk m c 5 t) (iblk m c 6 t) y
      = Ref.refV (PK m c) (((cfg0.win 9).blk t).view.emb y) := by
  obtain ⟨a, h, i, l, rfl⟩ : ∃ (a : Fin 1) (h : Fin 8) (i : Fin 1024) (l : Fin 128), y = ix4 a h i l := ⟨_, _, _, _, eq_ix4 _⟩
  refine (value_block _ _ _ _ _ _ _ _).trans ?_
  rw [emb9]
  exact (Ref.refV_at _ _ h (fun d => prodK_block m c t i d) l).symm

theorem final9 : (dats m 0 c).arrAt 9 cfg0.N = Ref.refV (PK m c) := by
  refine (dats m 0 c).arrAt_eq_of_covers 9 _ (by decide +kernel) fun t hf y => ?_
  blk_simp
  rw [after0_9]
  exact point9 m c t y

/-- The latent up-projection's claim. -/
theorem algebraic : Cert.algebraic_Kernel5Ideal_Reference5Ideal := by
  intro m g m' g' _ hm
  refine ⟨fun c => Ref.refQ (PQ m c) (T m c), fun c => Ref.refK (PK m c) (R m c), fun c => Ref.refV (PK m c), ?_, ?_⟩
  · refine (θ_run _ _ _).mono (fun r h c => ?_) (Cert.Kernel5Ideal.Value.run_blocks m g)
    obtain ⟨h7, h8, h9, ha⟩ := h c
    exact ⟨h7.trans (final7 m c), h8.trans (final8 m c), h9.trans (final9 m c), ha⟩
  · refine (θ_run _ _ _).mono (fun r h c => ?_) (Cert.Reference5Ideal.Value.run (F := Ideal) m' g')
    obtain ⟨h0, h1, h2, h3, h4, h5⟩ := hm c
    obtain ⟨r0, r1, r2, ra⟩ := h c
    simp only [PQ, PK, R, T, ← h0, ← h1, ← h2, ← h3, ← h4, ← h5]
    exact ⟨r0, r1, r2, ra⟩

end Cert.Proof.Up

end
-- ==== Proof.lean ====
/- The certificate's claims. Each program's run is the generated one; each value claim is the kernel's result array
   (each part's `Final` or `Value`) against the reference's result term. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite_scores
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import Idealize.ShloMosaic.Adequacy
public import Idealize.ShloMosaic.Init
public import proofs.«01_k».proof.Proof.Mlp.Value
public import proofs.«01_k».proof.Proof.Outproj.Value
public import proofs.«01_k».proof.Proof.Attn.Final
public import proofs.«01_k».proof.Proof.Inproj.Final
public import proofs.«01_k».proof.Proof.Up.Final
public import Idealize.ShloMosaic.Lib.Claim

@[expose] public section

noncomputable section

namespace Cert.Proof

open Idealize.ShloMosaic Idealize.SL.Sem

theorem frame_Kernel : Cert.quiescent_Kernel := fun m g _ => Cert.Kernel.Gen.frame m g

theorem frame_KernelIdeal : Cert.quiescent_KernelIdeal := fun m g _ => Cert.KernelIdeal.Gen.frame m g

theorem frame_ReferenceIdeal : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run (F := Ideal) m g)

theorem frame_Kernel2 : Cert.quiescent_Kernel2 := fun m g _ => Cert.Kernel2.Gen.frame m g

theorem frame_Kernel2Ideal : Cert.quiescent_Kernel2Ideal := fun m g _ => Cert.Kernel2Ideal.Gen.frame m g

theorem frame_Reference2Ideal : Cert.quiescent_Reference2Ideal := fun m g _ =>
  (θ_run Cert.Reference2Ideal.defs _ _).mono
    (fun r h => ⟨fun c => (h c).2, sem_eq_zero_of_no_sems (by decide) r.2⟩)
    (Cert.Reference2Ideal.Value.run (F := Ideal) m g)

theorem frame_Kernel3 : Cert.quiescent_Kernel3 := fun m g _ => Cert.Kernel3.Gen.frame m g

theorem frame_Kernel3Ideal : Cert.quiescent_Kernel3Ideal := fun m g _ => Cert.Kernel3Ideal.Gen.frame m g

theorem frame_Reference3Ideal : Cert.quiescent_Reference3Ideal := fun m g _ =>
  (θ_run Cert.Reference3Ideal.defs _ _).mono
    (fun r h => ⟨fun c => (h c).2, sem_eq_zero_of_no_sems (by decide) r.2⟩)
    (Cert.Reference3Ideal.Value.run (F := Ideal) m g)

theorem frame_KernelIdeal_pre : Cert.quiescent_KernelIdeal_pre_finite_scores := fun m g _ => Cert.KernelIdeal.Gen.frame m g

theorem frame_ReferenceIdeal_pre : Cert.quiescent_ReferenceIdeal_pre_finite_scores := fun m g _ =>
  frame_ReferenceIdeal m g trivial

theorem frame_Kernel4 : Cert.quiescent_Kernel4 := fun m g _ => Cert.Kernel4.Gen.frame m g

theorem frame_Kernel4Ideal : Cert.quiescent_Kernel4Ideal := fun m g _ => Cert.Kernel4Ideal.Gen.frame m g

theorem frame_Reference4Ideal : Cert.quiescent_Reference4Ideal := fun m g _ =>
  (θ_run Cert.Reference4Ideal.defs _ _).mono
    (fun r h => ⟨fun c => (h c).2.2.2.2.2.2.2.2, sem_eq_zero_of_no_sems (by decide) r.2⟩)
    (Cert.Reference4Ideal.Value.run (F := Ideal) m g)

theorem frame_Kernel5 : Cert.quiescent_Kernel5 := fun m g _ => Cert.Kernel5.Gen.frame m g

theorem frame_Kernel5Ideal : Cert.quiescent_Kernel5Ideal := fun m g _ => Cert.Kernel5Ideal.Gen.frame m g

theorem frame_Reference5Ideal : Cert.quiescent_Reference5Ideal := fun m g _ =>
  (θ_run Cert.Reference5Ideal.defs _ _).mono
    (fun r h => ⟨fun c => (h c).2.2.2, sem_eq_zero_of_no_sems (by decide) r.2⟩)
    (Cert.Reference5Ideal.Value.run (F := Ideal) m g)

theorem frame_Kernel6 : Cert.quiescent_Kernel6 := fun m g _ => Cert.Kernel6.Gen.frame m g

theorem frame_Kernel6Ideal : Cert.quiescent_Kernel6Ideal := fun m g _ => Cert.Kernel6Ideal.Gen.frame m g

theorem preserves_mask : Cert.preserves_Kernel_KernelIdeal :=
  IdealRules.named_const.statement Cert.KernelIdeal.κ "mask" .f32 0xF149F2CA#32 ⊥ rfl

theorem algebraic_mlp : Cert.algebraic_Kernel2Ideal_Reference2Ideal := by
  intro m g m' g' _ hm
  refine ⟨fun c => Mlp.refAt m c, ?_, ?_⟩
  · run_from Cert.Kernel2Ideal.Gen.run_main m g
    exact Mlp.final m c
  · run_from Cert.Reference2Ideal.Value.run (F := Ideal) m' g'
    obtain ⟨h0, h1, h2, h3, h4⟩ := hm c
    rw [Mlp.res_eq, h0, h1, h2, h3, h4]

theorem algebraic_outproj : Cert.algebraic_Kernel3Ideal_Reference3Ideal := by
  pair_intro
  · run_from Cert.Kernel3Ideal.Gen.run_main m g
  · run_from Cert.Reference3Ideal.Value.run (F := Ideal) m' g'
    exact (Outproj.final m c).symm

theorem algebraic_attn : Cert.algebraic_KernelIdeal_ReferenceIdeal_pre_finite_scores := Attn.algebraic

theorem algebraic_inproj : Cert.algebraic_Kernel4Ideal_Reference4Ideal := Inproj.algebraic

theorem algebraic_up : Cert.algebraic_Kernel5Ideal_Reference5Ideal := Up.algebraic

theorem preserves_dilated_mask : Cert.preserves_Kernel6_Kernel6Ideal :=
  IdealRules.named_const.statement Cert.Kernel6Ideal.κ "mask" .f32 0xF149F2CA#32 ⊥ rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Pre_finite_scores.Gen.facts,
    frame_Kernel, frame_KernelIdeal, frame_KernelIdeal_pre, frame_ReferenceIdeal, frame_ReferenceIdeal_pre, frame_Kernel2, frame_Kernel2Ideal, frame_Reference2Ideal, frame_Kernel3, frame_Kernel3Ideal, frame_Reference3Ideal, frame_Kernel4, frame_Kernel4Ideal, frame_Reference4Ideal, frame_Kernel5, frame_Kernel5Ideal, frame_Reference5Ideal, frame_Kernel6, frame_Kernel6Ideal, preserves_mask, algebraic_attn, trivial, algebraic_mlp, trivial, algebraic_outproj, trivial, algebraic_inproj, trivial, algebraic_up, preserves_dilated_mask⟩

end Cert.Proof

end
